-- ==== Defs.lean ====
def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_finite_gqa [hPre_finite_gqa : Cert.Pre_finite_gqa.Facts] (m : (ℓ : Loc Cert.GqaIdeal.nD Cert.GqaIdeal.τ Cert.GqaIdeal.sig) → Buf (Elt Ideal) ℓ) : Prop :=
  ∀ c : Dev Cert.GqaIdeal.nD,
    (Cert.Pre_finite_gqa.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2))) = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_finite_gqa [hPre_finite_gqa : Cert.Pre_finite_gqa.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_finite_gqa.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2))) = (fun _ => 1#1)

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite_mla [hPre_finite_mla : Cert.Pre_finite_mla.Facts] (m : (ℓ : Loc Cert.MlaIdeal.nD Cert.MlaIdeal.τ Cert.MlaIdeal.sig) → Buf (Elt Ideal) ℓ) : Prop :=
  ∀ c : Dev Cert.MlaIdeal.nD,
    (Cert.Pre_finite_mla.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_finite_mla [hPre_finite_mla : Cert.Pre_finite_mla.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_finite_mla.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2))) = (fun _ => 1#1)

def Pre_FfnUp0 (m : (ℓ : Loc Cert.FfnUp0.nD Cert.FfnUp0.τ Cert.FfnUp0.sig) → Buf (Elt Bits) ℓ) : Prop :=
  True

def Pre_FfnUp0Ideal (m : (ℓ : Loc Cert.FfnUp0Ideal.nD Cert.FfnUp0Ideal.τ Cert.FfnUp0Ideal.sig) → Buf (Elt Ideal) ℓ) : Prop :=
  True

def Pre_FfnUp0RefIdeal (m : (ℓ : Loc Cert.FfnUp0RefIdeal.nD Cert.FfnUp0RefIdeal.τ Cert.FfnUp0RefIdeal.sig) → Buf (Elt Ideal) ℓ) : Prop :=
  True

def Pre_FfnUp1 (m : (ℓ : Loc Cert.FfnUp1.nD Cert.FfnUp1.τ Cert.FfnUp1.sig) → Buf (Elt Bits) ℓ) : Prop :=
  True

def Pre_FfnUp1Ideal (m : (ℓ : Loc Cert.FfnUp1Ideal.nD Cert.FfnUp1Ideal.τ Cert.FfnUp1Ideal.sig) → Buf (Elt Ideal) ℓ) : Prop :=
  True

def Pre_FfnUp1RefIdeal (m : (ℓ : Loc Cert.FfnUp1RefIdeal.nD Cert.FfnUp1RefIdeal.τ Cert.FfnUp1RefIdeal.sig) → Buf (Elt Ideal) ℓ) : Prop :=
  True

def Pre_RecIn (m : (ℓ : Loc Cert.RecIn.nD Cert.RecIn.τ Cert.RecIn.sig) → Buf (Elt Bits) ℓ) : Prop :=
  True

def Pre_RecInIdeal (m : (ℓ : Loc Cert.RecInIdeal.nD Cert.RecInIdeal.τ Cert.RecInIdeal.sig) → Buf (Elt Ideal) ℓ) : Prop :=
  True

def Pre_RecInRefIdeal (m : (ℓ : Loc Cert.RecInRefIdeal.nD Cert.RecInRefIdeal.τ Cert.RecInRefIdeal.sig) → Buf (Elt Ideal) ℓ) : Prop :=
  True

def Pre_MixOut0 (m : (ℓ : Loc Cert.MixOut0.nD Cert.MixOut0.τ Cert.MixOut0.sig) → Buf (Elt Bits) ℓ) : Prop :=
  True

def Pre_MixOut0Ideal (m : (ℓ : Loc Cert.MixOut0Ideal.nD Cert.MixOut0Ideal.τ Cert.MixOut0Ideal.sig) → Buf (Elt Ideal) ℓ) : Prop :=
  True

def Pre_MixOut0RefIdeal (m : (ℓ : Loc Cert.MixOut0RefIdeal.nD Cert.MixOut0RefIdeal.τ Cert.MixOut0RefIdeal.sig) → Buf (Elt Ideal) ℓ) : Prop :=
  True

def Pre_FfnDown0 (m : (ℓ : Loc Cert.FfnDown0.nD Cert.FfnDown0.τ Cert.FfnDown0.sig) → Buf (Elt Bits) ℓ) : Prop :=
  True

def Pre_FfnDown0Ideal (m : (ℓ : Loc Cert.FfnDown0Ideal.nD Cert.FfnDown0Ideal.τ Cert.FfnDown0Ideal.sig) → Buf (Elt Ideal) ℓ) : Prop :=
  True

def Pre_FfnDown0RefIdeal (m : (ℓ : Loc Cert.FfnDown0RefIdeal.nD Cert.FfnDown0RefIdeal.τ Cert.FfnDown0RefIdeal.sig) → Buf (Elt Ideal) ℓ) : Prop :=
  True

def Pre_MixOut1 (m : (ℓ : Loc Cert.MixOut1.nD Cert.MixOut1.τ Cert.MixOut1.sig) → Buf (Elt Bits) ℓ) : Prop :=
  True

def Pre_MixOut1Ideal (m : (ℓ : Loc Cert.MixOut1Ideal.nD Cert.MixOut1Ideal.τ Cert.MixOut1Ideal.sig) → Buf (Elt Ideal) ℓ) : Prop :=
  True

def Pre_MixOut1RefIdeal (m : (ℓ : Loc Cert.MixOut1RefIdeal.nD Cert.MixOut1RefIdeal.τ Cert.MixOut1RefIdeal.sig) → Buf (Elt Ideal) ℓ) : Prop :=
  True

def Pre_FfnDown1 (m : (ℓ : Loc Cert.FfnDown1.nD Cert.FfnDown1.τ Cert.FfnDown1.sig) → Buf (Elt Bits) ℓ) : Prop :=
  True

def Pre_FfnDown1Ideal (m : (ℓ : Loc Cert.FfnDown1Ideal.nD Cert.FfnDown1Ideal.τ Cert.FfnDown1Ideal.sig) → Buf (Elt Ideal) ℓ) : Prop :=
  True

def Pre_FfnDown1RefIdeal (m : (ℓ : Loc Cert.FfnDown1RefIdeal.nD Cert.FfnDown1RefIdeal.τ Cert.FfnDown1RefIdeal.sig) → Buf (Elt Ideal) ℓ) : Prop :=
  True

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ r.2.sem = fun _ => 0)

def quiescent_GqaIdeal_pre_finite_gqa [hGqaIdeal : Cert.GqaIdeal.Facts] [hPre_finite_gqa : Cert.Pre_finite_gqa.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_finite_gqa m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0)

def quiescent_GqaRefIdeal_pre_finite_gqa [hGqaRefIdeal : Cert.GqaRefIdeal.Facts] [hPre_finite_gqa : Cert.Pre_finite_gqa.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_finite_gqa m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaIdeal_pre_finite_mla [hMlaIdeal : Cert.MlaIdeal.Facts] [hPre_finite_mla : Cert.Pre_finite_mla.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite_mla m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_MlaRefIdeal_pre_finite_mla [hMlaRefIdeal : Cert.MlaRefIdeal.Facts] [hPre_finite_mla : Cert.Pre_finite_mla.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_finite_mla m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_FfnUp0 [hFfnUp0 : Cert.FfnUp0.Facts] : Prop :=
  ∀ (m : (ℓ : Loc Cert.FfnUp0.nD Cert.FfnUp0.τ Cert.FfnUp0.sig) → Buf (Elt Bits) ℓ) (g : Dev Cert.FfnUp0.nD → PrngReg), Pre_FfnUp0 m →
    θ_run (Cert.FfnUp0.defs (F := Bits)) (onTc (τ := Cert.FfnUp0.τ) (Cert.FfnUp0.main (F := Bits))) ⟨m, fun _ => 0, g⟩ (fun r => (∀ c : Dev Cert.FfnUp0.nD,
      r.2.mem ((c.tc : Thread Cert.FfnUp0.nD Cert.FfnUp0.τ).loc Cert.FfnUp0.main_arg0) = m ((c.tc : Thread Cert.FfnUp0.nD Cert.FfnUp0.τ).loc Cert.FfnUp0.main_arg0)
      ∧ r.2.mem ((c.tc : Thread Cert.FfnUp0.nD Cert.FfnUp0.τ).loc Cert.FfnUp0.main_arg1) = m ((c.tc : Thread Cert.FfnUp0.nD Cert.FfnUp0.τ).loc Cert.FfnUp0.main_arg1)
      ∧ r.2.mem ((c.tc : Thread Cert.FfnUp0.nD Cert.FfnUp0.τ).loc Cert.FfnUp0.main_arg2) = m ((c.tc : Thread Cert.FfnUp0.nD Cert.FfnUp0.τ).loc Cert.FfnUp0.main_arg2))
      ∧ r.2.sem = fun _ => 0)

def quiescent_FfnUp0Ideal [hFfnUp0Ideal : Cert.FfnUp0Ideal.Facts] : Prop :=
  ∀ (m : (ℓ : Loc Cert.FfnUp0Ideal.nD Cert.FfnUp0Ideal.τ Cert.FfnUp0Ideal.sig) → Buf (Elt Ideal) ℓ) (g : Dev Cert.FfnUp0Ideal.nD → PrngReg), Pre_FfnUp0Ideal m →
    θ_run (Cert.FfnUp0Ideal.defs (F := Ideal)) (onTc (τ := Cert.FfnUp0Ideal.τ) (Cert.FfnUp0Ideal.main (F := Ideal))) ⟨m, fun _ => 0, g⟩ (fun r => (∀ c : Dev Cert.FfnUp0Ideal.nD,
      r.2.mem ((c.tc : Thread Cert.FfnUp0Ideal.nD Cert.FfnUp0Ideal.τ).loc Cert.FfnUp0Ideal.main_arg0) = m ((c.tc : Thread Cert.FfnUp0Ideal.nD Cert.FfnUp0Ideal.τ).loc Cert.FfnUp0Ideal.main_arg0)
      ∧ r.2.mem ((c.tc : Thread Cert.FfnUp0Ideal.nD Cert.FfnUp0Ideal.τ).loc Cert.FfnUp0Ideal.main_arg1) = m ((c.tc : Thread Cert.FfnUp0Ideal.nD Cert.FfnUp0Ideal.τ).loc Cert.FfnUp0Ideal.main_arg1)
      ∧ r.2.mem ((c.tc : Thread Cert.FfnUp0Ideal.nD Cert.FfnUp0Ideal.τ).loc Cert.FfnUp0Ideal.main_arg2) = m ((c.tc : Thread Cert.FfnUp0Ideal.nD Cert.FfnUp0Ideal.τ).loc Cert.FfnUp0Ideal.main_arg2))
      ∧ r.2.sem = fun _ => 0)

def quiescent_FfnUp0RefIdeal [hFfnUp0RefIdeal : Cert.FfnUp0RefIdeal.Facts] : Prop :=
  ∀ (m : (ℓ : Loc Cert.FfnUp0RefIdeal.nD Cert.FfnUp0RefIdeal.τ Cert.FfnUp0RefIdeal.sig) → Buf (Elt Ideal) ℓ) (g : Dev Cert.FfnUp0RefIdeal.nD → PrngReg), Pre_FfnUp0RefIdeal m →
    θ_run (Cert.FfnUp0RefIdeal.defs (F := Ideal)) (onTc (τ := Cert.FfnUp0RefIdeal.τ) (Cert.FfnUp0RefIdeal.main (F := Ideal))) ⟨m, fun _ => 0, g⟩ (fun r => (∀ c : Dev Cert.FfnUp0RefIdeal.nD,
      r.2.mem ((c.tc : Thread Cert.FfnUp0RefIdeal.nD Cert.FfnUp0RefIdeal.τ).loc Cert.FfnUp0RefIdeal.main_arg0) = m ((c.tc : Thread Cert.FfnUp0RefIdeal.nD Cert.FfnUp0RefIdeal.τ).loc Cert.FfnUp0RefIdeal.main_arg0)
      ∧ r.2.mem ((c.tc : Thread Cert.FfnUp0RefIdeal.nD Cert.FfnUp0RefIdeal.τ).loc Cert.FfnUp0RefIdeal.main_arg1) = m ((c.tc : Thread Cert.FfnUp0RefIdeal.nD Cert.FfnUp0RefIdeal.τ).loc Cert.FfnUp0RefIdeal.main_arg1)
      ∧ r.2.mem ((c.tc : Thread Cert.FfnUp0RefIdeal.nD Cert.FfnUp0RefIdeal.τ).loc Cert.FfnUp0RefIdeal.main_arg2) = m ((c.tc : Thread Cert.FfnUp0RefIdeal.nD Cert.FfnUp0RefIdeal.τ).loc Cert.FfnUp0RefIdeal.main_arg2))
      ∧ r.2.sem = fun _ => 0)

def quiescent_FfnUp1 [hFfnUp1 : Cert.FfnUp1.Facts] : Prop :=
  ∀ (m : (ℓ : Loc Cert.FfnUp1.nD Cert.FfnUp1.τ Cert.FfnUp1.sig) → Buf (Elt Bits) ℓ) (g : Dev Cert.FfnUp1.nD → PrngReg), Pre_FfnUp1 m →
    θ_run (Cert.FfnUp1.defs (F := Bits)) (onTc (τ := Cert.FfnUp1.τ) (Cert.FfnUp1.main (F := Bits))) ⟨m, fun _ => 0, g⟩ (fun r => (∀ c : Dev Cert.FfnUp1.nD,
      r.2.mem ((c.tc : Thread Cert.FfnUp1.nD Cert.FfnUp1.τ).loc Cert.FfnUp1.main_arg0) = m ((c.tc : Thread Cert.FfnUp1.nD Cert.FfnUp1.τ).loc Cert.FfnUp1.main_arg0)
      ∧ r.2.mem ((c.tc : Thread Cert.FfnUp1.nD Cert.FfnUp1.τ).loc Cert.FfnUp1.main_arg1) = m ((c.tc : Thread Cert.FfnUp1.nD Cert.FfnUp1.τ).loc Cert.FfnUp1.main_arg1)
      ∧ r.2.mem ((c.tc : Thread Cert.FfnUp1.nD Cert.FfnUp1.τ).loc Cert.FfnUp1.main_arg2) = m ((c.tc : Thread Cert.FfnUp1.nD Cert.FfnUp1.τ).loc Cert.FfnUp1.main_arg2))
      ∧ r.2.sem = fun _ => 0)

def quiescent_FfnUp1Ideal [hFfnUp1Ideal : Cert.FfnUp1Ideal.Facts] : Prop :=
  ∀ (m : (ℓ : Loc Cert.FfnUp1Ideal.nD Cert.FfnUp1Ideal.τ Cert.FfnUp1Ideal.sig) → Buf (Elt Ideal) ℓ) (g : Dev Cert.FfnUp1Ideal.nD → PrngReg), Pre_FfnUp1Ideal m →
    θ_run (Cert.FfnUp1Ideal.defs (F := Ideal)) (onTc (τ := Cert.FfnUp1Ideal.τ) (Cert.FfnUp1Ideal.main (F := Ideal))) ⟨m, fun _ => 0, g⟩ (fun r => (∀ c : Dev Cert.FfnUp1Ideal.nD,
      r.2.mem ((c.tc : Thread Cert.FfnUp1Ideal.nD Cert.FfnUp1Ideal.τ).loc Cert.FfnUp1Ideal.main_arg0) = m ((c.tc : Thread Cert.FfnUp1Ideal.nD Cert.FfnUp1Ideal.τ).loc Cert.FfnUp1Ideal.main_arg0)
      ∧ r.2.mem ((c.tc : Thread Cert.FfnUp1Ideal.nD Cert.FfnUp1Ideal.τ).loc Cert.FfnUp1Ideal.main_arg1) = m ((c.tc : Thread Cert.FfnUp1Ideal.nD Cert.FfnUp1Ideal.τ).loc Cert.FfnUp1Ideal.main_arg1)
      ∧ r.2.mem ((c.tc : Thread Cert.FfnUp1Ideal.nD Cert.FfnUp1Ideal.τ).loc Cert.FfnUp1Ideal.main_arg2) = m ((c.tc : Thread Cert.FfnUp1Ideal.nD Cert.FfnUp1Ideal.τ).loc Cert.FfnUp1Ideal.main_arg2))
      ∧ r.2.sem = fun _ => 0)

def quiescent_FfnUp1RefIdeal [hFfnUp1RefIdeal : Cert.FfnUp1RefIdeal.Facts] : Prop :=
  ∀ (m : (ℓ : Loc Cert.FfnUp1RefIdeal.nD Cert.FfnUp1RefIdeal.τ Cert.FfnUp1RefIdeal.sig) → Buf (Elt Ideal) ℓ) (g : Dev Cert.FfnUp1RefIdeal.nD → PrngReg), Pre_FfnUp1RefIdeal m →
    θ_run (Cert.FfnUp1RefIdeal.defs (F := Ideal)) (onTc (τ := Cert.FfnUp1RefIdeal.τ) (Cert.FfnUp1RefIdeal.main (F := Ideal))) ⟨m, fun _ => 0, g⟩ (fun r => (∀ c : Dev Cert.FfnUp1RefIdeal.nD,
      r.2.mem ((c.tc : Thread Cert.FfnUp1RefIdeal.nD Cert.FfnUp1RefIdeal.τ).loc Cert.FfnUp1RefIdeal.main_arg0) = m ((c.tc : Thread Cert.FfnUp1RefIdeal.nD Cert.FfnUp1RefIdeal.τ).loc Cert.FfnUp1RefIdeal.main_arg0)
      ∧ r.2.mem ((c.tc : Thread Cert.FfnUp1RefIdeal.nD Cert.FfnUp1RefIdeal.τ).loc Cert.FfnUp1RefIdeal.main_arg1) = m ((c.tc : Thread Cert.FfnUp1RefIdeal.nD Cert.FfnUp1RefIdeal.τ).loc Cert.FfnUp1RefIdeal.main_arg1)
      ∧ r.2.mem ((c.tc : Thread Cert.FfnUp1RefIdeal.nD Cert.FfnUp1RefIdeal.τ).loc Cert.FfnUp1RefIdeal.main_arg2) = m ((c.tc : Thread Cert.FfnUp1RefIdeal.nD Cert.FfnUp1RefIdeal.τ).loc Cert.FfnUp1RefIdeal.main_arg2))
      ∧ r.2.sem = fun _ => 0)

def quiescent_RecIn [hRecIn : Cert.RecIn.Facts] : Prop :=
  ∀ (m : (ℓ : Loc Cert.RecIn.nD Cert.RecIn.τ Cert.RecIn.sig) → Buf (Elt Bits) ℓ) (g : Dev Cert.RecIn.nD → PrngReg), Pre_RecIn m →
    θ_run (Cert.RecIn.defs (F := Bits)) (onTc (τ := Cert.RecIn.τ) (Cert.RecIn.main (F := Bits))) ⟨m, fun _ => 0, g⟩ (fun r => (∀ c : Dev Cert.RecIn.nD,
      r.2.mem ((c.tc : Thread Cert.RecIn.nD Cert.RecIn.τ).loc Cert.RecIn.main_arg0) = m ((c.tc : Thread Cert.RecIn.nD Cert.RecIn.τ).loc Cert.RecIn.main_arg0)
      ∧ r.2.mem ((c.tc : Thread Cert.RecIn.nD Cert.RecIn.τ).loc Cert.RecIn.main_arg1) = m ((c.tc : Thread Cert.RecIn.nD Cert.RecIn.τ).loc Cert.RecIn.main_arg1))
      ∧ r.2.sem = fun _ => 0)

def quiescent_RecInIdeal [hRecInIdeal : Cert.RecInIdeal.Facts] : Prop :=
  ∀ (m : (ℓ : Loc Cert.RecInIdeal.nD Cert.RecInIdeal.τ Cert.RecInIdeal.sig) → Buf (Elt Ideal) ℓ) (g : Dev Cert.RecInIdeal.nD → PrngReg), Pre_RecInIdeal m →
    θ_run (Cert.RecInIdeal.defs (F := Ideal)) (onTc (τ := Cert.RecInIdeal.τ) (Cert.RecInIdeal.main (F := Ideal))) ⟨m, fun _ => 0, g⟩ (fun r => (∀ c : Dev Cert.RecInIdeal.nD,
      r.2.mem ((c.tc : Thread Cert.RecInIdeal.nD Cert.RecInIdeal.τ).loc Cert.RecInIdeal.main_arg0) = m ((c.tc : Thread Cert.RecInIdeal.nD Cert.RecInIdeal.τ).loc Cert.RecInIdeal.main_arg0)
      ∧ r.2.mem ((c.tc : Thread Cert.RecInIdeal.nD Cert.RecInIdeal.τ).loc Cert.RecInIdeal.main_arg1) = m ((c.tc : Thread Cert.RecInIdeal.nD Cert.RecInIdeal.τ).loc Cert.RecInIdeal.main_arg1))
      ∧ r.2.sem = fun _ => 0)

def quiescent_RecInRefIdeal [hRecInRefIdeal : Cert.RecInRefIdeal.Facts] : Prop :=
  ∀ (m : (ℓ : Loc Cert.RecInRefIdeal.nD Cert.RecInRefIdeal.τ Cert.RecInRefIdeal.sig) → Buf (Elt Ideal) ℓ) (g : Dev Cert.RecInRefIdeal.nD → PrngReg), Pre_RecInRefIdeal m →
    θ_run (Cert.RecInRefIdeal.defs (F := Ideal)) (onTc (τ := Cert.RecInRefIdeal.τ) (Cert.RecInRefIdeal.main (F := Ideal))) ⟨m, fun _ => 0, g⟩ (fun r => (∀ c : Dev Cert.RecInRefIdeal.nD,
      r.2.mem ((c.tc : Thread Cert.RecInRefIdeal.nD Cert.RecInRefIdeal.τ).loc Cert.RecInRefIdeal.main_arg0) = m ((c.tc : Thread Cert.RecInRefIdeal.nD Cert.RecInRefIdeal.τ).loc Cert.RecInRefIdeal.main_arg0)
      ∧ r.2.mem ((c.tc : Thread Cert.RecInRefIdeal.nD Cert.RecInRefIdeal.τ).loc Cert.RecInRefIdeal.main_arg1) = m ((c.tc : Thread Cert.RecInRefIdeal.nD Cert.RecInRefIdeal.τ).loc Cert.RecInRefIdeal.main_arg1))
      ∧ r.2.sem = fun _ => 0)

def quiescent_MixOut0 [hMixOut0 : Cert.MixOut0.Facts] : Prop :=
  ∀ (m : (ℓ : Loc Cert.MixOut0.nD Cert.MixOut0.τ Cert.MixOut0.sig) → Buf (Elt Bits) ℓ) (g : Dev Cert.MixOut0.nD → PrngReg), Pre_MixOut0 m →
    θ_run (Cert.MixOut0.defs (F := Bits)) (onTc (τ := Cert.MixOut0.τ) (Cert.MixOut0.main (F := Bits))) ⟨m, fun _ => 0, g⟩ (fun r => (∀ c : Dev Cert.MixOut0.nD,
      r.2.mem ((c.tc : Thread Cert.MixOut0.nD Cert.MixOut0.τ).loc Cert.MixOut0.main_arg0) = m ((c.tc : Thread Cert.MixOut0.nD Cert.MixOut0.τ).loc Cert.MixOut0.main_arg0)
      ∧ r.2.mem ((c.tc : Thread Cert.MixOut0.nD Cert.MixOut0.τ).loc Cert.MixOut0.main_arg1) = m ((c.tc : Thread Cert.MixOut0.nD Cert.MixOut0.τ).loc Cert.MixOut0.main_arg1)
      ∧ r.2.mem ((c.tc : Thread Cert.MixOut0.nD Cert.MixOut0.τ).loc Cert.MixOut0.main_arg2) = m ((c.tc : Thread Cert.MixOut0.nD Cert.MixOut0.τ).loc Cert.MixOut0.main_arg2)
      ∧ r.2.mem ((c.tc : Thread Cert.MixOut0.nD Cert.MixOut0.τ).loc Cert.MixOut0.main_arg3) = m ((c.tc : Thread Cert.MixOut0.nD Cert.MixOut0.τ).loc Cert.MixOut0.main_arg3)
      ∧ r.2.mem ((c.tc : Thread Cert.MixOut0.nD Cert.MixOut0.τ).loc Cert.MixOut0.main_arg4) = m ((c.tc : Thread Cert.MixOut0.nD Cert.MixOut0.τ).loc Cert.MixOut0.main_arg4)
      ∧ r.2.mem ((c.tc : Thread Cert.MixOut0.nD Cert.MixOut0.τ).loc Cert.MixOut0.main_arg5) = m ((c.tc : Thread Cert.MixOut0.nD Cert.MixOut0.τ).loc Cert.MixOut0.main_arg5)
      ∧ r.2.mem ((c.tc : Thread Cert.MixOut0.nD Cert.MixOut0.τ).loc Cert.MixOut0.main_arg6) = m ((c.tc : Thread Cert.MixOut0.nD Cert.MixOut0.τ).loc Cert.MixOut0.main_arg6))
      ∧ r.2.sem = fun _ => 0)

def quiescent_MixOut0Ideal [hMixOut0Ideal : Cert.MixOut0Ideal.Facts] : Prop :=
  ∀ (m : (ℓ : Loc Cert.MixOut0Ideal.nD Cert.MixOut0Ideal.τ Cert.MixOut0Ideal.sig) → Buf (Elt Ideal) ℓ) (g : Dev Cert.MixOut0Ideal.nD → PrngReg), Pre_MixOut0Ideal m →
    θ_run (Cert.MixOut0Ideal.defs (F := Ideal)) (onTc (τ := Cert.MixOut0Ideal.τ) (Cert.MixOut0Ideal.main (F := Ideal))) ⟨m, fun _ => 0, g⟩ (fun r => (∀ c : Dev Cert.MixOut0Ideal.nD,
      r.2.mem ((c.tc : Thread Cert.MixOut0Ideal.nD Cert.MixOut0Ideal.τ).loc Cert.MixOut0Ideal.main_arg0) = m ((c.tc : Thread Cert.MixOut0Ideal.nD Cert.MixOut0Ideal.τ).loc Cert.MixOut0Ideal.main_arg0)
      ∧ r.2.mem ((c.tc : Thread Cert.MixOut0Ideal.nD Cert.MixOut0Ideal.τ).loc Cert.MixOut0Ideal.main_arg1) = m ((c.tc : Thread Cert.MixOut0Ideal.nD Cert.MixOut0Ideal.τ).loc Cert.MixOut0Ideal.main_arg1)
      ∧ r.2.mem ((c.tc : Thread Cert.MixOut0Ideal.nD Cert.MixOut0Ideal.τ).loc Cert.MixOut0Ideal.main_arg2) = m ((c.tc : Thread Cert.MixOut0Ideal.nD Cert.MixOut0Ideal.τ).loc Cert.MixOut0Ideal.main_arg2)
      ∧ r.2.mem ((c.tc : Thread Cert.MixOut0Ideal.nD Cert.MixOut0Ideal.τ).loc Cert.MixOut0Ideal.main_arg3) = m ((c.tc : Thread Cert.MixOut0Ideal.nD Cert.MixOut0Ideal.τ).loc Cert.MixOut0Ideal.main_arg3)
      ∧ r.2.mem ((c.tc : Thread Cert.MixOut0Ideal.nD Cert.MixOut0Ideal.τ).loc Cert.MixOut0Ideal.main_arg4) = m ((c.tc : Thread Cert.MixOut0Ideal.nD Cert.MixOut0Ideal.τ).loc Cert.MixOut0Ideal.main_arg4)
      ∧ r.2.mem ((c.tc : Thread Cert.MixOut0Ideal.nD Cert.MixOut0Ideal.τ).loc Cert.MixOut0Ideal.main_arg5) = m ((c.tc : Thread Cert.MixOut0Ideal.nD Cert.MixOut0Ideal.τ).loc Cert.MixOut0Ideal.main_arg5)
      ∧ r.2.mem ((c.tc : Thread Cert.MixOut0Ideal.nD Cert.MixOut0Ideal.τ).loc Cert.MixOut0Ideal.main_arg6) = m ((c.tc : Thread Cert.MixOut0Ideal.nD Cert.MixOut0Ideal.τ).loc Cert.MixOut0Ideal.main_arg6))
      ∧ r.2.sem = fun _ => 0)

def quiescent_MixOut0RefIdeal [hMixOut0RefIdeal : Cert.MixOut0RefIdeal.Facts] : Prop :=
  ∀ (m : (ℓ : Loc Cert.MixOut0RefIdeal.nD Cert.MixOut0RefIdeal.τ Cert.MixOut0RefIdeal.sig) → Buf (Elt Ideal) ℓ) (g : Dev Cert.MixOut0RefIdeal.nD → PrngReg), Pre_MixOut0RefIdeal m →
    θ_run (Cert.MixOut0RefIdeal.defs (F := Ideal)) (onTc (τ := Cert.MixOut0RefIdeal.τ) (Cert.MixOut0RefIdeal.main (F := Ideal))) ⟨m, fun _ => 0, g⟩ (fun r => (∀ c : Dev Cert.MixOut0RefIdeal.nD,
      r.2.mem ((c.tc : Thread Cert.MixOut0RefIdeal.nD Cert.MixOut0RefIdeal.τ).loc Cert.MixOut0RefIdeal.main_arg0) = m ((c.tc : Thread Cert.MixOut0RefIdeal.nD Cert.MixOut0RefIdeal.τ).loc Cert.MixOut0RefIdeal.main_arg0)
      ∧ r.2.mem ((c.tc : Thread Cert.MixOut0RefIdeal.nD Cert.MixOut0RefIdeal.τ).loc Cert.MixOut0RefIdeal.main_arg1) = m ((c.tc : Thread Cert.MixOut0RefIdeal.nD Cert.MixOut0RefIdeal.τ).loc Cert.MixOut0RefIdeal.main_arg1)
      ∧ r.2.mem ((c.tc : Thread Cert.MixOut0RefIdeal.nD Cert.MixOut0RefIdeal.τ).loc Cert.MixOut0RefIdeal.main_arg2) = m ((c.tc : Thread Cert.MixOut0RefIdeal.nD Cert.MixOut0RefIdeal.τ).loc Cert.MixOut0RefIdeal.main_arg2)
      ∧ r.2.mem ((c.tc : Thread Cert.MixOut0RefIdeal.nD Cert.MixOut0RefIdeal.τ).loc Cert.MixOut0RefIdeal.main_arg3) = m ((c.tc : Thread Cert.MixOut0RefIdeal.nD Cert.MixOut0RefIdeal.τ).loc Cert.MixOut0RefIdeal.main_arg3)
      ∧ r.2.mem ((c.tc : Thread Cert.MixOut0RefIdeal.nD Cert.MixOut0RefIdeal.τ).loc Cert.MixOut0RefIdeal.main_arg4) = m ((c.tc : Thread Cert.MixOut0RefIdeal.nD Cert.MixOut0RefIdeal.τ).loc Cert.MixOut0RefIdeal.main_arg4)
      ∧ r.2.mem ((c.tc : Thread Cert.MixOut0RefIdeal.nD Cert.MixOut0RefIdeal.τ).loc Cert.MixOut0RefIdeal.main_arg5) = m ((c.tc : Thread Cert.MixOut0RefIdeal.nD Cert.MixOut0RefIdeal.τ).loc Cert.MixOut0RefIdeal.main_arg5)
      ∧ r.2.mem ((c.tc : Thread Cert.MixOut0RefIdeal.nD Cert.MixOut0RefIdeal.τ).loc Cert.MixOut0RefIdeal.main_arg6) = m ((c.tc : Thread Cert.MixOut0RefIdeal.nD Cert.MixOut0RefIdeal.τ).loc Cert.MixOut0RefIdeal.main_arg6))
      ∧ r.2.sem = fun _ => 0)

def quiescent_FfnDown0 [hFfnDown0 : Cert.FfnDown0.Facts] : Prop :=
  ∀ (m : (ℓ : Loc Cert.FfnDown0.nD Cert.FfnDown0.τ Cert.FfnDown0.sig) → Buf (Elt Bits) ℓ) (g : Dev Cert.FfnDown0.nD → PrngReg), Pre_FfnDown0 m →
    θ_run (Cert.FfnDown0.defs (F := Bits)) (onTc (τ := Cert.FfnDown0.τ) (Cert.FfnDown0.main (F := Bits))) ⟨m, fun _ => 0, g⟩ (fun r => (∀ c : Dev Cert.FfnDown0.nD,
      r.2.mem ((c.tc : Thread Cert.FfnDown0.nD Cert.FfnDown0.τ).loc Cert.FfnDown0.main_arg0) = m ((c.tc : Thread Cert.FfnDown0.nD Cert.FfnDown0.τ).loc Cert.FfnDown0.main_arg0)
      ∧ r.2.mem ((c.tc : Thread Cert.FfnDown0.nD Cert.FfnDown0.τ).loc Cert.FfnDown0.main_arg1) = m ((c.tc : Thread Cert.FfnDown0.nD Cert.FfnDown0.τ).loc Cert.FfnDown0.main_arg1)
      ∧ r.2.mem ((c.tc : Thread Cert.FfnDown0.nD Cert.FfnDown0.τ).loc Cert.FfnDown0.main_arg2) = m ((c.tc : Thread Cert.FfnDown0.nD Cert.FfnDown0.τ).loc Cert.FfnDown0.main_arg2)
      ∧ r.2.mem ((c.tc : Thread Cert.FfnDown0.nD Cert.FfnDown0.τ).loc Cert.FfnDown0.main_arg3) = m ((c.tc : Thread Cert.FfnDown0.nD Cert.FfnDown0.τ).loc Cert.FfnDown0.main_arg3)
      ∧ r.2.mem ((c.tc : Thread Cert.FfnDown0.nD Cert.FfnDown0.τ).loc Cert.FfnDown0.main_arg4) = m ((c.tc : Thread Cert.FfnDown0.nD Cert.FfnDown0.τ).loc Cert.FfnDown0.main_arg4))
      ∧ r.2.sem = fun _ => 0)

def quiescent_FfnDown0Ideal [hFfnDown0Ideal : Cert.FfnDown0Ideal.Facts] : Prop :=
  ∀ (m : (ℓ : Loc Cert.FfnDown0Ideal.nD Cert.FfnDown0Ideal.τ Cert.FfnDown0Ideal.sig) → Buf (Elt Ideal) ℓ) (g : Dev Cert.FfnDown0Ideal.nD → PrngReg), Pre_FfnDown0Ideal m →
    θ_run (Cert.FfnDown0Ideal.defs (F := Ideal)) (onTc (τ := Cert.FfnDown0Ideal.τ) (Cert.FfnDown0Ideal.main (F := Ideal))) ⟨m, fun _ => 0, g⟩ (fun r => (∀ c : Dev Cert.FfnDown0Ideal.nD,
      r.2.mem ((c.tc : Thread Cert.FfnDown0Ideal.nD Cert.FfnDown0Ideal.τ).loc Cert.FfnDown0Ideal.main_arg0) = m ((c.tc : Thread Cert.FfnDown0Ideal.nD Cert.FfnDown0Ideal.τ).loc Cert.FfnDown0Ideal.main_arg0)
      ∧ r.2.mem ((c.tc : Thread Cert.FfnDown0Ideal.nD Cert.FfnDown0Ideal.τ).loc Cert.FfnDown0Ideal.main_arg1) = m ((c.tc : Thread Cert.FfnDown0Ideal.nD Cert.FfnDown0Ideal.τ).loc Cert.FfnDown0Ideal.main_arg1)
      ∧ r.2.mem ((c.tc : Thread Cert.FfnDown0Ideal.nD Cert.FfnDown0Ideal.τ).loc Cert.FfnDown0Ideal.main_arg2) = m ((c.tc : Thread Cert.FfnDown0Ideal.nD Cert.FfnDown0Ideal.τ).loc Cert.FfnDown0Ideal.main_arg2)
      ∧ r.2.mem ((c.tc : Thread Cert.FfnDown0Ideal.nD Cert.FfnDown0Ideal.τ).loc Cert.FfnDown0Ideal.main_arg3) = m ((c.tc : Thread Cert.FfnDown0Ideal.nD Cert.FfnDown0Ideal.τ).loc Cert.FfnDown0Ideal.main_arg3)
      ∧ r.2.mem ((c.tc : Thread Cert.FfnDown0Ideal.nD Cert.FfnDown0Ideal.τ).loc Cert.FfnDown0Ideal.main_arg4) = m ((c.tc : Thread Cert.FfnDown0Ideal.nD Cert.FfnDown0Ideal.τ).loc Cert.FfnDown0Ideal.main_arg4))
      ∧ r.2.sem = fun _ => 0)

def quiescent_FfnDown0RefIdeal [hFfnDown0RefIdeal : Cert.FfnDown0RefIdeal.Facts] : Prop :=
  ∀ (m : (ℓ : Loc Cert.FfnDown0RefIdeal.nD Cert.FfnDown0RefIdeal.τ Cert.FfnDown0RefIdeal.sig) → Buf (Elt Ideal) ℓ) (g : Dev Cert.FfnDown0RefIdeal.nD → PrngReg), Pre_FfnDown0RefIdeal m →
    θ_run (Cert.FfnDown0RefIdeal.defs (F := Ideal)) (onTc (τ := Cert.FfnDown0RefIdeal.τ) (Cert.FfnDown0RefIdeal.main (F := Ideal))) ⟨m, fun _ => 0, g⟩ (fun r => (∀ c : Dev Cert.FfnDown0RefIdeal.nD,
      r.2.mem ((c.tc : Thread Cert.FfnDown0RefIdeal.nD Cert.FfnDown0RefIdeal.τ).loc Cert.FfnDown0RefIdeal.main_arg0) = m ((c.tc : Thread Cert.FfnDown0RefIdeal.nD Cert.FfnDown0RefIdeal.τ).loc Cert.FfnDown0RefIdeal.main_arg0)
      ∧ r.2.mem ((c.tc : Thread Cert.FfnDown0RefIdeal.nD Cert.FfnDown0RefIdeal.τ).loc Cert.FfnDown0RefIdeal.main_arg1) = m ((c.tc : Thread Cert.FfnDown0RefIdeal.nD Cert.FfnDown0RefIdeal.τ).loc Cert.FfnDown0RefIdeal.main_arg1)
      ∧ r.2.mem ((c.tc : Thread Cert.FfnDown0RefIdeal.nD Cert.FfnDown0RefIdeal.τ).loc Cert.FfnDown0RefIdeal.main_arg2) = m ((c.tc : Thread Cert.FfnDown0RefIdeal.nD Cert.FfnDown0RefIdeal.τ).loc Cert.FfnDown0RefIdeal.main_arg2)
      ∧ r.2.mem ((c.tc : Thread Cert.FfnDown0RefIdeal.nD Cert.FfnDown0RefIdeal.τ).loc Cert.FfnDown0RefIdeal.main_arg3) = m ((c.tc : Thread Cert.FfnDown0RefIdeal.nD Cert.FfnDown0RefIdeal.τ).loc Cert.FfnDown0RefIdeal.main_arg3)
      ∧ r.2.mem ((c.tc : Thread Cert.FfnDown0RefIdeal.nD Cert.FfnDown0RefIdeal.τ).loc Cert.FfnDown0RefIdeal.main_arg4) = m ((c.tc : Thread Cert.FfnDown0RefIdeal.nD Cert.FfnDown0RefIdeal.τ).loc Cert.FfnDown0RefIdeal.main_arg4))
      ∧ r.2.sem = fun _ => 0)

def quiescent_MixOut1 [hMixOut1 : Cert.MixOut1.Facts] : Prop :=
  ∀ (m : (ℓ : Loc Cert.MixOut1.nD Cert.MixOut1.τ Cert.MixOut1.sig) → Buf (Elt Bits) ℓ) (g : Dev Cert.MixOut1.nD → PrngReg), Pre_MixOut1 m →
    θ_run (Cert.MixOut1.defs (F := Bits)) (onTc (τ := Cert.MixOut1.τ) (Cert.MixOut1.main (F := Bits))) ⟨m, fun _ => 0, g⟩ (fun r => (∀ c : Dev Cert.MixOut1.nD,
      r.2.mem ((c.tc : Thread Cert.MixOut1.nD Cert.MixOut1.τ).loc Cert.MixOut1.main_arg0) = m ((c.tc : Thread Cert.MixOut1.nD Cert.MixOut1.τ).loc Cert.MixOut1.main_arg0)
      ∧ r.2.mem ((c.tc : Thread Cert.MixOut1.nD Cert.MixOut1.τ).loc Cert.MixOut1.main_arg1) = m ((c.tc : Thread Cert.MixOut1.nD Cert.MixOut1.τ).loc Cert.MixOut1.main_arg1)
      ∧ r.2.mem ((c.tc : Thread Cert.MixOut1.nD Cert.MixOut1.τ).loc Cert.MixOut1.main_arg2) = m ((c.tc : Thread Cert.MixOut1.nD Cert.MixOut1.τ).loc Cert.MixOut1.main_arg2)
      ∧ r.2.mem ((c.tc : Thread Cert.MixOut1.nD Cert.MixOut1.τ).loc Cert.MixOut1.main_arg3) = m ((c.tc : Thread Cert.MixOut1.nD Cert.MixOut1.τ).loc Cert.MixOut1.main_arg3)
      ∧ r.2.mem ((c.tc : Thread Cert.MixOut1.nD Cert.MixOut1.τ).loc Cert.MixOut1.main_arg4) = m ((c.tc : Thread Cert.MixOut1.nD Cert.MixOut1.τ).loc Cert.MixOut1.main_arg4)
      ∧ r.2.mem ((c.tc : Thread Cert.MixOut1.nD Cert.MixOut1.τ).loc Cert.MixOut1.main_arg5) = m ((c.tc : Thread Cert.MixOut1.nD Cert.MixOut1.τ).loc Cert.MixOut1.main_arg5))
      ∧ r.2.sem = fun _ => 0)

def quiescent_MixOut1Ideal [hMixOut1Ideal : Cert.MixOut1Ideal.Facts] : Prop :=
  ∀ (m : (ℓ : Loc Cert.MixOut1Ideal.nD Cert.MixOut1Ideal.τ Cert.MixOut1Ideal.sig) → Buf (Elt Ideal) ℓ) (g : Dev Cert.MixOut1Ideal.nD → PrngReg), Pre_MixOut1Ideal m →
    θ_run (Cert.MixOut1Ideal.defs (F := Ideal)) (onTc (τ := Cert.MixOut1Ideal.τ) (Cert.MixOut1Ideal.main (F := Ideal))) ⟨m, fun _ => 0, g⟩ (fun r => (∀ c : Dev Cert.MixOut1Ideal.nD,
      r.2.mem ((c.tc : Thread Cert.MixOut1Ideal.nD Cert.MixOut1Ideal.τ).loc Cert.MixOut1Ideal.main_arg0) = m ((c.tc : Thread Cert.MixOut1Ideal.nD Cert.MixOut1Ideal.τ).loc Cert.MixOut1Ideal.main_arg0)
      ∧ r.2.mem ((c.tc : Thread Cert.MixOut1Ideal.nD Cert.MixOut1Ideal.τ).loc Cert.MixOut1Ideal.main_arg1) = m ((c.tc : Thread Cert.MixOut1Ideal.nD Cert.MixOut1Ideal.τ).loc Cert.MixOut1Ideal.main_arg1)
      ∧ r.2.mem ((c.tc : Thread Cert.MixOut1Ideal.nD Cert.MixOut1Ideal.τ).loc Cert.MixOut1Ideal.main_arg2) = m ((c.tc : Thread Cert.MixOut1Ideal.nD Cert.MixOut1Ideal.τ).loc Cert.MixOut1Ideal.main_arg2)
      ∧ r.2.mem ((c.tc : Thread Cert.MixOut1Ideal.nD Cert.MixOut1Ideal.τ).loc Cert.MixOut1Ideal.main_arg3) = m ((c.tc : Thread Cert.MixOut1Ideal.nD Cert.MixOut1Ideal.τ).loc Cert.MixOut1Ideal.main_arg3)
      ∧ r.2.mem ((c.tc : Thread Cert.MixOut1Ideal.nD Cert.MixOut1Ideal.τ).loc Cert.MixOut1Ideal.main_arg4) = m ((c.tc : Thread Cert.MixOut1Ideal.nD Cert.MixOut1Ideal.τ).loc Cert.MixOut1Ideal.main_arg4)
      ∧ r.2.mem ((c.tc : Thread Cert.MixOut1Ideal.nD Cert.MixOut1Ideal.τ).loc Cert.MixOut1Ideal.main_arg5) = m ((c.tc : Thread Cert.MixOut1Ideal.nD Cert.MixOut1Ideal.τ).loc Cert.MixOut1Ideal.main_arg5))
      ∧ r.2.sem = fun _ => 0)

def quiescent_MixOut1RefIdeal [hMixOut1RefIdeal : Cert.MixOut1RefIdeal.Facts] : Prop :=
  ∀ (m : (ℓ : Loc Cert.MixOut1RefIdeal.nD Cert.MixOut1RefIdeal.τ Cert.MixOut1RefIdeal.sig) → Buf (Elt Ideal) ℓ) (g : Dev Cert.MixOut1RefIdeal.nD → PrngReg), Pre_MixOut1RefIdeal m →
    θ_run (Cert.MixOut1RefIdeal.defs (F := Ideal)) (onTc (τ := Cert.MixOut1RefIdeal.τ) (Cert.MixOut1RefIdeal.main (F := Ideal))) ⟨m, fun _ => 0, g⟩ (fun r => (∀ c : Dev Cert.MixOut1RefIdeal.nD,
      r.2.mem ((c.tc : Thread Cert.MixOut1RefIdeal.nD Cert.MixOut1RefIdeal.τ).loc Cert.MixOut1RefIdeal.main_arg0) = m ((c.tc : Thread Cert.MixOut1RefIdeal.nD Cert.MixOut1RefIdeal.τ).loc Cert.MixOut1RefIdeal.main_arg0)
      ∧ r.2.mem ((c.tc : Thread Cert.MixOut1RefIdeal.nD Cert.MixOut1RefIdeal.τ).loc Cert.MixOut1RefIdeal.main_arg1) = m ((c.tc : Thread Cert.MixOut1RefIdeal.nD Cert.MixOut1RefIdeal.τ).loc Cert.MixOut1RefIdeal.main_arg1)
      ∧ r.2.mem ((c.tc : Thread Cert.MixOut1RefIdeal.nD Cert.MixOut1RefIdeal.τ).loc Cert.MixOut1RefIdeal.main_arg2) = m ((c.tc : Thread Cert.MixOut1RefIdeal.nD Cert.MixOut1RefIdeal.τ).loc Cert.MixOut1RefIdeal.main_arg2)
      ∧ r.2.mem ((c.tc : Thread Cert.MixOut1RefIdeal.nD Cert.MixOut1RefIdeal.τ).loc Cert.MixOut1RefIdeal.main_arg3) = m ((c.tc : Thread Cert.MixOut1RefIdeal.nD Cert.MixOut1RefIdeal.τ).loc Cert.MixOut1RefIdeal.main_arg3)
      ∧ r.2.mem ((c.tc : Thread Cert.MixOut1RefIdeal.nD Cert.MixOut1RefIdeal.τ).loc Cert.MixOut1RefIdeal.main_arg4) = m ((c.tc : Thread Cert.MixOut1RefIdeal.nD Cert.MixOut1RefIdeal.τ).loc Cert.MixOut1RefIdeal.main_arg4)
      ∧ r.2.mem ((c.tc : Thread Cert.MixOut1RefIdeal.nD Cert.MixOut1RefIdeal.τ).loc Cert.MixOut1RefIdeal.main_arg5) = m ((c.tc : Thread Cert.MixOut1RefIdeal.nD Cert.MixOut1RefIdeal.τ).loc Cert.MixOut1RefIdeal.main_arg5))
      ∧ r.2.sem = fun _ => 0)

def quiescent_FfnDown1 [hFfnDown1 : Cert.FfnDown1.Facts] : Prop :=
  ∀ (m : (ℓ : Loc Cert.FfnDown1.nD Cert.FfnDown1.τ Cert.FfnDown1.sig) → Buf (Elt Bits) ℓ) (g : Dev Cert.FfnDown1.nD → PrngReg), Pre_FfnDown1 m →
    θ_run (Cert.FfnDown1.defs (F := Bits)) (onTc (τ := Cert.FfnDown1.τ) (Cert.FfnDown1.main (F := Bits))) ⟨m, fun _ => 0, g⟩ (fun r => (∀ c : Dev Cert.FfnDown1.nD,
      r.2.mem ((c.tc : Thread Cert.FfnDown1.nD Cert.FfnDown1.τ).loc Cert.FfnDown1.main_arg0) = m ((c.tc : Thread Cert.FfnDown1.nD Cert.FfnDown1.τ).loc Cert.FfnDown1.main_arg0)
      ∧ r.2.mem ((c.tc : Thread Cert.FfnDown1.nD Cert.FfnDown1.τ).loc Cert.FfnDown1.main_arg1) = m ((c.tc : Thread Cert.FfnDown1.nD Cert.FfnDown1.τ).loc Cert.FfnDown1.main_arg1)
      ∧ r.2.mem ((c.tc : Thread Cert.FfnDown1.nD Cert.FfnDown1.τ).loc Cert.FfnDown1.main_arg2) = m ((c.tc : Thread Cert.FfnDown1.nD Cert.FfnDown1.τ).loc Cert.FfnDown1.main_arg2)
      ∧ r.2.mem ((c.tc : Thread Cert.FfnDown1.nD Cert.FfnDown1.τ).loc Cert.FfnDown1.main_arg3) = m ((c.tc : Thread Cert.FfnDown1.nD Cert.FfnDown1.τ).loc Cert.FfnDown1.main_arg3)
      ∧ r.2.mem ((c.tc : Thread Cert.FfnDown1.nD Cert.FfnDown1.τ).loc Cert.FfnDown1.main_arg4) = m ((c.tc : Thread Cert.FfnDown1.nD Cert.FfnDown1.τ).loc Cert.FfnDown1.main_arg4))
      ∧ r.2.sem = fun _ => 0)

def quiescent_FfnDown1Ideal [hFfnDown1Ideal : Cert.FfnDown1Ideal.Facts] : Prop :=
  ∀ (m : (ℓ : Loc Cert.FfnDown1Ideal.nD Cert.FfnDown1Ideal.τ Cert.FfnDown1Ideal.sig) → Buf (Elt Ideal) ℓ) (g : Dev Cert.FfnDown1Ideal.nD → PrngReg), Pre_FfnDown1Ideal m →
    θ_run (Cert.FfnDown1Ideal.defs (F := Ideal)) (onTc (τ := Cert.FfnDown1Ideal.τ) (Cert.FfnDown1Ideal.main (F := Ideal))) ⟨m, fun _ => 0, g⟩ (fun r => (∀ c : Dev Cert.FfnDown1Ideal.nD,
      r.2.mem ((c.tc : Thread Cert.FfnDown1Ideal.nD Cert.FfnDown1Ideal.τ).loc Cert.FfnDown1Ideal.main_arg0) = m ((c.tc : Thread Cert.FfnDown1Ideal.nD Cert.FfnDown1Ideal.τ).loc Cert.FfnDown1Ideal.main_arg0)
      ∧ r.2.mem ((c.tc : Thread Cert.FfnDown1Ideal.nD Cert.FfnDown1Ideal.τ).loc Cert.FfnDown1Ideal.main_arg1) = m ((c.tc : Thread Cert.FfnDown1Ideal.nD Cert.FfnDown1Ideal.τ).loc Cert.FfnDown1Ideal.main_arg1)
      ∧ r.2.mem ((c.tc : Thread Cert.FfnDown1Ideal.nD Cert.FfnDown1Ideal.τ).loc Cert.FfnDown1Ideal.main_arg2) = m ((c.tc : Thread Cert.FfnDown1Ideal.nD Cert.FfnDown1Ideal.τ).loc Cert.FfnDown1Ideal.main_arg2)
      ∧ r.2.mem ((c.tc : Thread Cert.FfnDown1Ideal.nD Cert.FfnDown1Ideal.τ).loc Cert.FfnDown1Ideal.main_arg3) = m ((c.tc : Thread Cert.FfnDown1Ideal.nD Cert.FfnDown1Ideal.τ).loc Cert.FfnDown1Ideal.main_arg3)
      ∧ r.2.mem ((c.tc : Thread Cert.FfnDown1Ideal.nD Cert.FfnDown1Ideal.τ).loc Cert.FfnDown1Ideal.main_arg4) = m ((c.tc : Thread Cert.FfnDown1Ideal.nD Cert.FfnDown1Ideal.τ).loc Cert.FfnDown1Ideal.main_arg4))
      ∧ r.2.sem = fun _ => 0)

def quiescent_FfnDown1RefIdeal [hFfnDown1RefIdeal : Cert.FfnDown1RefIdeal.Facts] : Prop :=
  ∀ (m : (ℓ : Loc Cert.FfnDown1RefIdeal.nD Cert.FfnDown1RefIdeal.τ Cert.FfnDown1RefIdeal.sig) → Buf (Elt Ideal) ℓ) (g : Dev Cert.FfnDown1RefIdeal.nD → PrngReg), Pre_FfnDown1RefIdeal m →
    θ_run (Cert.FfnDown1RefIdeal.defs (F := Ideal)) (onTc (τ := Cert.FfnDown1RefIdeal.τ) (Cert.FfnDown1RefIdeal.main (F := Ideal))) ⟨m, fun _ => 0, g⟩ (fun r => (∀ c : Dev Cert.FfnDown1RefIdeal.nD,
      r.2.mem ((c.tc : Thread Cert.FfnDown1RefIdeal.nD Cert.FfnDown1RefIdeal.τ).loc Cert.FfnDown1RefIdeal.main_arg0) = m ((c.tc : Thread Cert.FfnDown1RefIdeal.nD Cert.FfnDown1RefIdeal.τ).loc Cert.FfnDown1RefIdeal.main_arg0)
      ∧ r.2.mem ((c.tc : Thread Cert.FfnDown1RefIdeal.nD Cert.FfnDown1RefIdeal.τ).loc Cert.FfnDown1RefIdeal.main_arg1) = m ((c.tc : Thread Cert.FfnDown1RefIdeal.nD Cert.FfnDown1RefIdeal.τ).loc Cert.FfnDown1RefIdeal.main_arg1)
      ∧ r.2.mem ((c.tc : Thread Cert.FfnDown1RefIdeal.nD Cert.FfnDown1RefIdeal.τ).loc Cert.FfnDown1RefIdeal.main_arg2) = m ((c.tc : Thread Cert.FfnDown1RefIdeal.nD Cert.FfnDown1RefIdeal.τ).loc Cert.FfnDown1RefIdeal.main_arg2)
      ∧ r.2.mem ((c.tc : Thread Cert.FfnDown1RefIdeal.nD Cert.FfnDown1RefIdeal.τ).loc Cert.FfnDown1RefIdeal.main_arg3) = m ((c.tc : Thread Cert.FfnDown1RefIdeal.nD Cert.FfnDown1RefIdeal.τ).loc Cert.FfnDown1RefIdeal.main_arg3)
      ∧ r.2.mem ((c.tc : Thread Cert.FfnDown1RefIdeal.nD Cert.FfnDown1RefIdeal.τ).loc Cert.FfnDown1RefIdeal.main_arg4) = m ((c.tc : Thread Cert.FfnDown1RefIdeal.nD Cert.FfnDown1RefIdeal.τ).loc Cert.FfnDown1RefIdeal.main_arg4))
      ∧ r.2.sem = fun _ => 0)

def preserves_Gqa_GqaIdeal : Prop :=
  True

def algebraic_GqaIdeal_GqaRefIdeal_pre_finite_gqa [hGqaIdeal : Cert.GqaIdeal.Facts] [hGqaRefIdeal : Cert.GqaRefIdeal.Facts] [hPre_finite_gqa : Cert.Pre_finite_gqa.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_finite_gqa m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)
      ∧ m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2)) →
    ∃ (v0 : (c : Dev Cert.GqaIdeal.nD) → Buf (Elt Ideal) ((c.tc : Thread Cert.GqaIdeal.nD Cert.GqaIdeal.τ).loc Cert.GqaIdeal.main_v14)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v14) = v0 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v42) = v0 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1)
          ∧ r.2.mem ((c.tc : Thread Cert.GqaRefIdeal.nD Cert.GqaRefIdeal.τ).loc Cert.GqaRefIdeal.main_arg2) = m' ((c.tc : Thread Cert.GqaRefIdeal.nD Cert.GqaRefIdeal.τ).loc Cert.GqaRefIdeal.main_arg2))

def preserves_Mla_MlaIdeal : Prop :=
  True

def algebraic_MlaIdeal_MlaRefIdeal_pre_finite_mla [hMlaIdeal : Cert.MlaIdeal.Facts] [hMlaRefIdeal : Cert.MlaRefIdeal.Facts] [hPre_finite_mla : Cert.Pre_finite_mla.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_finite_mla m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)) →
    ∃ (v0 : (c : Dev Cert.MlaIdeal.nD) → Buf (Elt Ideal) ((c.tc : Thread Cert.MlaIdeal.nD Cert.MlaIdeal.τ).loc Cert.MlaIdeal.main_v16)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v16) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v42) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2))

def preserves_FfnUp0_FfnUp0Ideal : Prop :=
  True

def algebraic_FfnUp0Ideal_FfnUp0RefIdeal [hFfnUp0Ideal : Cert.FfnUp0Ideal.Facts] [hFfnUp0RefIdeal : Cert.FfnUp0RefIdeal.Facts] : Prop :=
  ∀ (m : (ℓ : Loc Cert.FfnUp0Ideal.nD Cert.FfnUp0Ideal.τ Cert.FfnUp0Ideal.sig) → Buf (Elt Ideal) ℓ) (g : Dev Cert.FfnUp0Ideal.nD → PrngReg)
    (m' : (ℓ : Loc Cert.FfnUp0RefIdeal.nD Cert.FfnUp0RefIdeal.τ Cert.FfnUp0RefIdeal.sig) → Buf (Elt Ideal) ℓ) (g' : Dev Cert.FfnUp0RefIdeal.nD → PrngReg), Pre_FfnUp0Ideal m →
    (∀ c : Dev Cert.FfnUp0Ideal.nD,
      m' ((c.tc : Thread Cert.FfnUp0RefIdeal.nD Cert.FfnUp0RefIdeal.τ).loc Cert.FfnUp0RefIdeal.main_arg0) = m ((c.tc : Thread Cert.FfnUp0Ideal.nD Cert.FfnUp0Ideal.τ).loc Cert.FfnUp0Ideal.main_arg0)
      ∧ m' ((c.tc : Thread Cert.FfnUp0RefIdeal.nD Cert.FfnUp0RefIdeal.τ).loc Cert.FfnUp0RefIdeal.main_arg1) = m ((c.tc : Thread Cert.FfnUp0Ideal.nD Cert.FfnUp0Ideal.τ).loc Cert.FfnUp0Ideal.main_arg1)
      ∧ m' ((c.tc : Thread Cert.FfnUp0RefIdeal.nD Cert.FfnUp0RefIdeal.τ).loc Cert.FfnUp0RefIdeal.main_arg2) = m ((c.tc : Thread Cert.FfnUp0Ideal.nD Cert.FfnUp0Ideal.τ).loc Cert.FfnUp0Ideal.main_arg2)) →
    ∃ (v0 : (c : Dev Cert.FfnUp0Ideal.nD) → Buf (Elt Ideal) ((c.tc : Thread Cert.FfnUp0Ideal.nD Cert.FfnUp0Ideal.τ).loc Cert.FfnUp0Ideal.main_v0)),
      θ_run (Cert.FfnUp0Ideal.defs (F := Ideal)) (onTc (τ := Cert.FfnUp0Ideal.τ) (Cert.FfnUp0Ideal.main (F := Ideal))) ⟨m, fun _ => 0, g⟩ (fun r => ∀ c : Dev Cert.FfnUp0Ideal.nD,
          r.2.mem ((c.tc : Thread Cert.FfnUp0Ideal.nD Cert.FfnUp0Ideal.τ).loc Cert.FfnUp0Ideal.main_v0) = v0 c
          ∧ r.2.mem ((c.tc : Thread Cert.FfnUp0Ideal.nD Cert.FfnUp0Ideal.τ).loc Cert.FfnUp0Ideal.main_arg0) = m ((c.tc : Thread Cert.FfnUp0Ideal.nD Cert.FfnUp0Ideal.τ).loc Cert.FfnUp0Ideal.main_arg0)
          ∧ r.2.mem ((c.tc : Thread Cert.FfnUp0Ideal.nD Cert.FfnUp0Ideal.τ).loc Cert.FfnUp0Ideal.main_arg1) = m ((c.tc : Thread Cert.FfnUp0Ideal.nD Cert.FfnUp0Ideal.τ).loc Cert.FfnUp0Ideal.main_arg1)
          ∧ r.2.mem ((c.tc : Thread Cert.FfnUp0Ideal.nD Cert.FfnUp0Ideal.τ).loc Cert.FfnUp0Ideal.main_arg2) = m ((c.tc : Thread Cert.FfnUp0Ideal.nD Cert.FfnUp0Ideal.τ).loc Cert.FfnUp0Ideal.main_arg2))
      ∧ θ_run (Cert.FfnUp0RefIdeal.defs (F := Ideal)) (onTc (τ := Cert.FfnUp0RefIdeal.τ) (Cert.FfnUp0RefIdeal.main (F := Ideal))) ⟨m', fun _ => 0, g'⟩ (fun r => ∀ c : Dev Cert.FfnUp0RefIdeal.nD,
          r.2.mem ((c.tc : Thread Cert.FfnUp0RefIdeal.nD Cert.FfnUp0RefIdeal.τ).loc Cert.FfnUp0RefIdeal.main_v9) = v0 c
          ∧ r.2.mem ((c.tc : Thread Cert.FfnUp0RefIdeal.nD Cert.FfnUp0RefIdeal.τ).loc Cert.FfnUp0RefIdeal.main_arg0) = m' ((c.tc : Thread Cert.FfnUp0RefIdeal.nD Cert.FfnUp0RefIdeal.τ).loc Cert.FfnUp0RefIdeal.main_arg0)
          ∧ r.2.mem ((c.tc : Thread Cert.FfnUp0RefIdeal.nD Cert.FfnUp0RefIdeal.τ).loc Cert.FfnUp0RefIdeal.main_arg1) = m' ((c.tc : Thread Cert.FfnUp0RefIdeal.nD Cert.FfnUp0RefIdeal.τ).loc Cert.FfnUp0RefIdeal.main_arg1)
          ∧ r.2.mem ((c.tc : Thread Cert.FfnUp0RefIdeal.nD Cert.FfnUp0RefIdeal.τ).loc Cert.FfnUp0RefIdeal.main_arg2) = m' ((c.tc : Thread Cert.FfnUp0RefIdeal.nD Cert.FfnUp0RefIdeal.τ).loc Cert.FfnUp0RefIdeal.main_arg2))

def preserves_FfnUp1_FfnUp1Ideal : Prop :=
  True

def algebraic_FfnUp1Ideal_FfnUp1RefIdeal [hFfnUp1Ideal : Cert.FfnUp1Ideal.Facts] [hFfnUp1RefIdeal : Cert.FfnUp1RefIdeal.Facts] : Prop :=
  ∀ (m : (ℓ : Loc Cert.FfnUp1Ideal.nD Cert.FfnUp1Ideal.τ Cert.FfnUp1Ideal.sig) → Buf (Elt Ideal) ℓ) (g : Dev Cert.FfnUp1Ideal.nD → PrngReg)
    (m' : (ℓ : Loc Cert.FfnUp1RefIdeal.nD Cert.FfnUp1RefIdeal.τ Cert.FfnUp1RefIdeal.sig) → Buf (Elt Ideal) ℓ) (g' : Dev Cert.FfnUp1RefIdeal.nD → PrngReg), Pre_FfnUp1Ideal m →
    (∀ c : Dev Cert.FfnUp1Ideal.nD,
      m' ((c.tc : Thread Cert.FfnUp1RefIdeal.nD Cert.FfnUp1RefIdeal.τ).loc Cert.FfnUp1RefIdeal.main_arg0) = m ((c.tc : Thread Cert.FfnUp1Ideal.nD Cert.FfnUp1Ideal.τ).loc Cert.FfnUp1Ideal.main_arg0)
      ∧ m' ((c.tc : Thread Cert.FfnUp1RefIdeal.nD Cert.FfnUp1RefIdeal.τ).loc Cert.FfnUp1RefIdeal.main_arg1) = m ((c.tc : Thread Cert.FfnUp1Ideal.nD Cert.FfnUp1Ideal.τ).loc Cert.FfnUp1Ideal.main_arg1)
      ∧ m' ((c.tc : Thread Cert.FfnUp1RefIdeal.nD Cert.FfnUp1RefIdeal.τ).loc Cert.FfnUp1RefIdeal.main_arg2) = m ((c.tc : Thread Cert.FfnUp1Ideal.nD Cert.FfnUp1Ideal.τ).loc Cert.FfnUp1Ideal.main_arg2)) →
    ∃ (v0 : (c : Dev Cert.FfnUp1Ideal.nD) → Buf (Elt Ideal) ((c.tc : Thread Cert.FfnUp1Ideal.nD Cert.FfnUp1Ideal.τ).loc Cert.FfnUp1Ideal.main_v0)),
      θ_run (Cert.FfnUp1Ideal.defs (F := Ideal)) (onTc (τ := Cert.FfnUp1Ideal.τ) (Cert.FfnUp1Ideal.main (F := Ideal))) ⟨m, fun _ => 0, g⟩ (fun r => ∀ c : Dev Cert.FfnUp1Ideal.nD,
          r.2.mem ((c.tc : Thread Cert.FfnUp1Ideal.nD Cert.FfnUp1Ideal.τ).loc Cert.FfnUp1Ideal.main_v0) = v0 c
          ∧ r.2.mem ((c.tc : Thread Cert.FfnUp1Ideal.nD Cert.FfnUp1Ideal.τ).loc Cert.FfnUp1Ideal.main_arg0) = m ((c.tc : Thread Cert.FfnUp1Ideal.nD Cert.FfnUp1Ideal.τ).loc Cert.FfnUp1Ideal.main_arg0)
          ∧ r.2.mem ((c.tc : Thread Cert.FfnUp1Ideal.nD Cert.FfnUp1Ideal.τ).loc Cert.FfnUp1Ideal.main_arg1) = m ((c.tc : Thread Cert.FfnUp1Ideal.nD Cert.FfnUp1Ideal.τ).loc Cert.FfnUp1Ideal.main_arg1)
          ∧ r.2.mem ((c.tc : Thread Cert.FfnUp1Ideal.nD Cert.FfnUp1Ideal.τ).loc Cert.FfnUp1Ideal.main_arg2) = m ((c.tc : Thread Cert.FfnUp1Ideal.nD Cert.FfnUp1Ideal.τ).loc Cert.FfnUp1Ideal.main_arg2))
      ∧ θ_run (Cert.FfnUp1RefIdeal.defs (F := Ideal)) (onTc (τ := Cert.FfnUp1RefIdeal.τ) (Cert.FfnUp1RefIdeal.main (F := Ideal))) ⟨m', fun _ => 0, g'⟩ (fun r => ∀ c : Dev Cert.FfnUp1RefIdeal.nD,
          r.2.mem ((c.tc : Thread Cert.FfnUp1RefIdeal.nD Cert.FfnUp1RefIdeal.τ).loc Cert.FfnUp1RefIdeal.main_v9) = v0 c
          ∧ r.2.mem ((c.tc : Thread Cert.FfnUp1RefIdeal.nD Cert.FfnUp1RefIdeal.τ).loc Cert.FfnUp1RefIdeal.main_arg0) = m' ((c.tc : Thread Cert.FfnUp1RefIdeal.nD Cert.FfnUp1RefIdeal.τ).loc Cert.FfnUp1RefIdeal.main_arg0)
          ∧ r.2.mem ((c.tc : Thread Cert.FfnUp1RefIdeal.nD Cert.FfnUp1RefIdeal.τ).loc Cert.FfnUp1RefIdeal.main_arg1) = m' ((c.tc : Thread Cert.FfnUp1RefIdeal.nD Cert.FfnUp1RefIdeal.τ).loc Cert.FfnUp1RefIdeal.main_arg1)
          ∧ r.2.mem ((c.tc : Thread Cert.FfnUp1RefIdeal.nD Cert.FfnUp1RefIdeal.τ).loc Cert.FfnUp1RefIdeal.main_arg2) = m' ((c.tc : Thread Cert.FfnUp1RefIdeal.nD Cert.FfnUp1RefIdeal.τ).loc Cert.FfnUp1RefIdeal.main_arg2))

def preserves_RecIn_RecInIdeal : Prop :=
  True

def algebraic_RecInIdeal_RecInRefIdeal [hRecInIdeal : Cert.RecInIdeal.Facts] [hRecInRefIdeal : Cert.RecInRefIdeal.Facts] : Prop :=
  ∀ (m : (ℓ : Loc Cert.RecInIdeal.nD Cert.RecInIdeal.τ Cert.RecInIdeal.sig) → Buf (Elt Ideal) ℓ) (g : Dev Cert.RecInIdeal.nD → PrngReg)
    (m' : (ℓ : Loc Cert.RecInRefIdeal.nD Cert.RecInRefIdeal.τ Cert.RecInRefIdeal.sig) → Buf (Elt Ideal) ℓ) (g' : Dev Cert.RecInRefIdeal.nD → PrngReg), Pre_RecInIdeal m →
    (∀ c : Dev Cert.RecInIdeal.nD,
      m' ((c.tc : Thread Cert.RecInRefIdeal.nD Cert.RecInRefIdeal.τ).loc Cert.RecInRefIdeal.main_arg0) = m ((c.tc : Thread Cert.RecInIdeal.nD Cert.RecInIdeal.τ).loc Cert.RecInIdeal.main_arg0)
      ∧ m' ((c.tc : Thread Cert.RecInRefIdeal.nD Cert.RecInRefIdeal.τ).loc Cert.RecInRefIdeal.main_arg1) = m ((c.tc : Thread Cert.RecInIdeal.nD Cert.RecInIdeal.τ).loc Cert.RecInIdeal.main_arg1)) →
    ∃ (v0 : (c : Dev Cert.RecInIdeal.nD) → Buf (Elt Ideal) ((c.tc : Thread Cert.RecInIdeal.nD Cert.RecInIdeal.τ).loc Cert.RecInIdeal.main_v0)),
      θ_run (Cert.RecInIdeal.defs (F := Ideal)) (onTc (τ := Cert.RecInIdeal.τ) (Cert.RecInIdeal.main (F := Ideal))) ⟨m, fun _ => 0, g⟩ (fun r => ∀ c : Dev Cert.RecInIdeal.nD,
          r.2.mem ((c.tc : Thread Cert.RecInIdeal.nD Cert.RecInIdeal.τ).loc Cert.RecInIdeal.main_v0) = v0 c
          ∧ r.2.mem ((c.tc : Thread Cert.RecInIdeal.nD Cert.RecInIdeal.τ).loc Cert.RecInIdeal.main_arg0) = m ((c.tc : Thread Cert.RecInIdeal.nD Cert.RecInIdeal.τ).loc Cert.RecInIdeal.main_arg0)
          ∧ r.2.mem ((c.tc : Thread Cert.RecInIdeal.nD Cert.RecInIdeal.τ).loc Cert.RecInIdeal.main_arg1) = m ((c.tc : Thread Cert.RecInIdeal.nD Cert.RecInIdeal.τ).loc Cert.RecInIdeal.main_arg1))
      ∧ θ_run (Cert.RecInRefIdeal.defs (F := Ideal)) (onTc (τ := Cert.RecInRefIdeal.τ) (Cert.RecInRefIdeal.main (F := Ideal))) ⟨m', fun _ => 0, g'⟩ (fun r => ∀ c : Dev Cert.RecInRefIdeal.nD,
          r.2.mem ((c.tc : Thread Cert.RecInRefIdeal.nD Cert.RecInRefIdeal.τ).loc Cert.RecInRefIdeal.main_v2) = v0 c
          ∧ r.2.mem ((c.tc : Thread Cert.RecInRefIdeal.nD Cert.RecInRefIdeal.τ).loc Cert.RecInRefIdeal.main_arg0) = m' ((c.tc : Thread Cert.RecInRefIdeal.nD Cert.RecInRefIdeal.τ).loc Cert.RecInRefIdeal.main_arg0)
          ∧ r.2.mem ((c.tc : Thread Cert.RecInRefIdeal.nD Cert.RecInRefIdeal.τ).loc Cert.RecInRefIdeal.main_arg1) = m' ((c.tc : Thread Cert.RecInRefIdeal.nD Cert.RecInRefIdeal.τ).loc Cert.RecInRefIdeal.main_arg1))

def preserves_MixOut0_MixOut0Ideal : Prop :=
  True

def algebraic_MixOut0Ideal_MixOut0RefIdeal [hMixOut0Ideal : Cert.MixOut0Ideal.Facts] [hMixOut0RefIdeal : Cert.MixOut0RefIdeal.Facts] : Prop :=
  ∀ (m : (ℓ : Loc Cert.MixOut0Ideal.nD Cert.MixOut0Ideal.τ Cert.MixOut0Ideal.sig) → Buf (Elt Ideal) ℓ) (g : Dev Cert.MixOut0Ideal.nD → PrngReg)
    (m' : (ℓ : Loc Cert.MixOut0RefIdeal.nD Cert.MixOut0RefIdeal.τ Cert.MixOut0RefIdeal.sig) → Buf (Elt Ideal) ℓ) (g' : Dev Cert.MixOut0RefIdeal.nD → PrngReg), Pre_MixOut0Ideal m →
    (∀ c : Dev Cert.MixOut0Ideal.nD,
      m' ((c.tc : Thread Cert.MixOut0RefIdeal.nD Cert.MixOut0RefIdeal.τ).loc Cert.MixOut0RefIdeal.main_arg0) = m ((c.tc : Thread Cert.MixOut0Ideal.nD Cert.MixOut0Ideal.τ).loc Cert.MixOut0Ideal.main_arg0)
      ∧ m' ((c.tc : Thread Cert.MixOut0RefIdeal.nD Cert.MixOut0RefIdeal.τ).loc Cert.MixOut0RefIdeal.main_arg1) = m ((c.tc : Thread Cert.MixOut0Ideal.nD Cert.MixOut0Ideal.τ).loc Cert.MixOut0Ideal.main_arg1)
      ∧ m' ((c.tc : Thread Cert.MixOut0RefIdeal.nD Cert.MixOut0RefIdeal.τ).loc Cert.MixOut0RefIdeal.main_arg2) = m ((c.tc : Thread Cert.MixOut0Ideal.nD Cert.MixOut0Ideal.τ).loc Cert.MixOut0Ideal.main_arg2)
      ∧ m' ((c.tc : Thread Cert.MixOut0RefIdeal.nD Cert.MixOut0RefIdeal.τ).loc Cert.MixOut0RefIdeal.main_arg3) = m ((c.tc : Thread Cert.MixOut0Ideal.nD Cert.MixOut0Ideal.τ).loc Cert.MixOut0Ideal.main_arg3)
      ∧ m' ((c.tc : Thread Cert.MixOut0RefIdeal.nD Cert.MixOut0RefIdeal.τ).loc Cert.MixOut0RefIdeal.main_arg4) = m ((c.tc : Thread Cert.MixOut0Ideal.nD Cert.MixOut0Ideal.τ).loc Cert.MixOut0Ideal.main_arg4)
      ∧ m' ((c.tc : Thread Cert.MixOut0RefIdeal.nD Cert.MixOut0RefIdeal.τ).loc Cert.MixOut0RefIdeal.main_arg5) = m ((c.tc : Thread Cert.MixOut0Ideal.nD Cert.MixOut0Ideal.τ).loc Cert.MixOut0Ideal.main_arg5)
      ∧ m' ((c.tc : Thread Cert.MixOut0RefIdeal.nD Cert.MixOut0RefIdeal.τ).loc Cert.MixOut0RefIdeal.main_arg6) = m ((c.tc : Thread Cert.MixOut0Ideal.nD Cert.MixOut0Ideal.τ).loc Cert.MixOut0Ideal.main_arg6)) →
    ∃ (v0 : (c : Dev Cert.MixOut0Ideal.nD) → Buf (Elt Ideal) ((c.tc : Thread Cert.MixOut0Ideal.nD Cert.MixOut0Ideal.τ).loc Cert.MixOut0Ideal.main_v7_0)) (v1 : (c : Dev Cert.MixOut0Ideal.nD) → Buf (Elt Ideal) ((c.tc : Thread Cert.MixOut0Ideal.nD Cert.MixOut0Ideal.τ).loc Cert.MixOut0Ideal.main_v7_1)),
      θ_run (Cert.MixOut0Ideal.defs (F := Ideal)) (onTc (τ := Cert.MixOut0Ideal.τ) (Cert.MixOut0Ideal.main (F := Ideal))) ⟨m, fun _ => 0, g⟩ (fun r => ∀ c : Dev Cert.MixOut0Ideal.nD,
          r.2.mem ((c.tc : Thread Cert.MixOut0Ideal.nD Cert.MixOut0Ideal.τ).loc Cert.MixOut0Ideal.main_v7_0) = v0 c
          ∧ r.2.mem ((c.tc : Thread Cert.MixOut0Ideal.nD Cert.MixOut0Ideal.τ).loc Cert.MixOut0Ideal.main_v7_1) = v1 c
          ∧ r.2.mem ((c.tc : Thread Cert.MixOut0Ideal.nD Cert.MixOut0Ideal.τ).loc Cert.MixOut0Ideal.main_arg0) = m ((c.tc : Thread Cert.MixOut0Ideal.nD Cert.MixOut0Ideal.τ).loc Cert.MixOut0Ideal.main_arg0)
          ∧ r.2.mem ((c.tc : Thread Cert.MixOut0Ideal.nD Cert.MixOut0Ideal.τ).loc Cert.MixOut0Ideal.main_arg1) = m ((c.tc : Thread Cert.MixOut0Ideal.nD Cert.MixOut0Ideal.τ).loc Cert.MixOut0Ideal.main_arg1)
          ∧ r.2.mem ((c.tc : Thread Cert.MixOut0Ideal.nD Cert.MixOut0Ideal.τ).loc Cert.MixOut0Ideal.main_arg2) = m ((c.tc : Thread Cert.MixOut0Ideal.nD Cert.MixOut0Ideal.τ).loc Cert.MixOut0Ideal.main_arg2)
          ∧ r.2.mem ((c.tc : Thread Cert.MixOut0Ideal.nD Cert.MixOut0Ideal.τ).loc Cert.MixOut0Ideal.main_arg3) = m ((c.tc : Thread Cert.MixOut0Ideal.nD Cert.MixOut0Ideal.τ).loc Cert.MixOut0Ideal.main_arg3)
          ∧ r.2.mem ((c.tc : Thread Cert.MixOut0Ideal.nD Cert.MixOut0Ideal.τ).loc Cert.MixOut0Ideal.main_arg4) = m ((c.tc : Thread Cert.MixOut0Ideal.nD Cert.MixOut0Ideal.τ).loc Cert.MixOut0Ideal.main_arg4)
          ∧ r.2.mem ((c.tc : Thread Cert.MixOut0Ideal.nD Cert.MixOut0Ideal.τ).loc Cert.MixOut0Ideal.main_arg5) = m ((c.tc : Thread Cert.MixOut0Ideal.nD Cert.MixOut0Ideal.τ).loc Cert.MixOut0Ideal.main_arg5)
          ∧ r.2.mem ((c.tc : Thread Cert.MixOut0Ideal.nD Cert.MixOut0Ideal.τ).loc Cert.MixOut0Ideal.main_arg6) = m ((c.tc : Thread Cert.MixOut0Ideal.nD Cert.MixOut0Ideal.τ).loc Cert.MixOut0Ideal.main_arg6))
      ∧ θ_run (Cert.MixOut0RefIdeal.defs (F := Ideal)) (onTc (τ := Cert.MixOut0RefIdeal.τ) (Cert.MixOut0RefIdeal.main (F := Ideal))) ⟨m', fun _ => 0, g'⟩ (fun r => ∀ c : Dev Cert.MixOut0RefIdeal.nD,
          r.2.mem ((c.tc : Thread Cert.MixOut0RefIdeal.nD Cert.MixOut0RefIdeal.τ).loc Cert.MixOut0RefIdeal.main_v77) = v0 c
          ∧ r.2.mem ((c.tc : Thread Cert.MixOut0RefIdeal.nD Cert.MixOut0RefIdeal.τ).loc Cert.MixOut0RefIdeal.main_v81) = v1 c
          ∧ r.2.mem ((c.tc : Thread Cert.MixOut0RefIdeal.nD Cert.MixOut0RefIdeal.τ).loc Cert.MixOut0RefIdeal.main_arg0) = m' ((c.tc : Thread Cert.MixOut0RefIdeal.nD Cert.MixOut0RefIdeal.τ).loc Cert.MixOut0RefIdeal.main_arg0)
          ∧ r.2.mem ((c.tc : Thread Cert.MixOut0RefIdeal.nD Cert.MixOut0RefIdeal.τ).loc Cert.MixOut0RefIdeal.main_arg1) = m' ((c.tc : Thread Cert.MixOut0RefIdeal.nD Cert.MixOut0RefIdeal.τ).loc Cert.MixOut0RefIdeal.main_arg1)
          ∧ r.2.mem ((c.tc : Thread Cert.MixOut0RefIdeal.nD Cert.MixOut0RefIdeal.τ).loc Cert.MixOut0RefIdeal.main_arg2) = m' ((c.tc : Thread Cert.MixOut0RefIdeal.nD Cert.MixOut0RefIdeal.τ).loc Cert.MixOut0RefIdeal.main_arg2)
          ∧ r.2.mem ((c.tc : Thread Cert.MixOut0RefIdeal.nD Cert.MixOut0RefIdeal.τ).loc Cert.MixOut0RefIdeal.main_arg3) = m' ((c.tc : Thread Cert.MixOut0RefIdeal.nD Cert.MixOut0RefIdeal.τ).loc Cert.MixOut0RefIdeal.main_arg3)
          ∧ r.2.mem ((c.tc : Thread Cert.MixOut0RefIdeal.nD Cert.MixOut0RefIdeal.τ).loc Cert.MixOut0RefIdeal.main_arg4) = m' ((c.tc : Thread Cert.MixOut0RefIdeal.nD Cert.MixOut0RefIdeal.τ).loc Cert.MixOut0RefIdeal.main_arg4)
          ∧ r.2.mem ((c.tc : Thread Cert.MixOut0RefIdeal.nD Cert.MixOut0RefIdeal.τ).loc Cert.MixOut0RefIdeal.main_arg5) = m' ((c.tc : Thread Cert.MixOut0RefIdeal.nD Cert.MixOut0RefIdeal.τ).loc Cert.MixOut0RefIdeal.main_arg5)
          ∧ r.2.mem ((c.tc : Thread Cert.MixOut0RefIdeal.nD Cert.MixOut0RefIdeal.τ).loc Cert.MixOut0RefIdeal.main_arg6) = m' ((c.tc : Thread Cert.MixOut0RefIdeal.nD Cert.MixOut0RefIdeal.τ).loc Cert.MixOut0RefIdeal.main_arg6))

def preserves_FfnDown0_FfnDown0Ideal : Prop :=
  True

def algebraic_FfnDown0Ideal_FfnDown0RefIdeal [hFfnDown0Ideal : Cert.FfnDown0Ideal.Facts] [hFfnDown0RefIdeal : Cert.FfnDown0RefIdeal.Facts] : Prop :=
  ∀ (m : (ℓ : Loc Cert.FfnDown0Ideal.nD Cert.FfnDown0Ideal.τ Cert.FfnDown0Ideal.sig) → Buf (Elt Ideal) ℓ) (g : Dev Cert.FfnDown0Ideal.nD → PrngReg)
    (m' : (ℓ : Loc Cert.FfnDown0RefIdeal.nD Cert.FfnDown0RefIdeal.τ Cert.FfnDown0RefIdeal.sig) → Buf (Elt Ideal) ℓ) (g' : Dev Cert.FfnDown0RefIdeal.nD → PrngReg), Pre_FfnDown0Ideal m →
    (∀ c : Dev Cert.FfnDown0Ideal.nD,
      m' ((c.tc : Thread Cert.FfnDown0RefIdeal.nD Cert.FfnDown0RefIdeal.τ).loc Cert.FfnDown0RefIdeal.main_arg0) = m ((c.tc : Thread Cert.FfnDown0Ideal.nD Cert.FfnDown0Ideal.τ).loc Cert.FfnDown0Ideal.main_arg0)
      ∧ m' ((c.tc : Thread Cert.FfnDown0RefIdeal.nD Cert.FfnDown0RefIdeal.τ).loc Cert.FfnDown0RefIdeal.main_arg1) = m ((c.tc : Thread Cert.FfnDown0Ideal.nD Cert.FfnDown0Ideal.τ).loc Cert.FfnDown0Ideal.main_arg1)
      ∧ m' ((c.tc : Thread Cert.FfnDown0RefIdeal.nD Cert.FfnDown0RefIdeal.τ).loc Cert.FfnDown0RefIdeal.main_arg2) = m ((c.tc : Thread Cert.FfnDown0Ideal.nD Cert.FfnDown0Ideal.τ).loc Cert.FfnDown0Ideal.main_arg2)
      ∧ m' ((c.tc : Thread Cert.FfnDown0RefIdeal.nD Cert.FfnDown0RefIdeal.τ).loc Cert.FfnDown0RefIdeal.main_arg3) = m ((c.tc : Thread Cert.FfnDown0Ideal.nD Cert.FfnDown0Ideal.τ).loc Cert.FfnDown0Ideal.main_arg3)
      ∧ m' ((c.tc : Thread Cert.FfnDown0RefIdeal.nD Cert.FfnDown0RefIdeal.τ).loc Cert.FfnDown0RefIdeal.main_arg4) = m ((c.tc : Thread Cert.FfnDown0Ideal.nD Cert.FfnDown0Ideal.τ).loc Cert.FfnDown0Ideal.main_arg4)) →
    ∃ (v0 : (c : Dev Cert.FfnDown0Ideal.nD) → Buf (Elt Ideal) ((c.tc : Thread Cert.FfnDown0Ideal.nD Cert.FfnDown0Ideal.τ).loc Cert.FfnDown0Ideal.main_v5_0)) (v1 : (c : Dev Cert.FfnDown0Ideal.nD) → Buf (Elt Ideal) ((c.tc : Thread Cert.FfnDown0Ideal.nD Cert.FfnDown0Ideal.τ).loc Cert.FfnDown0Ideal.main_v5_1)),
      θ_run (Cert.FfnDown0Ideal.defs (F := Ideal)) (onTc (τ := Cert.FfnDown0Ideal.τ) (Cert.FfnDown0Ideal.main (F := Ideal))) ⟨m, fun _ => 0, g⟩ (fun r => ∀ c : Dev Cert.FfnDown0Ideal.nD,
          r.2.mem ((c.tc : Thread Cert.FfnDown0Ideal.nD Cert.FfnDown0Ideal.τ).loc Cert.FfnDown0Ideal.main_v5_0) = v0 c
          ∧ r.2.mem ((c.tc : Thread Cert.FfnDown0Ideal.nD Cert.FfnDown0Ideal.τ).loc Cert.FfnDown0Ideal.main_v5_1) = v1 c
          ∧ r.2.mem ((c.tc : Thread Cert.FfnDown0Ideal.nD Cert.FfnDown0Ideal.τ).loc Cert.FfnDown0Ideal.main_arg0) = m ((c.tc : Thread Cert.FfnDown0Ideal.nD Cert.FfnDown0Ideal.τ).loc Cert.FfnDown0Ideal.main_arg0)
          ∧ r.2.mem ((c.tc : Thread Cert.FfnDown0Ideal.nD Cert.FfnDown0Ideal.τ).loc Cert.FfnDown0Ideal.main_arg1) = m ((c.tc : Thread Cert.FfnDown0Ideal.nD Cert.FfnDown0Ideal.τ).loc Cert.FfnDown0Ideal.main_arg1)
          ∧ r.2.mem ((c.tc : Thread Cert.FfnDown0Ideal.nD Cert.FfnDown0Ideal.τ).loc Cert.FfnDown0Ideal.main_arg2) = m ((c.tc : Thread Cert.FfnDown0Ideal.nD Cert.FfnDown0Ideal.τ).loc Cert.FfnDown0Ideal.main_arg2)
          ∧ r.2.mem ((c.tc : Thread Cert.FfnDown0Ideal.nD Cert.FfnDown0Ideal.τ).loc Cert.FfnDown0Ideal.main_arg3) = m ((c.tc : Thread Cert.FfnDown0Ideal.nD Cert.FfnDown0Ideal.τ).loc Cert.FfnDown0Ideal.main_arg3)
          ∧ r.2.mem ((c.tc : Thread Cert.FfnDown0Ideal.nD Cert.FfnDown0Ideal.τ).loc Cert.FfnDown0Ideal.main_arg4) = m ((c.tc : Thread Cert.FfnDown0Ideal.nD Cert.FfnDown0Ideal.τ).loc Cert.FfnDown0Ideal.main_arg4))
      ∧ θ_run (Cert.FfnDown0RefIdeal.defs (F := Ideal)) (onTc (τ := Cert.FfnDown0RefIdeal.τ) (Cert.FfnDown0RefIdeal.main (F := Ideal))) ⟨m', fun _ => 0, g'⟩ (fun r => ∀ c : Dev Cert.FfnDown0RefIdeal.nD,
          r.2.mem ((c.tc : Thread Cert.FfnDown0RefIdeal.nD Cert.FfnDown0RefIdeal.τ).loc Cert.FfnDown0RefIdeal.main_v80) = v0 c
          ∧ r.2.mem ((c.tc : Thread Cert.FfnDown0RefIdeal.nD Cert.FfnDown0RefIdeal.τ).loc Cert.FfnDown0RefIdeal.main_v84) = v1 c
          ∧ r.2.mem ((c.tc : Thread Cert.FfnDown0RefIdeal.nD Cert.FfnDown0RefIdeal.τ).loc Cert.FfnDown0RefIdeal.main_arg0) = m' ((c.tc : Thread Cert.FfnDown0RefIdeal.nD Cert.FfnDown0RefIdeal.τ).loc Cert.FfnDown0RefIdeal.main_arg0)
          ∧ r.2.mem ((c.tc : Thread Cert.FfnDown0RefIdeal.nD Cert.FfnDown0RefIdeal.τ).loc Cert.FfnDown0RefIdeal.main_arg1) = m' ((c.tc : Thread Cert.FfnDown0RefIdeal.nD Cert.FfnDown0RefIdeal.τ).loc Cert.FfnDown0RefIdeal.main_arg1)
          ∧ r.2.mem ((c.tc : Thread Cert.FfnDown0RefIdeal.nD Cert.FfnDown0RefIdeal.τ).loc Cert.FfnDown0RefIdeal.main_arg2) = m' ((c.tc : Thread Cert.FfnDown0RefIdeal.nD Cert.FfnDown0RefIdeal.τ).loc Cert.FfnDown0RefIdeal.main_arg2)
          ∧ r.2.mem ((c.tc : Thread Cert.FfnDown0RefIdeal.nD Cert.FfnDown0RefIdeal.τ).loc Cert.FfnDown0RefIdeal.main_arg3) = m' ((c.tc : Thread Cert.FfnDown0RefIdeal.nD Cert.FfnDown0RefIdeal.τ).loc Cert.FfnDown0RefIdeal.main_arg3)
          ∧ r.2.mem ((c.tc : Thread Cert.FfnDown0RefIdeal.nD Cert.FfnDown0RefIdeal.τ).loc Cert.FfnDown0RefIdeal.main_arg4) = m' ((c.tc : Thread Cert.FfnDown0RefIdeal.nD Cert.FfnDown0RefIdeal.τ).loc Cert.FfnDown0RefIdeal.main_arg4))

def preserves_MixOut1_MixOut1Ideal : Prop :=
  True

def algebraic_MixOut1Ideal_MixOut1RefIdeal [hMixOut1Ideal : Cert.MixOut1Ideal.Facts] [hMixOut1RefIdeal : Cert.MixOut1RefIdeal.Facts] : Prop :=
  ∀ (m : (ℓ : Loc Cert.MixOut1Ideal.nD Cert.MixOut1Ideal.τ Cert.MixOut1Ideal.sig) → Buf (Elt Ideal) ℓ) (g : Dev Cert.MixOut1Ideal.nD → PrngReg)
    (m' : (ℓ : Loc Cert.MixOut1RefIdeal.nD Cert.MixOut1RefIdeal.τ Cert.MixOut1RefIdeal.sig) → Buf (Elt Ideal) ℓ) (g' : Dev Cert.MixOut1RefIdeal.nD → PrngReg), Pre_MixOut1Ideal m →
    (∀ c : Dev Cert.MixOut1Ideal.nD,
      m' ((c.tc : Thread Cert.MixOut1RefIdeal.nD Cert.MixOut1RefIdeal.τ).loc Cert.MixOut1RefIdeal.main_arg0) = m ((c.tc : Thread Cert.MixOut1Ideal.nD Cert.MixOut1Ideal.τ).loc Cert.MixOut1Ideal.main_arg0)
      ∧ m' ((c.tc : Thread Cert.MixOut1RefIdeal.nD Cert.MixOut1RefIdeal.τ).loc Cert.MixOut1RefIdeal.main_arg1) = m ((c.tc : Thread Cert.MixOut1Ideal.nD Cert.MixOut1Ideal.τ).loc Cert.MixOut1Ideal.main_arg1)
      ∧ m' ((c.tc : Thread Cert.MixOut1RefIdeal.nD Cert.MixOut1RefIdeal.τ).loc Cert.MixOut1RefIdeal.main_arg2) = m ((c.tc : Thread Cert.MixOut1Ideal.nD Cert.MixOut1Ideal.τ).loc Cert.MixOut1Ideal.main_arg2)
      ∧ m' ((c.tc : Thread Cert.MixOut1RefIdeal.nD Cert.MixOut1RefIdeal.τ).loc Cert.MixOut1RefIdeal.main_arg3) = m ((c.tc : Thread Cert.MixOut1Ideal.nD Cert.MixOut1Ideal.τ).loc Cert.MixOut1Ideal.main_arg3)
      ∧ m' ((c.tc : Thread Cert.MixOut1RefIdeal.nD Cert.MixOut1RefIdeal.τ).loc Cert.MixOut1RefIdeal.main_arg4) = m ((c.tc : Thread Cert.MixOut1Ideal.nD Cert.MixOut1Ideal.τ).loc Cert.MixOut1Ideal.main_arg4)
      ∧ m' ((c.tc : Thread Cert.MixOut1RefIdeal.nD Cert.MixOut1RefIdeal.τ).loc Cert.MixOut1RefIdeal.main_arg5) = m ((c.tc : Thread Cert.MixOut1Ideal.nD Cert.MixOut1Ideal.τ).loc Cert.MixOut1Ideal.main_arg5)) →
    ∃ (v0 : (c : Dev Cert.MixOut1Ideal.nD) → Buf (Elt Ideal) ((c.tc : Thread Cert.MixOut1Ideal.nD Cert.MixOut1Ideal.τ).loc Cert.MixOut1Ideal.main_v5_0)) (v1 : (c : Dev Cert.MixOut1Ideal.nD) → Buf (Elt Ideal) ((c.tc : Thread Cert.MixOut1Ideal.nD Cert.MixOut1Ideal.τ).loc Cert.MixOut1Ideal.main_v5_1)),
      θ_run (Cert.MixOut1Ideal.defs (F := Ideal)) (onTc (τ := Cert.MixOut1Ideal.τ) (Cert.MixOut1Ideal.main (F := Ideal))) ⟨m, fun _ => 0, g⟩ (fun r => ∀ c : Dev Cert.MixOut1Ideal.nD,
          r.2.mem ((c.tc : Thread Cert.MixOut1Ideal.nD Cert.MixOut1Ideal.τ).loc Cert.MixOut1Ideal.main_v5_0) = v0 c
          ∧ r.2.mem ((c.tc : Thread Cert.MixOut1Ideal.nD Cert.MixOut1Ideal.τ).loc Cert.MixOut1Ideal.main_v5_1) = v1 c
          ∧ r.2.mem ((c.tc : Thread Cert.MixOut1Ideal.nD Cert.MixOut1Ideal.τ).loc Cert.MixOut1Ideal.main_arg0) = m ((c.tc : Thread Cert.MixOut1Ideal.nD Cert.MixOut1Ideal.τ).loc Cert.MixOut1Ideal.main_arg0)
          ∧ r.2.mem ((c.tc : Thread Cert.MixOut1Ideal.nD Cert.MixOut1Ideal.τ).loc Cert.MixOut1Ideal.main_arg1) = m ((c.tc : Thread Cert.MixOut1Ideal.nD Cert.MixOut1Ideal.τ).loc Cert.MixOut1Ideal.main_arg1)
          ∧ r.2.mem ((c.tc : Thread Cert.MixOut1Ideal.nD Cert.MixOut1Ideal.τ).loc Cert.MixOut1Ideal.main_arg2) = m ((c.tc : Thread Cert.MixOut1Ideal.nD Cert.MixOut1Ideal.τ).loc Cert.MixOut1Ideal.main_arg2)
          ∧ r.2.mem ((c.tc : Thread Cert.MixOut1Ideal.nD Cert.MixOut1Ideal.τ).loc Cert.MixOut1Ideal.main_arg3) = m ((c.tc : Thread Cert.MixOut1Ideal.nD Cert.MixOut1Ideal.τ).loc Cert.MixOut1Ideal.main_arg3)
          ∧ r.2.mem ((c.tc : Thread Cert.MixOut1Ideal.nD Cert.MixOut1Ideal.τ).loc Cert.MixOut1Ideal.main_arg4) = m ((c.tc : Thread Cert.MixOut1Ideal.nD Cert.MixOut1Ideal.τ).loc Cert.MixOut1Ideal.main_arg4)
          ∧ r.2.mem ((c.tc : Thread Cert.MixOut1Ideal.nD Cert.MixOut1Ideal.τ).loc Cert.MixOut1Ideal.main_arg5) = m ((c.tc : Thread Cert.MixOut1Ideal.nD Cert.MixOut1Ideal.τ).loc Cert.MixOut1Ideal.main_arg5))
      ∧ θ_run (Cert.MixOut1RefIdeal.defs (F := Ideal)) (onTc (τ := Cert.MixOut1RefIdeal.τ) (Cert.MixOut1RefIdeal.main (F := Ideal))) ⟨m', fun _ => 0, g'⟩ (fun r => ∀ c : Dev Cert.MixOut1RefIdeal.nD,
          r.2.mem ((c.tc : Thread Cert.MixOut1RefIdeal.nD Cert.MixOut1RefIdeal.τ).loc Cert.MixOut1RefIdeal.main_v41) = v0 c
          ∧ r.2.mem ((c.tc : Thread Cert.MixOut1RefIdeal.nD Cert.MixOut1RefIdeal.τ).loc Cert.MixOut1RefIdeal.main_v43) = v1 c
          ∧ r.2.mem ((c.tc : Thread Cert.MixOut1RefIdeal.nD Cert.MixOut1RefIdeal.τ).loc Cert.MixOut1RefIdeal.main_arg0) = m' ((c.tc : Thread Cert.MixOut1RefIdeal.nD Cert.MixOut1RefIdeal.τ).loc Cert.MixOut1RefIdeal.main_arg0)
          ∧ r.2.mem ((c.tc : Thread Cert.MixOut1RefIdeal.nD Cert.MixOut1RefIdeal.τ).loc Cert.MixOut1RefIdeal.main_arg1) = m' ((c.tc : Thread Cert.MixOut1RefIdeal.nD Cert.MixOut1RefIdeal.τ).loc Cert.MixOut1RefIdeal.main_arg1)
          ∧ r.2.mem ((c.tc : Thread Cert.MixOut1RefIdeal.nD Cert.MixOut1RefIdeal.τ).loc Cert.MixOut1RefIdeal.main_arg2) = m' ((c.tc : Thread Cert.MixOut1RefIdeal.nD Cert.MixOut1RefIdeal.τ).loc Cert.MixOut1RefIdeal.main_arg2)
          ∧ r.2.mem ((c.tc : Thread Cert.MixOut1RefIdeal.nD Cert.MixOut1RefIdeal.τ).loc Cert.MixOut1RefIdeal.main_arg3) = m' ((c.tc : Thread Cert.MixOut1RefIdeal.nD Cert.MixOut1RefIdeal.τ).loc Cert.MixOut1RefIdeal.main_arg3)
          ∧ r.2.mem ((c.tc : Thread Cert.MixOut1RefIdeal.nD Cert.MixOut1RefIdeal.τ).loc Cert.MixOut1RefIdeal.main_arg4) = m' ((c.tc : Thread Cert.MixOut1RefIdeal.nD Cert.MixOut1RefIdeal.τ).loc Cert.MixOut1RefIdeal.main_arg4)
          ∧ r.2.mem ((c.tc : Thread Cert.MixOut1RefIdeal.nD Cert.MixOut1RefIdeal.τ).loc Cert.MixOut1RefIdeal.main_arg5) = m' ((c.tc : Thread Cert.MixOut1RefIdeal.nD Cert.MixOut1RefIdeal.τ).loc Cert.MixOut1RefIdeal.main_arg5))

def preserves_FfnDown1_FfnDown1Ideal : Prop :=
  True

def algebraic_FfnDown1Ideal_FfnDown1RefIdeal [hFfnDown1Ideal : Cert.FfnDown1Ideal.Facts] [hFfnDown1RefIdeal : Cert.FfnDown1RefIdeal.Facts] : Prop :=
  ∀ (m : (ℓ : Loc Cert.FfnDown1Ideal.nD Cert.FfnDown1Ideal.τ Cert.FfnDown1Ideal.sig) → Buf (Elt Ideal) ℓ) (g : Dev Cert.FfnDown1Ideal.nD → PrngReg)
    (m' : (ℓ : Loc Cert.FfnDown1RefIdeal.nD Cert.FfnDown1RefIdeal.τ Cert.FfnDown1RefIdeal.sig) → Buf (Elt Ideal) ℓ) (g' : Dev Cert.FfnDown1RefIdeal.nD → PrngReg), Pre_FfnDown1Ideal m →
    (∀ c : Dev Cert.FfnDown1Ideal.nD,
      m' ((c.tc : Thread Cert.FfnDown1RefIdeal.nD Cert.FfnDown1RefIdeal.τ).loc Cert.FfnDown1RefIdeal.main_arg0) = m ((c.tc : Thread Cert.FfnDown1Ideal.nD Cert.FfnDown1Ideal.τ).loc Cert.FfnDown1Ideal.main_arg0)
      ∧ m' ((c.tc : Thread Cert.FfnDown1RefIdeal.nD Cert.FfnDown1RefIdeal.τ).loc Cert.FfnDown1RefIdeal.main_arg1) = m ((c.tc : Thread Cert.FfnDown1Ideal.nD Cert.FfnDown1Ideal.τ).loc Cert.FfnDown1Ideal.main_arg1)
      ∧ m' ((c.tc : Thread Cert.FfnDown1RefIdeal.nD Cert.FfnDown1RefIdeal.τ).loc Cert.FfnDown1RefIdeal.main_arg2) = m ((c.tc : Thread Cert.FfnDown1Ideal.nD Cert.FfnDown1Ideal.τ).loc Cert.FfnDown1Ideal.main_arg2)
      ∧ m' ((c.tc : Thread Cert.FfnDown1RefIdeal.nD Cert.FfnDown1RefIdeal.τ).loc Cert.FfnDown1RefIdeal.main_arg3) = m ((c.tc : Thread Cert.FfnDown1Ideal.nD Cert.FfnDown1Ideal.τ).loc Cert.FfnDown1Ideal.main_arg3)
      ∧ m' ((c.tc : Thread Cert.FfnDown1RefIdeal.nD Cert.FfnDown1RefIdeal.τ).loc Cert.FfnDown1RefIdeal.main_arg4) = m ((c.tc : Thread Cert.FfnDown1Ideal.nD Cert.FfnDown1Ideal.τ).loc Cert.FfnDown1Ideal.main_arg4)) →
    ∃ (v0 : (c : Dev Cert.FfnDown1Ideal.nD) → Buf (Elt Ideal) ((c.tc : Thread Cert.FfnDown1Ideal.nD Cert.FfnDown1Ideal.τ).loc Cert.FfnDown1Ideal.main_v3)),
      θ_run (Cert.FfnDown1Ideal.defs (F := Ideal)) (onTc (τ := Cert.FfnDown1Ideal.τ) (Cert.FfnDown1Ideal.main (F := Ideal))) ⟨m, fun _ => 0, g⟩ (fun r => ∀ c : Dev Cert.FfnDown1Ideal.nD,
          r.2.mem ((c.tc : Thread Cert.FfnDown1Ideal.nD Cert.FfnDown1Ideal.τ).loc Cert.FfnDown1Ideal.main_v3) = v0 c
          ∧ r.2.mem ((c.tc : Thread Cert.FfnDown1Ideal.nD Cert.FfnDown1Ideal.τ).loc Cert.FfnDown1Ideal.main_arg0) = m ((c.tc : Thread Cert.FfnDown1Ideal.nD Cert.FfnDown1Ideal.τ).loc Cert.FfnDown1Ideal.main_arg0)
          ∧ r.2.mem ((c.tc : Thread Cert.FfnDown1Ideal.nD Cert.FfnDown1Ideal.τ).loc Cert.FfnDown1Ideal.main_arg1) = m ((c.tc : Thread Cert.FfnDown1Ideal.nD Cert.FfnDown1Ideal.τ).loc Cert.FfnDown1Ideal.main_arg1)
          ∧ r.2.mem ((c.tc : Thread Cert.FfnDown1Ideal.nD Cert.FfnDown1Ideal.τ).loc Cert.FfnDown1Ideal.main_arg2) = m ((c.tc : Thread Cert.FfnDown1Ideal.nD Cert.FfnDown1Ideal.τ).loc Cert.FfnDown1Ideal.main_arg2)
          ∧ r.2.mem ((c.tc : Thread Cert.FfnDown1Ideal.nD Cert.FfnDown1Ideal.τ).loc Cert.FfnDown1Ideal.main_arg3) = m ((c.tc : Thread Cert.FfnDown1Ideal.nD Cert.FfnDown1Ideal.τ).loc Cert.FfnDown1Ideal.main_arg3)
          ∧ r.2.mem ((c.tc : Thread Cert.FfnDown1Ideal.nD Cert.FfnDown1Ideal.τ).loc Cert.FfnDown1Ideal.main_arg4) = m ((c.tc : Thread Cert.FfnDown1Ideal.nD Cert.FfnDown1Ideal.τ).loc Cert.FfnDown1Ideal.main_arg4))
      ∧ θ_run (Cert.FfnDown1RefIdeal.defs (F := Ideal)) (onTc (τ := Cert.FfnDown1RefIdeal.τ) (Cert.FfnDown1RefIdeal.main (F := Ideal))) ⟨m', fun _ => 0, g'⟩ (fun r => ∀ c : Dev Cert.FfnDown1RefIdeal.nD,
          r.2.mem ((c.tc : Thread Cert.FfnDown1RefIdeal.nD Cert.FfnDown1RefIdeal.τ).loc Cert.FfnDown1RefIdeal.main_v25) = v0 c
          ∧ r.2.mem ((c.tc : Thread Cert.FfnDown1RefIdeal.nD Cert.FfnDown1RefIdeal.τ).loc Cert.FfnDown1RefIdeal.main_arg0) = m' ((c.tc : Thread Cert.FfnDown1RefIdeal.nD Cert.FfnDown1RefIdeal.τ).loc Cert.FfnDown1RefIdeal.main_arg0)
          ∧ r.2.mem ((c.tc : Thread Cert.FfnDown1RefIdeal.nD Cert.FfnDown1RefIdeal.τ).loc Cert.FfnDown1RefIdeal.main_arg1) = m' ((c.tc : Thread Cert.FfnDown1RefIdeal.nD Cert.FfnDown1RefIdeal.τ).loc Cert.FfnDown1RefIdeal.main_arg1)
          ∧ r.2.mem ((c.tc : Thread Cert.FfnDown1RefIdeal.nD Cert.FfnDown1RefIdeal.τ).loc Cert.FfnDown1RefIdeal.main_arg2) = m' ((c.tc : Thread Cert.FfnDown1RefIdeal.nD Cert.FfnDown1RefIdeal.τ).loc Cert.FfnDown1RefIdeal.main_arg2)
          ∧ r.2.mem ((c.tc : Thread Cert.FfnDown1RefIdeal.nD Cert.FfnDown1RefIdeal.τ).loc Cert.FfnDown1RefIdeal.main_arg3) = m' ((c.tc : Thread Cert.FfnDown1RefIdeal.nD Cert.FfnDown1RefIdeal.τ).loc Cert.FfnDown1RefIdeal.main_arg3)
          ∧ r.2.mem ((c.tc : Thread Cert.FfnDown1RefIdeal.nD Cert.FfnDown1RefIdeal.τ).loc Cert.FfnDown1RefIdeal.main_arg4) = m' ((c.tc : Thread Cert.FfnDown1RefIdeal.nD Cert.FfnDown1RefIdeal.τ).loc Cert.FfnDown1RefIdeal.main_arg4))

def Claim : Prop :=
  ∃ (hGqa : Cert.Gqa.Facts) (hGqaIdeal : Cert.GqaIdeal.Facts) (hGqaRefIdeal : Cert.GqaRefIdeal.Facts) (hMla : Cert.Mla.Facts) (hMlaIdeal : Cert.MlaIdeal.Facts) (hMlaRefIdeal : Cert.MlaRefIdeal.Facts) (hFfnUp0 : Cert.FfnUp0.Facts) (hFfnUp0Ideal : Cert.FfnUp0Ideal.Facts) (hFfnUp0RefIdeal : Cert.FfnUp0RefIdeal.Facts) (hFfnUp1 : Cert.FfnUp1.Facts) (hFfnUp1Ideal : Cert.FfnUp1Ideal.Facts) (hFfnUp1RefIdeal : Cert.FfnUp1RefIdeal.Facts) (hRecIn : Cert.RecIn.Facts) (hRecInIdeal : Cert.RecInIdeal.Facts) (hRecInRefIdeal : Cert.RecInRefIdeal.Facts) (hMixOut0 : Cert.MixOut0.Facts) (hMixOut0Ideal : Cert.MixOut0Ideal.Facts) (hMixOut0RefIdeal : Cert.MixOut0RefIdeal.Facts) (hFfnDown0 : Cert.FfnDown0.Facts) (hFfnDown0Ideal : Cert.FfnDown0Ideal.Facts) (hFfnDown0RefIdeal : Cert.FfnDown0RefIdeal.Facts) (hMixOut1 : Cert.MixOut1.Facts) (hMixOut1Ideal : Cert.MixOut1Ideal.Facts) (hMixOut1RefIdeal : Cert.MixOut1RefIdeal.Facts) (hFfnDown1 : Cert.FfnDown1.Facts) (hFfnDown1Ideal : Cert.FfnDown1Ideal.Facts) (hFfnDown1RefIdeal : Cert.FfnDown1RefIdeal.Facts) (hPre_finite_gqa : Cert.Pre_finite_gqa.Facts) (hPre_finite_mla : Cert.Pre_finite_mla.Facts),
    quiescent_Gqa (hGqa := hGqa)
    ∧ quiescent_GqaIdeal (hGqaIdeal := hGqaIdeal)
    ∧ quiescent_GqaIdeal_pre_finite_gqa (hGqaIdeal := hGqaIdeal) (hPre_finite_gqa := hPre_finite_gqa)
    ∧ quiescent_GqaRefIdeal (hGqaRefIdeal := hGqaRefIdeal)
    ∧ quiescent_GqaRefIdeal_pre_finite_gqa (hGqaRefIdeal := hGqaRefIdeal) (hPre_finite_gqa := hPre_finite_gqa)
    ∧ quiescent_Mla (hMla := hMla)
    ∧ quiescent_MlaIdeal (hMlaIdeal := hMlaIdeal)
    ∧ quiescent_MlaIdeal_pre_finite_mla (hMlaIdeal := hMlaIdeal) (hPre_finite_mla := hPre_finite_mla)
    ∧ quiescent_MlaRefIdeal (hMlaRefIdeal := hMlaRefIdeal)
    ∧ quiescent_MlaRefIdeal_pre_finite_mla (hMlaRefIdeal := hMlaRefIdeal) (hPre_finite_mla := hPre_finite_mla)
    ∧ quiescent_FfnUp0 (hFfnUp0 := hFfnUp0)
    ∧ quiescent_FfnUp0Ideal (hFfnUp0Ideal := hFfnUp0Ideal)
    ∧ quiescent_FfnUp0RefIdeal (hFfnUp0RefIdeal := hFfnUp0RefIdeal)
    ∧ quiescent_FfnUp1 (hFfnUp1 := hFfnUp1)
    ∧ quiescent_FfnUp1Ideal (hFfnUp1Ideal := hFfnUp1Ideal)
    ∧ quiescent_FfnUp1RefIdeal (hFfnUp1RefIdeal := hFfnUp1RefIdeal)
    ∧ quiescent_RecIn (hRecIn := hRecIn)
    ∧ quiescent_RecInIdeal (hRecInIdeal := hRecInIdeal)
    ∧ quiescent_RecInRefIdeal (hRecInRefIdeal := hRecInRefIdeal)
    ∧ quiescent_MixOut0 (hMixOut0 := hMixOut0)
    ∧ quiescent_MixOut0Ideal (hMixOut0Ideal := hMixOut0Ideal)
    ∧ quiescent_MixOut0RefIdeal (hMixOut0RefIdeal := hMixOut0RefIdeal)
    ∧ quiescent_FfnDown0 (hFfnDown0 := hFfnDown0)
    ∧ quiescent_FfnDown0Ideal (hFfnDown0Ideal := hFfnDown0Ideal)
    ∧ quiescent_FfnDown0RefIdeal (hFfnDown0RefIdeal := hFfnDown0RefIdeal)
    ∧ quiescent_MixOut1 (hMixOut1 := hMixOut1)
    ∧ quiescent_MixOut1Ideal (hMixOut1Ideal := hMixOut1Ideal)
    ∧ quiescent_MixOut1RefIdeal (hMixOut1RefIdeal := hMixOut1RefIdeal)
    ∧ quiescent_FfnDown1 (hFfnDown1 := hFfnDown1)
    ∧ quiescent_FfnDown1Ideal (hFfnDown1Ideal := hFfnDown1Ideal)
    ∧ quiescent_FfnDown1RefIdeal (hFfnDown1RefIdeal := hFfnDown1RefIdeal)
    ∧ preserves_Gqa_GqaIdeal
    ∧ algebraic_GqaIdeal_GqaRefIdeal_pre_finite_gqa (hGqaIdeal := hGqaIdeal) (hGqaRefIdeal := hGqaRefIdeal) (hPre_finite_gqa := hPre_finite_gqa)
    ∧ preserves_Mla_MlaIdeal
    ∧ algebraic_MlaIdeal_MlaRefIdeal_pre_finite_mla (hMlaIdeal := hMlaIdeal) (hMlaRefIdeal := hMlaRefIdeal) (hPre_finite_mla := hPre_finite_mla)
    ∧ preserves_FfnUp0_FfnUp0Ideal
    ∧ algebraic_FfnUp0Ideal_FfnUp0RefIdeal (hFfnUp0Ideal := hFfnUp0Ideal) (hFfnUp0RefIdeal := hFfnUp0RefIdeal)
    ∧ preserves_FfnUp1_FfnUp1Ideal
    ∧ algebraic_FfnUp1Ideal_FfnUp1RefIdeal (hFfnUp1Ideal := hFfnUp1Ideal) (hFfnUp1RefIdeal := hFfnUp1RefIdeal)
    ∧ preserves_RecIn_RecInIdeal
    ∧ algebraic_RecInIdeal_RecInRefIdeal (hRecInIdeal := hRecInIdeal) (hRecInRefIdeal := hRecInRefIdeal)
    ∧ preserves_MixOut0_MixOut0Ideal
    ∧ algebraic_MixOut0Ideal_MixOut0RefIdeal (hMixOut0Ideal := hMixOut0Ideal) (hMixOut0RefIdeal := hMixOut0RefIdeal)
    ∧ preserves_FfnDown0_FfnDown0Ideal
    ∧ algebraic_FfnDown0Ideal_FfnDown0RefIdeal (hFfnDown0Ideal := hFfnDown0Ideal) (hFfnDown0RefIdeal := hFfnDown0RefIdeal)
    ∧ preserves_MixOut1_MixOut1Ideal
    ∧ algebraic_MixOut1Ideal_MixOut1RefIdeal (hMixOut1Ideal := hMixOut1Ideal) (hMixOut1RefIdeal := hMixOut1RefIdeal)
    ∧ preserves_FfnDown1_FfnDown1Ideal
    ∧ algebraic_FfnDown1Ideal_FfnDown1RefIdeal (hFfnDown1Ideal := hFfnDown1Ideal) (hFfnDown1RefIdeal := hFfnDown1RefIdeal)
-- ==== Pre_finite_gqa.lean ====
abbrev S4x8x4352x128 : Shape := ⟨4, ![4, 8, 4352, 128]⟩
abbrev S4x2x4352x128 : Shape := ⟨4, ![4, 2, 4352, 128]⟩
abbrev S4x10x4352x128 : Shape := ⟨4, ![4, 10, 4352, 128]⟩
abbrev S_ : Shape := ⟨0, ![]⟩

class Facts : Prop where
  concatenates_S4x8x4352x128_S4x2x4352x128_S4x10x4352x128_d1 : Shape.Concatenates [S4x8x4352x128, S4x2x4352x128] S4x10x4352x128 1
  bcast_S_S4x10x4352x128 : S_.BroadcastsInDim S4x10x4352x128 (![] : Fin 0 → Fin S4x10x4352x128.rank)

variable [Facts]

def fn {F : FTy → Type} [FloatOps F] (main_arg0 : FVec F S4x8x4352x128 .f32) (main_arg1 : FVec F S4x2x4352x128 .f32) (main_arg2 : FVec F S4x2x4352x128 .f32) : IVec S4x10x4352x128 1 :=
  let main_v0 : FVec F S4x10x4352x128 .f32 := (fun a b => concatenate S4x10x4352x128 1 [⟨S4x8x4352x128, a⟩, ⟨S4x2x4352x128, b⟩] concatenates_S4x8x4352x128_S4x2x4352x128_S4x10x4352x128_d1) main_arg0 main_arg1
  let main_v1 : FVec F S4x10x4352x128 .f32 := Host.absf main_v0
  let main_cst : FVec F S_ .f32 := constant S_ .f32 0x7F800000#32
  let main_v2 : FVec F S4x10x4352x128 .f32 := broadcastInDim S4x10x4352x128 ![] bcast_S_S4x10x4352x128 main_cst
  let main_v3 : IVec S4x10x4352x128 1 := cmpf .olt main_v1 main_v2
  main_v3
-- ==== Pre_finite_mla.lean ====
abbrev S4x8x4352x192 : Shape := ⟨4, ![4, 8, 4352, 192]⟩
abbrev S4x8x4352x128 : Shape := ⟨4, ![4, 8, 4352, 128]⟩
abbrev S4x16x4352x192 : Shape := ⟨4, ![4, 16, 4352, 192]⟩
abbrev S_ : Shape := ⟨0, ![]⟩

class Facts : Prop where
  concatenates_S4x8x4352x192_S4x8x4352x192_S4x16x4352x192_d1 : Shape.Concatenates [S4x8x4352x192, S4x8x4352x192] S4x16x4352x192 1
  bcast_S_S4x16x4352x192 : S_.BroadcastsInDim S4x16x4352x192 (![] : Fin 0 → Fin S4x16x4352x192.rank)

variable [Facts]

def fn {F : FTy → Type} [FloatOps F] (main_arg0 : FVec F S4x8x4352x192 .f32) (main_arg1 : FVec F S4x8x4352x192 .f32) (main_arg2 : FVec F S4x8x4352x128 .f32) : IVec S4x16x4352x192 1 :=
  let main_v0 : FVec F S4x16x4352x192 .f32 := (fun a b => concatenate S4x16x4352x192 1 [⟨S4x8x4352x192, a⟩, ⟨S4x8x4352x192, b⟩] concatenates_S4x8x4352x192_S4x8x4352x192_S4x16x4352x192_d1) main_arg0 main_arg1
  let main_v1 : FVec F S4x16x4352x192 .f32 := Host.absf main_v0
  let main_cst : FVec F S_ .f32 := constant S_ .f32 0x7F800000#32
  let main_v2 : FVec F S4x16x4352x192 .f32 := broadcastInDim S4x16x4352x192 ![] bcast_S_S4x16x4352x192 main_cst
  let main_v3 : IVec S4x16x4352x192 1 := cmpf .olt main_v1 main_v2
  main_v3
-- ==== Gqa.lean ====
abbrev S4x8x4352x128 : Shape := ⟨4, ![4, 8, 4352, 128]⟩
abbrev S4x2x4352x128 : Shape := ⟨4, ![4, 2, 4352, 128]⟩
abbrev S_ : Shape := ⟨0, ![]⟩
abbrev S4x2x4352x256 : Shape := ⟨4, ![4, 2, 4352, 256]⟩
abbrev S17408x1024 : Shape := ⟨2, ![17408, 1024]⟩
abbrev S1x4x256x128 : Shape := ⟨4, ![1, 4, 256, 128]⟩
abbrev S1x1x4352x128 : Shape := ⟨4, ![1, 1, 4352, 128]⟩
abbrev S1x1x4352x256 : Shape := ⟨4, ![1, 1, 4352, 256]⟩
abbrev S256x512 : Shape := ⟨2, ![256, 512]⟩
abbrev S1x1x256x128 : Shape := ⟨4, ![1, 1, 256, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S1x1x256x256 : Shape := ⟨4, ![1, 1, 256, 256]⟩
abbrev S4352x128 : Shape := ⟨2, ![4352, 128]⟩
abbrev S256x4352 : Shape := ⟨2, ![256, 4352]⟩
abbrev S4352x256 : Shape := ⟨2, ![4352, 256]⟩

abbrev nBuf : Space → Nat
  | .hbm => 22
  | .vmem => 8
  | .smem => 0
  | _ => 0

abbrev bufTy : (tb : Table) → Fin (tcTables nBuf tb) → BufTy
  | .hbm, ⟨0, _⟩ => ⟨S4x8x4352x128, .f32⟩
  | .hbm, ⟨1, _⟩ => ⟨S4x2x4352x128, .f32⟩
  | .hbm, ⟨2, _⟩ => ⟨S4x2x4352x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x8x4352x128, .f32⟩
  | .hbm, ⟨11, _⟩ => ⟨S4x8x4352x128, .f32⟩
  | .hbm, ⟨12, _⟩ => ⟨S4x8x4352x128, .bf16⟩
  | .hbm, ⟨13, _⟩ => ⟨S4x2x4352x128, .bf16⟩
  | .hbm, ⟨14, _⟩ => ⟨S4x2x4352x128, .i32⟩
  | .hbm, ⟨15, _⟩ => ⟨S_, .i32⟩
  | .hbm, ⟨16, _⟩ => ⟨S4x2x4352x128, .i32⟩
  | .hbm, ⟨17, _⟩ => ⟨S4x2x4352x128, .i1⟩
  | .hbm, ⟨18, _⟩ => ⟨S4x2x4352x128, .f32⟩
  | .hbm, ⟨19, _⟩ => ⟨S4x2x4352x256, .f32⟩
  | .hbm, ⟨20, _⟩ => ⟨S4x2x4352x256, .bf16⟩
  | .hbm, ⟨21, _⟩ => ⟨S17408x1024, .bf16⟩
  | .local _ .vmem, ⟨0, _⟩ => ⟨S1x4x256x128, .bf16⟩
  | .local _ .vmem, ⟨1, _⟩ => ⟨S1x4x256x128, .bf16⟩
  | .local _ .vmem, ⟨2, _⟩ => ⟨S1x1x4352x128, .bf16⟩
  | .local _ .vmem, ⟨3, _⟩ => ⟨S1x1x4352x128, .bf16⟩
  | .local _ .vmem, ⟨4, _⟩ => ⟨S1x1x4352x256, .bf16⟩
  | .local _ .vmem, ⟨5, _⟩ => ⟨S1x1x4352x256, .bf16⟩
  | .local _ .vmem, ⟨6, _⟩ => ⟨S256x512, .bf16⟩
  | .local _ .vmem, ⟨7, _⟩ => ⟨S256x512, .bf16⟩
  | _, _ => ⟨S4x8x4352x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 17], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32 : BitVec 32 := 0#32
  let v0 : BitVec 1 := Scalar.cmpi .eq arg2 c0_i32
  let v_true : BitVec 1 := 1#1
  let v3 : BitVec 1 := Scalar.xori v0 v_true
  let v4 : BitVec 32 := Scalar.extui v3
  let c0_i32_1 : BitVec 32 := 0#32
  let v5 : BitVec 1 := Scalar.cmpi .ne v4 c0_i32_1
  v5

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg2 c0_i32
  let c64_i32 : BitVec 32 := 64#32
  let v1 : BitVec 32 := Scalar.addi c64_i32 arg0
  let c16_i32 : BitVec 32 := 16#32
  let v2 : BitVec 32 := Scalar.muli arg0 c16_i32
  let v3 : BitVec 32 := Scalar.addi v2 arg2
  let c1_i32 : BitVec 32 := 1#32
  let v4 : BitVec 32 := Scalar.subi v3 c1_i32
  let v5 : BitVec 32 := Scalar.select v0 v1 v4
  let c0_i32_0 : BitVec 32 := 0#32
  ![v5.toNat, arg1.toNat]

abbrev stage0_0 : Fin 2 → Memref sig .tc .vmem S1x4x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4352x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== GqaRefIdeal.lean ====
abbrev S4x8x4352x128 : Shape := ⟨4, ![4, 8, 4352, 128]⟩
abbrev S4x2x4352x128 : Shape := ⟨4, ![4, 2, 4352, 128]⟩
abbrev S_ : Shape := ⟨0, ![]⟩
abbrev S4x2x4x4352x128 : Shape := ⟨5, ![4, 2, 4, 4352, 128]⟩
abbrev S4x2x4x4096x128 : Shape := ⟨5, ![4, 2, 4, 4096, 128]⟩
abbrev S4x2x4x4096x4352 : Shape := ⟨5, ![4, 2, 4, 4096, 4352]⟩
abbrev S4x2x4x4096 : Shape := ⟨4, ![4, 2, 4, 4096]⟩
abbrev S4x2x4x4096x1 : Shape := ⟨5, ![4, 2, 4, 4096, 1]⟩
abbrev S4x2x128x4x4096 : Shape := ⟨5, ![4, 2, 128, 4, 4096]⟩
abbrev S4x4096x2x4x128 : Shape := ⟨5, ![4, 4096, 2, 4, 128]⟩
abbrev S16384x1024 : Shape := ⟨2, ![16384, 1024]⟩
abbrev S4x2x4x256x128 : Shape := ⟨5, ![4, 2, 4, 256, 128]⟩
abbrev S4x2x256x128 : Shape := ⟨4, ![4, 2, 256, 128]⟩
abbrev S4x2x4x256x256 : Shape := ⟨5, ![4, 2, 4, 256, 256]⟩
abbrev S4x2x4x256 : Shape := ⟨4, ![4, 2, 4, 256]⟩
abbrev S4x2x4x256x1 : Shape := ⟨5, ![4, 2, 4, 256, 1]⟩
abbrev S4x2x128x4x256 : Shape := ⟨5, ![4, 2, 128, 4, 256]⟩
abbrev S4x256x2x4x128 : Shape := ⟨5, ![4, 256, 2, 4, 128]⟩
abbrev S1024x1024 : Shape := ⟨2, ![1024, 1024]⟩
abbrev S17408x1024 : Shape := ⟨2, ![17408, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4x8x4352x128, .f32⟩
  | .hbm, ⟨1, _⟩ => ⟨S4x2x4352x128, .f32⟩
  | .hbm, ⟨2, _⟩ => ⟨S4x2x4352x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4x2x4x4352x128, .f32⟩
  | .hbm, ⟨8, _⟩ => ⟨S4x2x4x4096x128, .f32⟩
  | .hbm, ⟨9, _⟩ => ⟨S4x2x4x4096x4352, .f32⟩
  | .hbm, ⟨10, _⟩ => ⟨S4x2x4x4096x4352, .f32⟩
  | .hbm, ⟨11, _⟩ => ⟨S4x2x4x4096x4352, .f32⟩
  | .hbm, ⟨12, _⟩ => ⟨S_, .f32⟩
  | .hbm, ⟨13, _⟩ => ⟨S4x2x4x4096, .f32⟩
  | .hbm, ⟨14, _⟩ => ⟨S_, .f32⟩
  | .hbm, ⟨15, _⟩ => ⟨S4x2x4x4096, .f32⟩
  | .hbm, ⟨16, _⟩ => ⟨S4x2x4x4096, .f32⟩
  | .hbm, ⟨17, _⟩ => ⟨S4x2x4x4096x1, .f32⟩
  | .hbm, ⟨18, _⟩ => ⟨S4x2x4x4096x4352, .f32⟩
  | .hbm, ⟨19, _⟩ => ⟨S4x2x4x4096x4352, .f32⟩
  | .hbm, ⟨20, _⟩ => ⟨S4x2x4x4096x4352, .f32⟩
  | .hbm, ⟨21, _⟩ => ⟨S_, .f32⟩
  | .hbm, ⟨22, _⟩ => ⟨S4x2x4x4096, .f32⟩
  | .hbm, ⟨23, _⟩ => ⟨S4x2x4x4096x1, .f32⟩
  | .hbm, ⟨24, _⟩ => ⟨S4x2x4x4096x4352, .f32⟩
  | .hbm, ⟨25, _⟩ => ⟨S4x2x4x4096x4352, .f32⟩
  | .hbm, ⟨26, _⟩ => ⟨S4x2x128x4x4096, .f32⟩
  | .hbm, ⟨27, _⟩ => ⟨S4x4096x2x4x128, .f32⟩
  | .hbm, ⟨28, _⟩ => ⟨S16384x1024, .f32⟩
  | .hbm, ⟨29, _⟩ => ⟨S4x2x4x256x128, .f32⟩
  | .hbm, ⟨30, _⟩ => ⟨S4x2x256x128, .f32⟩
  | .hbm, ⟨31, _⟩ => ⟨S4x2x256x128, .f32⟩
  | .hbm, ⟨32, _⟩ => ⟨S4x2x4x256x256, .f32⟩
  | .hbm, ⟨33, _⟩ => ⟨S4x2x4x256x256, .f32⟩
  | .hbm, ⟨34, _⟩ => ⟨S4x2x4x256x256, .f32⟩
  | .hbm, ⟨35, _⟩ => ⟨S_, .f32⟩
  | .hbm, ⟨36, _⟩ => ⟨S4x2x4x256, .f32⟩
  | .hbm, ⟨37, _⟩ => ⟨S_, .f32⟩
  | .hbm, ⟨38, _⟩ => ⟨S4x2x4x256, .f32⟩
  | .hbm, ⟨39, _⟩ => ⟨S4x2x4x256, .f32⟩
  | .hbm, ⟨40, _⟩ => ⟨S4x2x4x256x1, .f32⟩
  | .hbm, ⟨41, _⟩ => ⟨S4x2x4x256x256, .f32⟩
  | .hbm, ⟨42, _⟩ => ⟨S4x2x4x256x256, .f32⟩
  | .hbm, ⟨43, _⟩ => ⟨S4x2x4x256x256, .f32⟩
  | .hbm, ⟨44, _⟩ => ⟨S_, .f32⟩
  | .hbm, ⟨45, _⟩ => ⟨S4x2x4x256, .f32⟩
  | .hbm, ⟨46, _⟩ => ⟨S4x2x4x256x1, .f32⟩
  | .hbm, ⟨47, _⟩ => ⟨S4x2x4x256x256, .f32⟩
  | .hbm, ⟨48, _⟩ => ⟨S4x2x4x256x256, .f32⟩
  | .hbm, ⟨49, _⟩ => ⟨S4x2x128x4x256, .f32⟩
  | .hbm, ⟨50, _⟩ => ⟨S4x256x2x4x128, .f32⟩
  | .hbm, ⟨51, _⟩ => ⟨S1024x1024, .f32⟩
  | .hbm, ⟨52, _⟩ => ⟨S17408x1024, .f32⟩
  | .hbm, ⟨53, _⟩ => ⟨S17408x1024, .bf16⟩
  | _, _ => ⟨S4x8x4352x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩

abbrev nD : Nat := 1
abbrev τ : Topo := Topo.v7x

variable {F : FTy → Type} [FloatOps F]
-- ==== Mla.lean ====
abbrev S4x8x4352x192 : Shape := ⟨4, ![4, 8, 4352, 192]⟩
abbrev S4x8x4352x128 : Shape := ⟨4, ![4, 8, 4352, 128]⟩
abbrev S_ : Shape := ⟨0, ![]⟩
abbrev S4x8x4352x256 : Shape := ⟨4, ![4, 8, 4352, 256]⟩
abbrev S17408x1024 : Shape := ⟨2, ![17408, 1024]⟩
abbrev S1x4x256x256 : Shape := ⟨4, ![1, 4, 256, 256]⟩
abbrev S1x4x4352x256 : Shape := ⟨4, ![1, 4, 4352, 256]⟩
abbrev S256x512 : Shape := ⟨2, ![256, 512]⟩
abbrev S1x1x256x256 : Shape := ⟨4, ![1, 1, 256, 256]⟩
abbrev S256x256 : Shape := ⟨2, ![256, 256]⟩
abbrev S256 : Shape := ⟨1, ![256]⟩
abbrev S256x1 : Shape := ⟨2, ![256, 1]⟩
abbrev S256x128 : Shape := ⟨2, ![256, 128]⟩
abbrev S1x1x4352x256 : Shape := ⟨4, ![1, 1, 4352, 256]⟩
abbrev S4352x256 : Shape := ⟨2, ![4352, 256]⟩
abbrev S256x4352 : Shape := ⟨2, ![256, 4352]⟩

abbrev nBuf : Space → Nat
  | .hbm => 28
  | .vmem => 8
  | .smem => 0
  | _ => 0

abbrev bufTy : (tb : Table) → Fin (tcTables nBuf tb) → BufTy
  | .hbm, ⟨0, _⟩ => ⟨S4x8x4352x192, .f32⟩
  | .hbm, ⟨1, _⟩ => ⟨S4x8x4352x192, .f32⟩
  | .hbm, ⟨2, _⟩ => ⟨S4x8x4352x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x8x4352x192, .f32⟩
  | .hbm, ⟨11, _⟩ => ⟨S4x8x4352x192, .f32⟩
  | .hbm, ⟨12, _⟩ => ⟨S_, .i32⟩
  | .hbm, ⟨13, _⟩ => ⟨S_, .f32⟩
  | .hbm, ⟨14, _⟩ => ⟨S4x8x4352x256, .f32⟩
  | .hbm, ⟨15, _⟩ => ⟨S4x8x4352x256, .bf16⟩
  | .hbm, ⟨16, _⟩ => ⟨S_, .i32⟩
  | .hbm, ⟨17, _⟩ => ⟨S_, .f32⟩
  | .hbm, ⟨18, _⟩ => ⟨S4x8x4352x256, .f32⟩
  | .hbm, ⟨19, _⟩ => ⟨S4x8x4352x256, .bf16⟩
  | .hbm, ⟨20, _⟩ => ⟨S4x8x4352x128, .i32⟩
  | .hbm, ⟨21, _⟩ => ⟨S_, .i32⟩
  | .hbm, ⟨22, _⟩ => ⟨S4x8x4352x128, .i32⟩
  | .hbm, ⟨23, _⟩ => ⟨S4x8x4352x128, .i1⟩
  | .hbm, ⟨24, _⟩ => ⟨S4x8x4352x128, .f32⟩
  | .hbm, ⟨25, _⟩ => ⟨S4x8x4352x256, .f32⟩
  | .hbm, ⟨26, _⟩ => ⟨S4x8x4352x256, .bf16⟩
  | .hbm, ⟨27, _⟩ => ⟨S17408x1024, .bf16⟩
  | .local _ .vmem, ⟨0, _⟩ => ⟨S1x4x256x256, .bf16⟩
  | .local _ .vmem, ⟨1, _⟩ => ⟨S1x4x256x256, .bf16⟩
  | .local _ .vmem, ⟨2, _⟩ => ⟨S1x4x4352x256, .bf16⟩
  | .local _ .vmem, ⟨3, _⟩ => ⟨S1x4x4352x256, .bf16⟩
  | .local _ .vmem, ⟨4, _⟩ => ⟨S1x4x4352x256, .bf16⟩
  | .local _ .vmem, ⟨5, _⟩ => ⟨S1x4x4352x256, .bf16⟩
  | .local _ .vmem, ⟨6, _⟩ => ⟨S256x512, .bf16⟩
  | .local _ .vmem, ⟨7, _⟩ => ⟨S256x512, .bf16⟩
  | _, _ => ⟨S4x8x4352x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 17], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32 : BitVec 32 := 0#32
  let v0 : BitVec 1 := Scalar.cmpi .eq arg2 c0_i32
  let v_true : BitVec 1 := 1#1
  let v3 : BitVec 1 := Scalar.xori v0 v_true
  let v4 : BitVec 32 := Scalar.extui v3
  let c0_i32_1 : BitVec 32 := 0#32
  let v5 : BitVec 1 := Scalar.cmpi .ne v4 c0_i32_1
  v5

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg2 c0_i32
  let c64_i32 : BitVec 32 := 64#32
  let v1 : BitVec 32 := Scalar.addi c64_i32 arg0
  let c16_i32 : BitVec 32 := 16#32
  let v2 : BitVec 32 := Scalar.muli arg0 c16_i32
  let v3 : BitVec 32 := Scalar.addi v2 arg2
  let c1_i32 : BitVec 32 := 1#32
  let v4 : BitVec 32 := Scalar.subi v3 c1_i32
  let v5 : BitVec 32 := Scalar.select v0 v1 v4
  let c0_i32_0 : BitVec 32 := 0#32
  ![v5.toNat, arg1.toNat]

abbrev stage0_0 : Fin 2 → Memref sig .tc .vmem S1x4x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x4352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4x4352x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== MlaRefIdeal.lean ====
abbrev S4x8x4352x192 : Shape := ⟨4, ![4, 8, 4352, 192]⟩
abbrev S4x8x4352x128 : Shape := ⟨4, ![4, 8, 4352, 128]⟩
abbrev S_ : Shape := ⟨0, ![]⟩
abbrev S4x8x1x4352x192 : Shape := ⟨5, ![4, 8, 1, 4352, 192]⟩
abbrev S4x8x1x4096x192 : Shape := ⟨5, ![4, 8, 1, 4096, 192]⟩
abbrev S4x8x1x4096x4352 : Shape := ⟨5, ![4, 8, 1, 4096, 4352]⟩
abbrev S4x8x1x4096 : Shape := ⟨4, ![4, 8, 1, 4096]⟩
abbrev S4x8x1x4096x1 : Shape := ⟨5, ![4, 8, 1, 4096, 1]⟩
abbrev S4x8x128x1x4096 : Shape := ⟨5, ![4, 8, 128, 1, 4096]⟩
abbrev S4x4096x8x1x128 : Shape := ⟨5, ![4, 4096, 8, 1, 128]⟩
abbrev S16384x1024 : Shape := ⟨2, ![16384, 1024]⟩
abbrev S4x8x1x256x192 : Shape := ⟨5, ![4, 8, 1, 256, 192]⟩
abbrev S4x8x256x192 : Shape := ⟨4, ![4, 8, 256, 192]⟩
abbrev S4x8x256x128 : Shape := ⟨4, ![4, 8, 256, 128]⟩
abbrev S4x8x1x256x256 : Shape := ⟨5, ![4, 8, 1, 256, 256]⟩
abbrev S4x8x1x256 : Shape := ⟨4, ![4, 8, 1, 256]⟩
abbrev S4x8x1x256x1 : Shape := ⟨5, ![4, 8, 1, 256, 1]⟩
abbrev S4x8x128x1x256 : Shape := ⟨5, ![4, 8, 128, 1, 256]⟩
abbrev S4x256x8x1x128 : Shape := ⟨5, ![4, 256, 8, 1, 128]⟩
abbrev S1024x1024 : Shape := ⟨2, ![1024, 1024]⟩
abbrev S17408x1024 : Shape := ⟨2, ![17408, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4x8x4352x192, .f32⟩
  | .hbm, ⟨1, _⟩ => ⟨S4x8x4352x192, .f32⟩
  | .hbm, ⟨2, _⟩ => ⟨S4x8x4352x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4x8x1x4352x192, .f32⟩
  | .hbm, ⟨8, _⟩ => ⟨S4x8x1x4096x192, .f32⟩
  | .hbm, ⟨9, _⟩ => ⟨S4x8x1x4096x4352, .f32⟩
  | .hbm, ⟨10, _⟩ => ⟨S4x8x1x4096x4352, .f32⟩
  | .hbm, ⟨11, _⟩ => ⟨S4x8x1x4096x4352, .f32⟩
  | .hbm, ⟨12, _⟩ => ⟨S_, .f32⟩
  | .hbm, ⟨13, _⟩ => ⟨S4x8x1x4096, .f32⟩
  | .hbm, ⟨14, _⟩ => ⟨S_, .f32⟩
  | .hbm, ⟨15, _⟩ => ⟨S4x8x1x4096, .f32⟩
  | .hbm, ⟨16, _⟩ => ⟨S4x8x1x4096, .f32⟩
  | .hbm, ⟨17, _⟩ => ⟨S4x8x1x4096x1, .f32⟩
  | .hbm, ⟨18, _⟩ => ⟨S4x8x1x4096x4352, .f32⟩
  | .hbm, ⟨19, _⟩ => ⟨S4x8x1x4096x4352, .f32⟩
  | .hbm, ⟨20, _⟩ => ⟨S4x8x1x4096x4352, .f32⟩
  | .hbm, ⟨21, _⟩ => ⟨S_, .f32⟩
  | .hbm, ⟨22, _⟩ => ⟨S4x8x1x4096, .f32⟩
  | .hbm, ⟨23, _⟩ => ⟨S4x8x1x4096x1, .f32⟩
  | .hbm, ⟨24, _⟩ => ⟨S4x8x1x4096x4352, .f32⟩
  | .hbm, ⟨25, _⟩ => ⟨S4x8x1x4096x4352, .f32⟩
  | .hbm, ⟨26, _⟩ => ⟨S4x8x128x1x4096, .f32⟩
  | .hbm, ⟨27, _⟩ => ⟨S4x4096x8x1x128, .f32⟩
  | .hbm, ⟨28, _⟩ => ⟨S16384x1024, .f32⟩
  | .hbm, ⟨29, _⟩ => ⟨S4x8x1x256x192, .f32⟩
  | .hbm, ⟨30, _⟩ => ⟨S4x8x256x192, .f32⟩
  | .hbm, ⟨31, _⟩ => ⟨S4x8x256x128, .f32⟩
  | .hbm, ⟨32, _⟩ => ⟨S4x8x1x256x256, .f32⟩
  | .hbm, ⟨33, _⟩ => ⟨S4x8x1x256x256, .f32⟩
  | .hbm, ⟨34, _⟩ => ⟨S4x8x1x256x256, .f32⟩
  | .hbm, ⟨35, _⟩ => ⟨S_, .f32⟩
  | .hbm, ⟨36, _⟩ => ⟨S4x8x1x256, .f32⟩
  | .hbm, ⟨37, _⟩ => ⟨S_, .f32⟩
  | .hbm, ⟨38, _⟩ => ⟨S4x8x1x256, .f32⟩
  | .hbm, ⟨39, _⟩ => ⟨S4x8x1x256, .f32⟩
  | .hbm, ⟨40, _⟩ => ⟨S4x8x1x256x1, .f32⟩
  | .hbm, ⟨41, _⟩ => ⟨S4x8x1x256x256, .f32⟩
  | .hbm, ⟨42, _⟩ => ⟨S4x8x1x256x256, .f32⟩
  | .hbm, ⟨43, _⟩ => ⟨S4x8x1x256x256, .f32⟩
  | .hbm, ⟨44, _⟩ => ⟨S_, .f32⟩
  | .hbm, ⟨45, _⟩ => ⟨S4x8x1x256, .f32⟩
  | .hbm, ⟨46, _⟩ => ⟨S4x8x1x256x1, .f32⟩
  | .hbm, ⟨47, _⟩ => ⟨S4x8x1x256x256, .f32⟩
  | .hbm, ⟨48, _⟩ => ⟨S4x8x1x256x256, .f32⟩
  | .hbm, ⟨49, _⟩ => ⟨S4x8x128x1x256, .f32⟩
  | .hbm, ⟨50, _⟩ => ⟨S4x256x8x1x128, .f32⟩
  | .hbm, ⟨51, _⟩ => ⟨S1024x1024, .f32⟩
  | .hbm, ⟨52, _⟩ => ⟨S17408x1024, .f32⟩
  | .hbm, ⟨53, _⟩ => ⟨S17408x1024, .bf16⟩
  | _, _ => ⟨S4x8x4352x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩

abbrev nD : Nat := 1
abbrev τ : Topo := Topo.v7x

variable {F : FTy → Type} [FloatOps F]
-- ==== FfnUp0.lean ====
abbrev S17408x2048 : Shape := ⟨2, ![17408, 2048]⟩
abbrev S2x2048x5632 : Shape := ⟨3, ![2, 2048, 5632]⟩
abbrev S17408x5632 : Shape := ⟨2, ![17408, 5632]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 4
  | .vmem => 8
  | .smem => 0
  | _ => 0

abbrev bufTy : (tb : Table) → Fin (tcTables nBuf tb) → BufTy
  | .hbm, ⟨0, _⟩ => ⟨S17408x2048, .bf16⟩
  | .hbm, ⟨1, _⟩ => ⟨S2x2048x5632, .f32⟩
  | .hbm, ⟨2, _⟩ => ⟨S2x2048x5632, .f32⟩
  | .hbm, ⟨3, _⟩ => ⟨S17408x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1024x512, .bf16⟩
  | .local _ .vmem, ⟨7, _⟩ => ⟨S1024x512, .bf16⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![17, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnUp0RefIdeal.lean ====
abbrev S17408x2048 : Shape := ⟨2, ![17408, 2048]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S17408x5632 : Shape := ⟨2, ![17408, 5632]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S2x2048x5632, .f32⟩
  | .hbm, ⟨2, _⟩ => ⟨S2x2048x5632, .f32⟩
  | .hbm, ⟨3, _⟩ => ⟨S1x2048x5632, .f32⟩
  | .hbm, ⟨4, _⟩ => ⟨S2048x5632, .f32⟩
  | .hbm, ⟨5, _⟩ => ⟨S1x2048x5632, .f32⟩
  | .hbm, ⟨6, _⟩ => ⟨S2048x5632, .f32⟩
  | .hbm, ⟨7, _⟩ => ⟨S17408x2048, .f32⟩
  | .hbm, ⟨8, _⟩ => ⟨S17408x5632, .f32⟩
  | .hbm, ⟨9, _⟩ => ⟨S17408x5632, .f32⟩
  | .hbm, ⟨10, _⟩ => ⟨S17408x5632, .f32⟩
  | .hbm, ⟨11, _⟩ => ⟨S_, .f32⟩
  | .hbm, ⟨12, _⟩ => ⟨S17408x5632, .f32⟩
  | .hbm, ⟨13, _⟩ => ⟨S17408x5632, .f32⟩
  | .hbm, ⟨14, _⟩ => ⟨S_, .f32⟩
  | .hbm, ⟨15, _⟩ => ⟨S17408x5632, .f32⟩
  | .hbm, ⟨16, _⟩ => ⟨S17408x5632, .f32⟩
  | .hbm, ⟨17, _⟩ => ⟨S17408x5632, .f32⟩
  | .hbm, ⟨18, _⟩ => ⟨S17408x5632, .f32⟩
  | .hbm, ⟨19, _⟩ => ⟨S17408x5632, .f32⟩
  | .hbm, ⟨20, _⟩ => ⟨S17408x5632, .bf16⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== FfnUp1.lean ====
abbrev S16384x2048 : Shape := ⟨2, ![16384, 2048]⟩
abbrev S2x2048x5632 : Shape := ⟨3, ![2, 2048, 5632]⟩
abbrev S16384x5632 : Shape := ⟨2, ![16384, 5632]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 4
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2x2048x5632, .f32⟩
  | .hbm, ⟨2, _⟩ => ⟨S2x2048x5632, .f32⟩
  | .hbm, ⟨3, _⟩ => ⟨S16384x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1024x512, .bf16⟩
  | .local _ .vmem, ⟨7, _⟩ => ⟨S1024x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnUp1RefIdeal.lean ====
abbrev S16384x2048 : Shape := ⟨2, ![16384, 2048]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S16384x5632 : Shape := ⟨2, ![16384, 5632]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x5632, .f32⟩
  | .hbm, ⟨2, _⟩ => ⟨S2x2048x5632, .f32⟩
  | .hbm, ⟨3, _⟩ => ⟨S1x2048x5632, .f32⟩
  | .hbm, ⟨4, _⟩ => ⟨S2048x5632, .f32⟩
  | .hbm, ⟨5, _⟩ => ⟨S1x2048x5632, .f32⟩
  | .hbm, ⟨6, _⟩ => ⟨S2048x5632, .f32⟩
  | .hbm, ⟨7, _⟩ => ⟨S16384x2048, .f32⟩
  | .hbm, ⟨8, _⟩ => ⟨S16384x5632, .f32⟩
  | .hbm, ⟨9, _⟩ => ⟨S16384x5632, .f32⟩
  | .hbm, ⟨10, _⟩ => ⟨S16384x5632, .f32⟩
  | .hbm, ⟨11, _⟩ => ⟨S_, .f32⟩
  | .hbm, ⟨12, _⟩ => ⟨S16384x5632, .f32⟩
  | .hbm, ⟨13, _⟩ => ⟨S16384x5632, .f32⟩
  | .hbm, ⟨14, _⟩ => ⟨S_, .f32⟩
  | .hbm, ⟨15, _⟩ => ⟨S16384x5632, .f32⟩
  | .hbm, ⟨16, _⟩ => ⟨S16384x5632, .f32⟩
  | .hbm, ⟨17, _⟩ => ⟨S16384x5632, .f32⟩
  | .hbm, ⟨18, _⟩ => ⟨S16384x5632, .f32⟩
  | .hbm, ⟨19, _⟩ => ⟨S16384x5632, .f32⟩
  | .hbm, ⟨20, _⟩ => ⟨S16384x5632, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== RecIn.lean ====
abbrev S17408x2048 : Shape := ⟨2, ![17408, 2048]⟩
abbrev S1x2048x7168 : Shape := ⟨3, ![1, 2048, 7168]⟩
abbrev S17408x7168 : Shape := ⟨2, ![17408, 7168]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S17408x2048, .bf16⟩
  | .hbm, ⟨1, _⟩ => ⟨S1x2048x7168, .f32⟩
  | .hbm, ⟨2, _⟩ => ⟨S17408x7168, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![17, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RecInRefIdeal.lean ====
abbrev S17408x2048 : Shape := ⟨2, ![17408, 2048]⟩
abbrev S1x2048x7168 : Shape := ⟨3, ![1, 2048, 7168]⟩
abbrev S2048x7168 : Shape := ⟨2, ![2048, 7168]⟩
abbrev S17408x7168 : Shape := ⟨2, ![17408, 7168]⟩

abbrev nBuf : Space → Nat
  | .hbm => 5
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S1x2048x7168, .f32⟩
  | .hbm, ⟨2, _⟩ => ⟨S17408x2048, .f32⟩
  | .hbm, ⟨3, _⟩ => ⟨S2048x7168, .f32⟩
  | .hbm, ⟨4, _⟩ => ⟨S17408x7168, .f32⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixOut0.lean ====
abbrev S17408x1024 : Shape := ⟨2, ![17408, 1024]⟩
abbrev S2x2048x2048 : Shape := ⟨3, ![2, 2048, 2048]⟩
abbrev S4x4096x2048 : Shape := ⟨3, ![4, 4096, 2048]⟩
abbrev S4x256x2048 : Shape := ⟨3, ![4, 256, 2048]⟩
abbrev S2x8x12288 : Shape := ⟨3, ![2, 8, 12288]⟩
abbrev S2x2048 : Shape := ⟨2, ![2, 2048]⟩
abbrev S16384x2048 : Shape := ⟨2, ![16384, 2048]⟩
abbrev S1024x2048 : Shape := ⟨2, ![1024, 2048]⟩
abbrev S96x1x2048 : Shape := ⟨3, ![96, 1, 2048]⟩
abbrev S1x2048 : Shape := ⟨2, ![1, 2048]⟩
abbrev S2048 : Shape := ⟨1, ![2048]⟩
abbrev S17408x2048 : Shape := ⟨2, ![17408, 2048]⟩
abbrev S512x1024 : Shape := ⟨2, ![512, 1024]⟩
abbrev S1x1024x2048 : Shape := ⟨3, ![1, 1024, 2048]⟩
abbrev S512x2048 : Shape := ⟨2, ![512, 2048]⟩
abbrev S1x1x2048 : Shape := ⟨3, ![1, 1, 2048]⟩
abbrev S128x1024 : Shape := ⟨2, ![128, 1024]⟩
abbrev S128x2048 : Shape := ⟨2, ![128, 2048]⟩
abbrev S128 : Shape := ⟨1, ![128]⟩
abbrev S128x1 : Shape := ⟨2, ![128, 1]⟩

abbrev nBuf : Space → Nat
  | .hbm => 16
  | .vmem => 21
  | .smem => 0
  | _ => 0

abbrev bufTy : (tb : Table) → Fin (tcTables nBuf tb) → BufTy
  | .hbm, ⟨0, _⟩ => ⟨S17408x1024, .bf16⟩
  | .hbm, ⟨1, _⟩ => ⟨S17408x1024, .bf16⟩
  | .hbm, ⟨2, _⟩ => ⟨S2x2048x2048, .f32⟩
  | .hbm, ⟨3, _⟩ => ⟨S4x4096x2048, .f32⟩
  | .hbm, ⟨4, _⟩ => ⟨S4x256x2048, .f32⟩
  | .hbm, ⟨5, _⟩ => ⟨S2x8x12288, .f32⟩
  | .hbm, ⟨6, _⟩ => ⟨S2x2048, .f32⟩
  | .hbm, ⟨7, _⟩ => ⟨S2x2048x2048, .bf16⟩
  | .hbm, ⟨8, _⟩ => ⟨S16384x2048, .f32⟩
  | .hbm, ⟨9, _⟩ => ⟨S1024x2048, .f32⟩
  | .hbm, ⟨10, _⟩ => ⟨S96x1x2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S17408x2048, .f32⟩
  | .hbm, ⟨15, _⟩ => ⟨S17408x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x1x2048, .f32⟩
  | .local _ .vmem, ⟨16, _⟩ => ⟨S1x1x2048, .f32⟩
  | .local _ .vmem, ⟨17, _⟩ => ⟨S512x2048, .f32⟩
  | .local _ .vmem, ⟨18, _⟩ => ⟨S512x2048, .f32⟩
  | .local _ .vmem, ⟨19, _⟩ => ⟨S512x2048, .bf16⟩
  | .local _ .vmem, ⟨20, _⟩ => ⟨S512x2048, .bf16⟩
  | _, _ => ⟨S17408x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c6_i32 : BitVec 32 := 6#32
  let v19 : BitVec 32 := Scalar.muli v18 c6_i32
  let c2_i32 : BitVec 32 := 2#32
  let v20 : BitVec 32 := Scalar.addi c2_i32 v19
  let c0_i32_4 : BitVec 32 := 0#32
  let c0_i32_5 : BitVec 32 := 0#32
  let c0_i32_6 : BitVec 32 := 0#32
  ![v20.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c6_i32 : BitVec 32 := 6#32
  let v19 : BitVec 32 := Scalar.muli v18 c6_i32
  let c3_i32 : BitVec 32 := 3#32
  let v20 : BitVec 32 := Scalar.addi c3_i32 v19
  let c0_i32_4 : BitVec 32 := 0#32
  let c0_i32_5 : BitVec 32 := 0#32
  let c0_i32_6 : BitVec 32 := 0#32
  ![v20.toNat, c0_i32_4.toNat, c0_i32_5.toNat]

def cc0_transform_9 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c6_i32 : BitVec 32 := 6#32
  let v19 : BitVec 32 := Scalar.muli v18 c6_i32
  let c4_i32_4 : BitVec 32 := 4#32
  let v20 : BitVec 32 := Scalar.addi c4_i32_4 v19
  let c0_i32_5 : BitVec 32 := 0#32
  let c0_i32_6 : BitVec 32 := 0#32
  let c0_i32_7 : BitVec 32 := 0#32
  ![v20.toNat, c0_i32_5.toNat, c0_i32_6.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MixOut0RefIdeal.lean ====
abbrev S17408x1024 : Shape := ⟨2, ![17408, 1024]⟩
abbrev S2x2048x2048 : Shape := ⟨3, ![2, 2048, 2048]⟩
abbrev S4x4096x2048 : Shape := ⟨3, ![4, 4096, 2048]⟩
abbrev S4x256x2048 : Shape := ⟨3, ![4, 256, 2048]⟩
abbrev S2x8x12288 : Shape := ⟨3, ![2, 8, 12288]⟩
abbrev S2x2048 : Shape := ⟨2, ![2, 2048]⟩
abbrev S17408x2048 : Shape := ⟨2, ![17408, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S1x4x2048 : Shape := ⟨3, ![1, 4, 2048]⟩
abbrev S4x2048 : Shape := ⟨2, ![4, 2048]⟩
abbrev S4x1x2048 : Shape := ⟨3, ![4, 1, 2048]⟩
abbrev S16384x2048 : Shape := ⟨2, ![16384, 2048]⟩
abbrev S1x1x2048 : Shape := ⟨3, ![1, 1, 2048]⟩
abbrev S1024x2048 : Shape := ⟨2, ![1024, 2048]⟩
abbrev S_ : Shape := ⟨0, ![]⟩
abbrev S4x4096 : Shape := ⟨2, ![4, 4096]⟩
abbrev S4x4096x1 : Shape := ⟨3, ![4, 4096, 1]⟩
abbrev S4x256 : Shape := ⟨2, ![4, 256]⟩
abbrev S4x256x1 : Shape := ⟨3, ![4, 256, 1]⟩

abbrev nBuf : Space → Nat
  | .hbm => 97
  | .vmem => 0
  | .smem => 0
  | _ => 0

abbrev bufTy : (tb : Table) → Fin (tcTables nBuf tb) → BufTy
  | .hbm, ⟨0, _⟩ => ⟨S17408x1024, .bf16⟩
  | .hbm, ⟨1, _⟩ => ⟨S17408x1024, .bf16⟩
  | .hbm, ⟨2, _⟩ => ⟨S2x2048x2048, .f32⟩
  | .hbm, ⟨3, _⟩ => ⟨S4x4096x2048, .f32⟩
  | .hbm, ⟨4, _⟩ => ⟨S4x256x2048, .f32⟩
  | .hbm, ⟨5, _⟩ => ⟨S2x8x12288, .f32⟩
  | .hbm, ⟨6, _⟩ => ⟨S2x2048, .f32⟩
  | .hbm, ⟨7, _⟩ => ⟨S17408x2048, .bf16⟩
  | .hbm, ⟨8, _⟩ => ⟨S1x2048x2048, .f32⟩
  | .hbm, ⟨9, _⟩ => ⟨S2048x2048, .f32⟩
  | .hbm, ⟨10, _⟩ => ⟨S1x2048, .f32⟩
  | .hbm, ⟨11, _⟩ => ⟨S2048, .f32⟩
  | .hbm, ⟨12, _⟩ => ⟨S1x4x2048, .f32⟩
  | .hbm, ⟨13, _⟩ => ⟨S4x2048, .f32⟩
  | .hbm, ⟨14, _⟩ => ⟨S4x1x2048, .f32⟩
  | .hbm, ⟨15, _⟩ => ⟨S16384x2048, .bf16⟩
  | .hbm, ⟨16, _⟩ => ⟨S4x4096x2048, .bf16⟩
  | .hbm, ⟨17, _⟩ => ⟨S4x4096x2048, .f32⟩
  | .hbm, ⟨18, _⟩ => ⟨S4x4096x2048, .f32⟩
  | .hbm, ⟨19, _⟩ => ⟨S4x4096x2048, .f32⟩
  | .hbm, ⟨20, _⟩ => ⟨S4x4096x2048, .f32⟩
  | .hbm, ⟨21, _⟩ => ⟨S4x4096x2048, .f32⟩
  | .hbm, ⟨22, _⟩ => ⟨S1x1x2048, .f32⟩
  | .hbm, ⟨23, _⟩ => ⟨S2048, .f32⟩
  | .hbm, ⟨24, _⟩ => ⟨S1024x2048, .bf16⟩
  | .hbm, ⟨25, _⟩ => ⟨S4x256x2048, .bf16⟩
  | .hbm, ⟨26, _⟩ => ⟨S4x256x2048, .f32⟩
  | .hbm, ⟨27, _⟩ => ⟨S4x256x2048, .f32⟩
  | .hbm, ⟨28, _⟩ => ⟨S1x1x2048, .f32⟩
  | .hbm, ⟨29, _⟩ => ⟨S4x256x2048, .f32⟩
  | .hbm, ⟨30, _⟩ => ⟨S4x256x2048, .f32⟩
  | .hbm, ⟨31, _⟩ => ⟨S4x256x2048, .f32⟩
  | .hbm, ⟨32, _⟩ => ⟨S4x4096x2048, .f32⟩
  | .hbm, ⟨33, _⟩ => ⟨S_, .f32⟩
  | .hbm, ⟨34, _⟩ => ⟨S4x4096, .f32⟩
  | .hbm, ⟨35, _⟩ => ⟨S4x4096x1, .f32⟩
  | .hbm, ⟨36, _⟩ => ⟨S_, .f32⟩
  | .hbm, ⟨37, _⟩ => ⟨S4x4096x1, .f32⟩
  | .hbm, ⟨38, _⟩ => ⟨S4x4096x1, .f32⟩
  | .hbm, ⟨39, _⟩ => ⟨S_, .f32⟩
  | .hbm, ⟨40, _⟩ => ⟨S4x4096x1, .f32⟩
  | .hbm, ⟨41, _⟩ => ⟨S4x4096x1, .f32⟩
  | .hbm, ⟨42, _⟩ => ⟨S4x4096x1, .f32⟩
  | .hbm, ⟨43, _⟩ => ⟨S4x4096x2048, .f32⟩
  | .hbm, ⟨44, _⟩ => ⟨S4x4096x2048, .f32⟩
  | .hbm, ⟨45, _⟩ => ⟨S1x1x2048, .f32⟩
  | .hbm, ⟨46, _⟩ => ⟨S4x4096x2048, .f32⟩
  | .hbm, ⟨47, _⟩ => ⟨S4x4096x2048, .f32⟩
  | .hbm, ⟨48, _⟩ => ⟨S1x4x2048, .f32⟩
  | .hbm, ⟨49, _⟩ => ⟨S4x2048, .f32⟩
  | .hbm, ⟨50, _⟩ => ⟨S4x1x2048, .f32⟩
  | .hbm, ⟨51, _⟩ => ⟨S1x4x2048, .f32⟩
  | .hbm, ⟨52, _⟩ => ⟨S4x2048, .f32⟩
  | .hbm, ⟨53, _⟩ => ⟨S4x1x2048, .f32⟩
  | .hbm, ⟨54, _⟩ => ⟨S_, .f32⟩
  | .hbm, ⟨55, _⟩ => ⟨S4x1x2048, .f32⟩
  | .hbm, ⟨56, _⟩ => ⟨S4x1x2048, .f32⟩
  | .hbm, ⟨57, _⟩ => ⟨S4x4096x2048, .f32⟩
  | .hbm, ⟨58, _⟩ => ⟨S4x4096x2048, .f32⟩
  | .hbm, ⟨59, _⟩ => ⟨S4x4096x2048, .f32⟩
  | .hbm, ⟨60, _⟩ => ⟨S4x4096x2048, .f32⟩
  | .hbm, ⟨61, _⟩ => ⟨S4x256x2048, .f32⟩
  | .hbm, ⟨62, _⟩ => ⟨S_, .f32⟩
  | .hbm, ⟨63, _⟩ => ⟨S4x256, .f32⟩
  | .hbm, ⟨64, _⟩ => ⟨S4x256x1, .f32⟩
  | .hbm, ⟨65, _⟩ => ⟨S_, .f32⟩
  | .hbm, ⟨66, _⟩ => ⟨S4x256x1, .f32⟩
  | .hbm, ⟨67, _⟩ => ⟨S4x256x1, .f32⟩
  | .hbm, ⟨68, _⟩ => ⟨S_, .f32⟩
  | .hbm, ⟨69, _⟩ => ⟨S4x256x1, .f32⟩
  | .hbm, ⟨70, _⟩ => ⟨S4x256x1, .f32⟩
  | .hbm, ⟨71, _⟩ => ⟨S4x256x1, .f32⟩
  | .hbm, ⟨72, _⟩ => ⟨S4x256x2048, .f32⟩
  | .hbm, ⟨73, _⟩ => ⟨S4x256x2048, .f32⟩
  | .hbm, ⟨74, _⟩ => ⟨S1x1x2048, .f32⟩
  | .hbm, ⟨75, _⟩ => ⟨S4x256x2048, .f32⟩
  | .hbm, ⟨76, _⟩ => ⟨S4x256x2048, .f32⟩
  | .hbm, ⟨77, _⟩ => ⟨S1x1x2048, .f32⟩
  | .hbm, ⟨78, _⟩ => ⟨S2048, .f32⟩
  | .hbm, ⟨79, _⟩ => ⟨S1x1x2048, .f32⟩
  | .hbm, ⟨80, _⟩ => ⟨S2048, .f32⟩
  | .hbm, ⟨81, _⟩ => ⟨S_, .f32⟩
  | .hbm, ⟨82, _⟩ => ⟨S2048, .f32⟩
  | .hbm, ⟨83, _⟩ => ⟨S2048, .f32⟩
  | .hbm, ⟨84, _⟩ => ⟨S1x1x2048, .f32⟩
  | .hbm, ⟨85, _⟩ => ⟨S4x256x2048, .f32⟩
  | .hbm, ⟨86, _⟩ => ⟨S4x256x2048, .f32⟩
  | .hbm, ⟨87, _⟩ => ⟨S1x1x2048, .f32⟩
  | .hbm, ⟨88, _⟩ => ⟨S4x256x2048, .f32⟩
  | .hbm, ⟨89, _⟩ => ⟨S4x256x2048, .f32⟩
  | .hbm, ⟨90, _⟩ => ⟨S16384x2048, .f32⟩
  | .hbm, ⟨91, _⟩ => ⟨S1024x2048, .f32⟩
  | .hbm, ⟨92, _⟩ => ⟨S17408x2048, .f32⟩
  | .hbm, ⟨93, _⟩ => ⟨S16384x2048, .f32⟩
  | .hbm, ⟨94, _⟩ => ⟨S1024x2048, .f32⟩
  | .hbm, ⟨95, _⟩ => ⟨S17408x2048, .f32⟩
  | .hbm, ⟨96, _⟩ => ⟨S17408x2048, .bf16⟩
  | _, _ => ⟨S17408x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst : Ref sig .tc := ⟨.hbm, 33, rfl⟩
abbrev main_v26 : Ref sig .tc := ⟨.hbm, 34, rfl⟩
abbrev main_v27 : Ref sig .tc := ⟨.hbm, 35, rfl⟩
abbrev main_cst_0 : Ref sig .tc := ⟨.hbm, 36, rfl⟩
abbrev main_v28 : Ref sig .tc := ⟨.hbm, 37, rfl⟩
abbrev main_v29 : Ref sig .tc := ⟨.hbm, 38, rfl⟩
abbrev main_cst_1 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_2 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_3 : Ref sig .tc := ⟨.hbm, 62, rfl⟩
abbrev main_v51 : Ref sig .tc := ⟨.hbm, 63, rfl⟩
abbrev main_v52 : Ref sig .tc := ⟨.hbm, 64, rfl⟩
abbrev main_cst_4 : Ref sig .tc := ⟨.hbm, 65, rfl⟩
abbrev main_v53 : Ref sig .tc := ⟨.hbm, 66, rfl⟩
abbrev main_v54 : Ref sig .tc := ⟨.hbm, 67, rfl⟩
abbrev main_cst_5 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_cst_6 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩

abbrev nD : Nat := 1
abbrev τ : Topo := Topo.v7x

variable {F : FTy → Type} [FloatOps F]
-- ==== FfnDown0.lean ====
abbrev S17408x5632 : Shape := ⟨2, ![17408, 5632]⟩
abbrev S2x5632x2048 : Shape := ⟨3, ![2, 5632, 2048]⟩
abbrev S17408x2048 : Shape := ⟨2, ![17408, 2048]⟩
abbrev S2x8x12288 : Shape := ⟨3, ![2, 8, 12288]⟩
abbrev S2x2048 : Shape := ⟨2, ![2, 2048]⟩
abbrev S96x1x2048 : Shape := ⟨3, ![96, 1, 2048]⟩
abbrev S1x2048 : Shape := ⟨2, ![1, 2048]⟩
abbrev S2048 : Shape := ⟨1, ![2048]⟩
abbrev S256x5632 : Shape := ⟨2, ![256, 5632]⟩
abbrev S1x5632x2048 : Shape := ⟨3, ![1, 5632, 2048]⟩
abbrev S256x2048 : Shape := ⟨2, ![256, 2048]⟩
abbrev S1x1x2048 : Shape := ⟨3, ![1, 1, 2048]⟩
abbrev S5632x2048 : Shape := ⟨2, ![5632, 2048]⟩
abbrev S256 : Shape := ⟨1, ![256]⟩
abbrev S256x1 : Shape := ⟨2, ![256, 1]⟩

abbrev nBuf : Space → Nat
  | .hbm => 12
  | .vmem => 16
  | .smem => 0
  | _ => 0

abbrev bufTy : (tb : Table) → Fin (tcTables nBuf tb) → BufTy
  | .hbm, ⟨0, _⟩ => ⟨S17408x5632, .bf16⟩
  | .hbm, ⟨1, _⟩ => ⟨S2x5632x2048, .f32⟩
  | .hbm, ⟨2, _⟩ => ⟨S17408x2048, .f32⟩
  | .hbm, ⟨3, _⟩ => ⟨S2x8x12288, .f32⟩
  | .hbm, ⟨4, _⟩ => ⟨S2x2048, .f32⟩
  | .hbm, ⟨5, _⟩ => ⟨S2x5632x2048, .bf16⟩
  | .hbm, ⟨6, _⟩ => ⟨S96x1x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S17408x2048, .f32⟩
  | .hbm, ⟨11, _⟩ => ⟨S17408x2048, .bf16⟩
  | .local _ .vmem, ⟨0, _⟩ => ⟨S256x5632, .bf16⟩
  | .local _ .vmem, ⟨1, _⟩ => ⟨S256x5632, .bf16⟩
  | .local _ .vmem, ⟨2, _⟩ => ⟨S1x5632x2048, .bf16⟩
  | .local _ .vmem, ⟨3, _⟩ => ⟨S256x2048, .f32⟩
  | .local _ .vmem, ⟨4, _⟩ => ⟨S256x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | _, _ => ⟨S17408x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c6_i32 : BitVec 32 := 6#32
  let v19 : BitVec 32 := Scalar.muli v18 c6_i32
  let c5_i32 : BitVec 32 := 5#32
  let v20 : BitVec 32 := Scalar.addi c5_i32 v19
  let c0_i32_4 : BitVec 32 := 0#32
  let c0_i32_5 : BitVec 32 := 0#32
  let c0_i32_6 : BitVec 32 := 0#32
  ![v20.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c6_i32 : BitVec 32 := 6#32
  let v19 : BitVec 32 := Scalar.muli v18 c6_i32
  let c48_i32 : BitVec 32 := 48#32
  let v20 : BitVec 32 := Scalar.addi c48_i32 v19
  let c0_i32_4 : BitVec 32 := 0#32
  let c0_i32_5 : BitVec 32 := 0#32
  let c0_i32_6 : BitVec 32 := 0#32
  ![v20.toNat, c0_i32_4.toNat, c0_i32_5.toNat]

def cc0_transform_6 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c6_i32 : BitVec 32 := 6#32
  let v19 : BitVec 32 := Scalar.muli v18 c6_i32
  let c49_i32 : BitVec 32 := 49#32
  let v20 : BitVec 32 := Scalar.addi c49_i32 v19
  let c0_i32_4 : BitVec 32 := 0#32
  let c0_i32_5 : BitVec 32 := 0#32
  let c0_i32_6 : BitVec 32 := 0#32
  ![v20.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnDown0RefIdeal.lean ====
abbrev S17408x5632 : Shape := ⟨2, ![17408, 5632]⟩
abbrev S2x5632x2048 : Shape := ⟨3, ![2, 5632, 2048]⟩
abbrev S17408x2048 : Shape := ⟨2, ![17408, 2048]⟩
abbrev S2x8x12288 : Shape := ⟨3, ![2, 8, 12288]⟩
abbrev S2x2048 : Shape := ⟨2, ![2, 2048]⟩
abbrev S1x5632x2048 : Shape := ⟨3, ![1, 5632, 2048]⟩
abbrev S5632x2048 : Shape := ⟨2, ![5632, 2048]⟩
abbrev S1x2048 : Shape := ⟨2, ![1, 2048]⟩
abbrev S2048 : Shape := ⟨1, ![2048]⟩
abbrev S16384x2048 : Shape := ⟨2, ![16384, 2048]⟩
abbrev S4x4096x2048 : Shape := ⟨3, ![4, 4096, 2048]⟩
abbrev S1x4x2048 : Shape := ⟨3, ![1, 4, 2048]⟩
abbrev S4x2048 : Shape := ⟨2, ![4, 2048]⟩
abbrev S4x1x2048 : Shape := ⟨3, ![4, 1, 2048]⟩
abbrev S16384x5632 : Shape := ⟨2, ![16384, 5632]⟩
abbrev S4x4096x5632 : Shape := ⟨3, ![4, 4096, 5632]⟩
abbrev S1024x2048 : Shape := ⟨2, ![1024, 2048]⟩
abbrev S4x256x2048 : Shape := ⟨3, ![4, 256, 2048]⟩
abbrev S1x1x2048 : Shape := ⟨3, ![1, 1, 2048]⟩
abbrev S1024x5632 : Shape := ⟨2, ![1024, 5632]⟩
abbrev S4x256x5632 : Shape := ⟨3, ![4, 256, 5632]⟩
abbrev S_ : Shape := ⟨0, ![]⟩
abbrev S4x4096 : Shape := ⟨2, ![4, 4096]⟩
abbrev S4x4096x1 : Shape := ⟨3, ![4, 4096, 1]⟩
abbrev S4x256 : Shape := ⟨2, ![4, 256]⟩
abbrev S4x256x1 : Shape := ⟨3, ![4, 256, 1]⟩

abbrev nBuf : Space → Nat
  | .hbm => 98
  | .vmem => 0
  | .smem => 0
  | _ => 0

abbrev bufTy : (tb : Table) → Fin (tcTables nBuf tb) → BufTy
  | .hbm, ⟨0, _⟩ => ⟨S17408x5632, .bf16⟩
  | .hbm, ⟨1, _⟩ => ⟨S2x5632x2048, .f32⟩
  | .hbm, ⟨2, _⟩ => ⟨S17408x2048, .f32⟩
  | .hbm, ⟨3, _⟩ => ⟨S2x8x12288, .f32⟩
  | .hbm, ⟨4, _⟩ => ⟨S2x2048, .f32⟩
  | .hbm, ⟨5, _⟩ => ⟨S1x5632x2048, .f32⟩
  | .hbm, ⟨6, _⟩ => ⟨S5632x2048, .f32⟩
  | .hbm, ⟨7, _⟩ => ⟨S1x2048, .f32⟩
  | .hbm, ⟨8, _⟩ => ⟨S2048, .f32⟩
  | .hbm, ⟨9, _⟩ => ⟨S16384x2048, .f32⟩
  | .hbm, ⟨10, _⟩ => ⟨S4x4096x2048, .f32⟩
  | .hbm, ⟨11, _⟩ => ⟨S1x4x2048, .f32⟩
  | .hbm, ⟨12, _⟩ => ⟨S4x2048, .f32⟩
  | .hbm, ⟨13, _⟩ => ⟨S4x1x2048, .f32⟩
  | .hbm, ⟨14, _⟩ => ⟨S16384x5632, .bf16⟩
  | .hbm, ⟨15, _⟩ => ⟨S4x4096x5632, .bf16⟩
  | .hbm, ⟨16, _⟩ => ⟨S4x4096x5632, .f32⟩
  | .hbm, ⟨17, _⟩ => ⟨S4x4096x2048, .f32⟩
  | .hbm, ⟨18, _⟩ => ⟨S4x4096x2048, .f32⟩
  | .hbm, ⟨19, _⟩ => ⟨S4x4096x2048, .f32⟩
  | .hbm, ⟨20, _⟩ => ⟨S4x4096x2048, .f32⟩
  | .hbm, ⟨21, _⟩ => ⟨S1024x2048, .f32⟩
  | .hbm, ⟨22, _⟩ => ⟨S4x256x2048, .f32⟩
  | .hbm, ⟨23, _⟩ => ⟨S1x1x2048, .f32⟩
  | .hbm, ⟨24, _⟩ => ⟨S2048, .f32⟩
  | .hbm, ⟨25, _⟩ => ⟨S1024x5632, .bf16⟩
  | .hbm, ⟨26, _⟩ => ⟨S4x256x5632, .bf16⟩
  | .hbm, ⟨27, _⟩ => ⟨S4x256x5632, .f32⟩
  | .hbm, ⟨28, _⟩ => ⟨S4x256x2048, .f32⟩
  | .hbm, ⟨29, _⟩ => ⟨S1x1x2048, .f32⟩
  | .hbm, ⟨30, _⟩ => ⟨S4x256x2048, .f32⟩
  | .hbm, ⟨31, _⟩ => ⟨S4x256x2048, .f32⟩
  | .hbm, ⟨32, _⟩ => ⟨S4x256x2048, .f32⟩
  | .hbm, ⟨33, _⟩ => ⟨S4x4096x2048, .f32⟩
  | .hbm, ⟨34, _⟩ => ⟨S_, .f32⟩
  | .hbm, ⟨35, _⟩ => ⟨S4x4096, .f32⟩
  | .hbm, ⟨36, _⟩ => ⟨S4x4096x1, .f32⟩
  | .hbm, ⟨37, _⟩ => ⟨S_, .f32⟩
  | .hbm, ⟨38, _⟩ => ⟨S4x4096x1, .f32⟩
  | .hbm, ⟨39, _⟩ => ⟨S4x4096x1, .f32⟩
  | .hbm, ⟨40, _⟩ => ⟨S_, .f32⟩
  | .hbm, ⟨41, _⟩ => ⟨S4x4096x1, .f32⟩
  | .hbm, ⟨42, _⟩ => ⟨S4x4096x1, .f32⟩
  | .hbm, ⟨43, _⟩ => ⟨S4x4096x1, .f32⟩
  | .hbm, ⟨44, _⟩ => ⟨S4x4096x2048, .f32⟩
  | .hbm, ⟨45, _⟩ => ⟨S4x4096x2048, .f32⟩
  | .hbm, ⟨46, _⟩ => ⟨S1x1x2048, .f32⟩
  | .hbm, ⟨47, _⟩ => ⟨S4x4096x2048, .f32⟩
  | .hbm, ⟨48, _⟩ => ⟨S4x4096x2048, .f32⟩
  | .hbm, ⟨49, _⟩ => ⟨S1x4x2048, .f32⟩
  | .hbm, ⟨50, _⟩ => ⟨S4x2048, .f32⟩
  | .hbm, ⟨51, _⟩ => ⟨S4x1x2048, .f32⟩
  | .hbm, ⟨52, _⟩ => ⟨S1x4x2048, .f32⟩
  | .hbm, ⟨53, _⟩ => ⟨S4x2048, .f32⟩
  | .hbm, ⟨54, _⟩ => ⟨S4x1x2048, .f32⟩
  | .hbm, ⟨55, _⟩ => ⟨S_, .f32⟩
  | .hbm, ⟨56, _⟩ => ⟨S4x1x2048, .f32⟩
  | .hbm, ⟨57, _⟩ => ⟨S4x1x2048, .f32⟩
  | .hbm, ⟨58, _⟩ => ⟨S4x4096x2048, .f32⟩
  | .hbm, ⟨59, _⟩ => ⟨S4x4096x2048, .f32⟩
  | .hbm, ⟨60, _⟩ => ⟨S4x4096x2048, .f32⟩
  | .hbm, ⟨61, _⟩ => ⟨S4x4096x2048, .f32⟩
  | .hbm, ⟨62, _⟩ => ⟨S4x256x2048, .f32⟩
  | .hbm, ⟨63, _⟩ => ⟨S_, .f32⟩
  | .hbm, ⟨64, _⟩ => ⟨S4x256, .f32⟩
  | .hbm, ⟨65, _⟩ => ⟨S4x256x1, .f32⟩
  | .hbm, ⟨66, _⟩ => ⟨S_, .f32⟩
  | .hbm, ⟨67, _⟩ => ⟨S4x256x1, .f32⟩
  | .hbm, ⟨68, _⟩ => ⟨S4x256x1, .f32⟩
  | .hbm, ⟨69, _⟩ => ⟨S_, .f32⟩
  | .hbm, ⟨70, _⟩ => ⟨S4x256x1, .f32⟩
  | .hbm, ⟨71, _⟩ => ⟨S4x256x1, .f32⟩
  | .hbm, ⟨72, _⟩ => ⟨S4x256x1, .f32⟩
  | .hbm, ⟨73, _⟩ => ⟨S4x256x2048, .f32⟩
  | .hbm, ⟨74, _⟩ => ⟨S4x256x2048, .f32⟩
  | .hbm, ⟨75, _⟩ => ⟨S1x1x2048, .f32⟩
  | .hbm, ⟨76, _⟩ => ⟨S4x256x2048, .f32⟩
  | .hbm, ⟨77, _⟩ => ⟨S4x256x2048, .f32⟩
  | .hbm, ⟨78, _⟩ => ⟨S1x1x2048, .f32⟩
  | .hbm, ⟨79, _⟩ => ⟨S2048, .f32⟩
  | .hbm, ⟨80, _⟩ => ⟨S1x1x2048, .f32⟩
  | .hbm, ⟨81, _⟩ => ⟨S2048, .f32⟩
  | .hbm, ⟨82, _⟩ => ⟨S_, .f32⟩
  | .hbm, ⟨83, _⟩ => ⟨S2048, .f32⟩
  | .hbm, ⟨84, _⟩ => ⟨S2048, .f32⟩
  | .hbm, ⟨85, _⟩ => ⟨S1x1x2048, .f32⟩
  | .hbm, ⟨86, _⟩ => ⟨S4x256x2048, .f32⟩
  | .hbm, ⟨87, _⟩ => ⟨S4x256x2048, .f32⟩
  | .hbm, ⟨88, _⟩ => ⟨S1x1x2048, .f32⟩
  | .hbm, ⟨89, _⟩ => ⟨S4x256x2048, .f32⟩
  | .hbm, ⟨90, _⟩ => ⟨S4x256x2048, .f32⟩
  | .hbm, ⟨91, _⟩ => ⟨S16384x2048, .f32⟩
  | .hbm, ⟨92, _⟩ => ⟨S1024x2048, .f32⟩
  | .hbm, ⟨93, _⟩ => ⟨S17408x2048, .f32⟩
  | .hbm, ⟨94, _⟩ => ⟨S16384x2048, .f32⟩
  | .hbm, ⟨95, _⟩ => ⟨S1024x2048, .f32⟩
  | .hbm, ⟨96, _⟩ => ⟨S17408x2048, .f32⟩
  | .hbm, ⟨97, _⟩ => ⟨S17408x2048, .bf16⟩
  | _, _ => ⟨S17408x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst : Ref sig .tc := ⟨.hbm, 34, rfl⟩
abbrev main_v29 : Ref sig .tc := ⟨.hbm, 35, rfl⟩
abbrev main_v30 : Ref sig .tc := ⟨.hbm, 36, rfl⟩
abbrev main_cst_0 : Ref sig .tc := ⟨.hbm, 37, rfl⟩
abbrev main_v31 : Ref sig .tc := ⟨.hbm, 38, rfl⟩
abbrev main_v32 : Ref sig .tc := ⟨.hbm, 39, rfl⟩
abbrev main_cst_1 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_cst_2 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_cst_3 : Ref sig .tc := ⟨.hbm, 63, rfl⟩
abbrev main_v54 : Ref sig .tc := ⟨.hbm, 64, rfl⟩
abbrev main_v55 : Ref sig .tc := ⟨.hbm, 65, rfl⟩
abbrev main_cst_4 : Ref sig .tc := ⟨.hbm, 66, rfl⟩
abbrev main_v56 : Ref sig .tc := ⟨.hbm, 67, rfl⟩
abbrev main_v57 : Ref sig .tc := ⟨.hbm, 68, rfl⟩
abbrev main_cst_5 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_cst_6 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩

abbrev nD : Nat := 1
abbrev τ : Topo := Topo.v7x

variable {F : FTy → Type} [FloatOps F]
-- ==== MixOut1.lean ====
abbrev S16384x1024 : Shape := ⟨2, ![16384, 1024]⟩
abbrev S2x2048x2048 : Shape := ⟨3, ![2, 2048, 2048]⟩
abbrev S17408x2048 : Shape := ⟨2, ![17408, 2048]⟩
abbrev S2x8x12288 : Shape := ⟨3, ![2, 8, 12288]⟩
abbrev S2x2048 : Shape := ⟨2, ![2, 2048]⟩
abbrev S96x1x2048 : Shape := ⟨3, ![96, 1, 2048]⟩
abbrev S1x2048 : Shape := ⟨2, ![1, 2048]⟩
abbrev S2048 : Shape := ⟨1, ![2048]⟩
abbrev S16384x2048 : Shape := ⟨2, ![16384, 2048]⟩
abbrev S512x1024 : Shape := ⟨2, ![512, 1024]⟩
abbrev S1x1024x2048 : Shape := ⟨3, ![1, 1024, 2048]⟩
abbrev S512x2048 : Shape := ⟨2, ![512, 2048]⟩
abbrev S1x1x2048 : Shape := ⟨3, ![1, 1, 2048]⟩
abbrev S128x1024 : Shape := ⟨2, ![128, 1024]⟩
abbrev S1024x2048 : Shape := ⟨2, ![1024, 2048]⟩
abbrev S128x2048 : Shape := ⟨2, ![128, 2048]⟩
abbrev S128 : Shape := ⟨1, ![128]⟩
abbrev S128x1 : Shape := ⟨2, ![128, 1]⟩

abbrev nBuf : Space → Nat
  | .hbm => 13
  | .vmem => 19
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2x2048x2048, .f32⟩
  | .hbm, ⟨3, _⟩ => ⟨S17408x2048, .f32⟩
  | .hbm, ⟨4, _⟩ => ⟨S2x8x12288, .f32⟩
  | .hbm, ⟨5, _⟩ => ⟨S2x2048, .f32⟩
  | .hbm, ⟨6, _⟩ => ⟨S2x2048x2048, .bf16⟩
  | .hbm, ⟨7, _⟩ => ⟨S96x1x2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S16384x2048, .f32⟩
  | .hbm, ⟨12, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S512x2048, .f32⟩
  | .local _ .vmem, ⟨7, _⟩ => ⟨S512x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x1x2048, .f32⟩
  | .local _ .vmem, ⟨15, _⟩ => ⟨S512x2048, .f32⟩
  | .local _ .vmem, ⟨16, _⟩ => ⟨S512x2048, .f32⟩
  | .local _ .vmem, ⟨17, _⟩ => ⟨S512x2048, .bf16⟩
  | .local _ .vmem, ⟨18, _⟩ => ⟨S512x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c6_i32 : BitVec 32 := 6#32
  let v19 : BitVec 32 := Scalar.muli v18 c6_i32
  let c50_i32 : BitVec 32 := 50#32
  let v20 : BitVec 32 := Scalar.addi c50_i32 v19
  let c0_i32_4 : BitVec 32 := 0#32
  let c0_i32_5 : BitVec 32 := 0#32
  let c0_i32_6 : BitVec 32 := 0#32
  ![v20.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c6_i32 : BitVec 32 := 6#32
  let v19 : BitVec 32 := Scalar.muli v18 c6_i32
  let c51_i32 : BitVec 32 := 51#32
  let v20 : BitVec 32 := Scalar.addi c51_i32 v19
  let c0_i32_4 : BitVec 32 := 0#32
  let c0_i32_5 : BitVec 32 := 0#32
  let c0_i32_6 : BitVec 32 := 0#32
  ![v20.toNat, c0_i32_4.toNat, c0_i32_5.toNat]

def cc0_transform_8 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c6_i32 : BitVec 32 := 6#32
  let v19 : BitVec 32 := Scalar.muli v18 c6_i32
  let c52_i32 : BitVec 32 := 52#32
  let v20 : BitVec 32 := Scalar.addi c52_i32 v19
  let c0_i32_4 : BitVec 32 := 0#32
  let c0_i32_5 : BitVec 32 := 0#32
  let c0_i32_6 : BitVec 32 := 0#32
  ![v20.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixOut1RefIdeal.lean ====
abbrev S16384x1024 : Shape := ⟨2, ![16384, 1024]⟩
abbrev S2x2048x2048 : Shape := ⟨3, ![2, 2048, 2048]⟩
abbrev S17408x2048 : Shape := ⟨2, ![17408, 2048]⟩
abbrev S2x8x12288 : Shape := ⟨3, ![2, 8, 12288]⟩
abbrev S2x2048 : Shape := ⟨2, ![2, 2048]⟩
abbrev S16384x2048 : Shape := ⟨2, ![16384, 2048]⟩
abbrev S4x4096x2048 : Shape := ⟨3, ![4, 4096, 2048]⟩
abbrev S1x4x2048 : Shape := ⟨3, ![1, 4, 2048]⟩
abbrev S4x2048 : Shape := ⟨2, ![4, 2048]⟩
abbrev S4x1x2048 : Shape := ⟨3, ![4, 1, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2x2048x2048, .f32⟩
  | .hbm, ⟨3, _⟩ => ⟨S17408x2048, .f32⟩
  | .hbm, ⟨4, _⟩ => ⟨S2x8x12288, .f32⟩
  | .hbm, ⟨5, _⟩ => ⟨S2x2048, .f32⟩
  | .hbm, ⟨6, _⟩ => ⟨S16384x2048, .bf16⟩
  | .hbm, ⟨7, _⟩ => ⟨S16384x2048, .f32⟩
  | .hbm, ⟨8, _⟩ => ⟨S4x4096x2048, .f32⟩
  | .hbm, ⟨9, _⟩ => ⟨S1x4x2048, .f32⟩
  | .hbm, ⟨10, _⟩ => ⟨S4x2048, .f32⟩
  | .hbm, ⟨11, _⟩ => ⟨S4x1x2048, .f32⟩
  | .hbm, ⟨12, _⟩ => ⟨S4x4096x2048, .bf16⟩
  | .hbm, ⟨13, _⟩ => ⟨S4x4096x2048, .f32⟩
  | .hbm, ⟨14, _⟩ => ⟨S1x2048x2048, .f32⟩
  | .hbm, ⟨15, _⟩ => ⟨S2048x2048, .f32⟩
  | .hbm, ⟨16, _⟩ => ⟨S4x4096x2048, .f32⟩
  | .hbm, ⟨17, _⟩ => ⟨S4x4096x2048, .f32⟩
  | .hbm, ⟨18, _⟩ => ⟨S4x4096x2048, .f32⟩
  | .hbm, ⟨19, _⟩ => ⟨S4x4096x2048, .f32⟩
  | .hbm, ⟨20, _⟩ => ⟨S1x2048, .f32⟩
  | .hbm, ⟨21, _⟩ => ⟨S2048, .f32⟩
  | .hbm, ⟨22, _⟩ => ⟨S4x4096x2048, .f32⟩
  | .hbm, ⟨23, _⟩ => ⟨S_, .f32⟩
  | .hbm, ⟨24, _⟩ => ⟨S4x4096, .f32⟩
  | .hbm, ⟨25, _⟩ => ⟨S4x4096x1, .f32⟩
  | .hbm, ⟨26, _⟩ => ⟨S_, .f32⟩
  | .hbm, ⟨27, _⟩ => ⟨S4x4096x1, .f32⟩
  | .hbm, ⟨28, _⟩ => ⟨S4x4096x1, .f32⟩
  | .hbm, ⟨29, _⟩ => ⟨S_, .f32⟩
  | .hbm, ⟨30, _⟩ => ⟨S4x4096x1, .f32⟩
  | .hbm, ⟨31, _⟩ => ⟨S4x4096x1, .f32⟩
  | .hbm, ⟨32, _⟩ => ⟨S4x4096x1, .f32⟩
  | .hbm, ⟨33, _⟩ => ⟨S4x4096x2048, .f32⟩
  | .hbm, ⟨34, _⟩ => ⟨S4x4096x2048, .f32⟩
  | .hbm, ⟨35, _⟩ => ⟨S1x1x2048, .f32⟩
  | .hbm, ⟨36, _⟩ => ⟨S4x4096x2048, .f32⟩
  | .hbm, ⟨37, _⟩ => ⟨S4x4096x2048, .f32⟩
  | .hbm, ⟨38, _⟩ => ⟨S1x4x2048, .f32⟩
  | .hbm, ⟨39, _⟩ => ⟨S4x2048, .f32⟩
  | .hbm, ⟨40, _⟩ => ⟨S4x1x2048, .f32⟩
  | .hbm, ⟨41, _⟩ => ⟨S1x4x2048, .f32⟩
  | .hbm, ⟨42, _⟩ => ⟨S4x2048, .f32⟩
  | .hbm, ⟨43, _⟩ => ⟨S4x1x2048, .f32⟩
  | .hbm, ⟨44, _⟩ => ⟨S_, .f32⟩
  | .hbm, ⟨45, _⟩ => ⟨S4x1x2048, .f32⟩
  | .hbm, ⟨46, _⟩ => ⟨S4x1x2048, .f32⟩
  | .hbm, ⟨47, _⟩ => ⟨S4x4096x2048, .f32⟩
  | .hbm, ⟨48, _⟩ => ⟨S4x4096x2048, .f32⟩
  | .hbm, ⟨49, _⟩ => ⟨S4x4096x2048, .f32⟩
  | .hbm, ⟨50, _⟩ => ⟨S4x4096x2048, .f32⟩
  | .hbm, ⟨51, _⟩ => ⟨S16384x2048, .f32⟩
  | .hbm, ⟨52, _⟩ => ⟨S16384x2048, .f32⟩
  | .hbm, ⟨53, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_2 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩

abbrev nD : Nat := 1
abbrev τ : Topo := Topo.v7x

variable {F : FTy → Type} [FloatOps F]
-- ==== FfnDown1.lean ====
abbrev S16384x5632 : Shape := ⟨2, ![16384, 5632]⟩
abbrev S2x5632x2048 : Shape := ⟨3, ![2, 5632, 2048]⟩
abbrev S16384x2048 : Shape := ⟨2, ![16384, 2048]⟩
abbrev S2x8x12288 : Shape := ⟨3, ![2, 8, 12288]⟩
abbrev S2048 : Shape := ⟨1, ![2048]⟩
abbrev S96x1x2048 : Shape := ⟨3, ![96, 1, 2048]⟩
abbrev S1x2048 : Shape := ⟨2, ![1, 2048]⟩
abbrev S256x5632 : Shape := ⟨2, ![256, 5632]⟩
abbrev S1x5632x2048 : Shape := ⟨3, ![1, 5632, 2048]⟩
abbrev S256x2048 : Shape := ⟨2, ![256, 2048]⟩
abbrev S1x1x2048 : Shape := ⟨3, ![1, 1, 2048]⟩
abbrev S5632x2048 : Shape := ⟨2, ![5632, 2048]⟩
abbrev S256 : Shape := ⟨1, ![256]⟩
abbrev S256x1 : Shape := ⟨2, ![256, 1]⟩

abbrev nBuf : Space → Nat
  | .hbm => 9
  | .vmem => 10
  | .smem => 0
  | _ => 0

abbrev bufTy : (tb : Table) → Fin (tcTables nBuf tb) → BufTy
  | .hbm, ⟨0, _⟩ => ⟨S16384x5632, .bf16⟩
  | .hbm, ⟨1, _⟩ => ⟨S2x5632x2048, .f32⟩
  | .hbm, ⟨2, _⟩ => ⟨S16384x2048, .f32⟩
  | .hbm, ⟨3, _⟩ => ⟨S2x8x12288, .f32⟩
  | .hbm, ⟨4, _⟩ => ⟨S2048, .f32⟩
  | .hbm, ⟨5, _⟩ => ⟨S2x5632x2048, .bf16⟩
  | .hbm, ⟨6, _⟩ => ⟨S96x1x2048, .f32⟩
  | .hbm, ⟨7, _⟩ => ⟨S1x2048, .f32⟩
  | .hbm, ⟨8, _⟩ => ⟨S16384x2048, .f32⟩
  | .local _ .vmem, ⟨0, _⟩ => ⟨S256x5632, .bf16⟩
  | .local _ .vmem, ⟨1, _⟩ => ⟨S256x5632, .bf16⟩
  | .local _ .vmem, ⟨2, _⟩ => ⟨S1x5632x2048, .bf16⟩
  | .local _ .vmem, ⟨3, _⟩ => ⟨S256x2048, .f32⟩
  | .local _ .vmem, ⟨4, _⟩ => ⟨S256x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c6_i32 : BitVec 32 := 6#32
  let v19 : BitVec 32 := Scalar.muli v18 c6_i32
  let c53_i32 : BitVec 32 := 53#32
  let v20 : BitVec 32 := Scalar.addi c53_i32 v19
  let c0_i32_4 : BitVec 32 := 0#32
  let c0_i32_5 : BitVec 32 := 0#32
  let c0_i32_6 : BitVec 32 := 0#32
  ![v20.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnDown1RefIdeal.lean ====
abbrev S16384x5632 : Shape := ⟨2, ![16384, 5632]⟩
abbrev S2x5632x2048 : Shape := ⟨3, ![2, 5632, 2048]⟩
abbrev S16384x2048 : Shape := ⟨2, ![16384, 2048]⟩
abbrev S2x8x12288 : Shape := ⟨3, ![2, 8, 12288]⟩
abbrev S2048 : Shape := ⟨1, ![2048]⟩
abbrev S4x4096x2048 : Shape := ⟨3, ![4, 4096, 2048]⟩
abbrev S1x4x2048 : Shape := ⟨3, ![1, 4, 2048]⟩
abbrev S4x2048 : Shape := ⟨2, ![4, 2048]⟩
abbrev S4x1x2048 : Shape := ⟨3, ![4, 1, 2048]⟩
abbrev S4x4096x5632 : Shape := ⟨3, ![4, 4096, 5632]⟩
abbrev S1x5632x2048 : Shape := ⟨3, ![1, 5632, 2048]⟩
abbrev S5632x2048 : Shape := ⟨2, ![5632, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 34
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S2x5632x2048, .f32⟩
  | .hbm, ⟨2, _⟩ => ⟨S16384x2048, .f32⟩
  | .hbm, ⟨3, _⟩ => ⟨S2x8x12288, .f32⟩
  | .hbm, ⟨4, _⟩ => ⟨S2048, .f32⟩
  | .hbm, ⟨5, _⟩ => ⟨S4x4096x2048, .f32⟩
  | .hbm, ⟨6, _⟩ => ⟨S1x4x2048, .f32⟩
  | .hbm, ⟨7, _⟩ => ⟨S4x2048, .f32⟩
  | .hbm, ⟨8, _⟩ => ⟨S4x1x2048, .f32⟩
  | .hbm, ⟨9, _⟩ => ⟨S4x4096x5632, .bf16⟩
  | .hbm, ⟨10, _⟩ => ⟨S4x4096x5632, .f32⟩
  | .hbm, ⟨11, _⟩ => ⟨S1x5632x2048, .f32⟩
  | .hbm, ⟨12, _⟩ => ⟨S5632x2048, .f32⟩
  | .hbm, ⟨13, _⟩ => ⟨S4x4096x2048, .f32⟩
  | .hbm, ⟨14, _⟩ => ⟨S4x4096x2048, .f32⟩
  | .hbm, ⟨15, _⟩ => ⟨S4x4096x2048, .f32⟩
  | .hbm, ⟨16, _⟩ => ⟨S4x4096x2048, .f32⟩
  | .hbm, ⟨17, _⟩ => ⟨S4x4096x2048, .f32⟩
  | .hbm, ⟨18, _⟩ => ⟨S_, .f32⟩
  | .hbm, ⟨19, _⟩ => ⟨S4x4096, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S4x4096x1, .f32⟩
  | .hbm, ⟨28, _⟩ => ⟨S4x4096x2048, .f32⟩
  | .hbm, ⟨29, _⟩ => ⟨S4x4096x2048, .f32⟩
  | .hbm, ⟨30, _⟩ => ⟨S1x1x2048, .f32⟩
  | .hbm, ⟨31, _⟩ => ⟨S4x4096x2048, .f32⟩
  | .hbm, ⟨32, _⟩ => ⟨S4x4096x2048, .f32⟩
  | .hbm, ⟨33, _⟩ => ⟨S16384x2048, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Proof.Softmax.lean ====
/- One row of softmax attention over the extended reals: the weights as powers of two against a row maximum of the scaled
   scores, the division taken after the product with the values, against the textbook row, which divides each weight. -/
module

public import Idealize.ShloMosaic.PureOps.Ideal
public import Idealize.ShloMosaic.Lib.IdealHost

@[expose] public section

noncomputable section

namespace Cert.Softmax

open Idealize.ShloMosaic

/-- The f32 word of minus infinity denotes `⊥`. -/
theorem ofBits_ninf : Ideal.ofBits .f32 0xFF800000#32 = ⊥ := by
  simp [Ideal.ofBits, Ideal.ieee]

/-- A row the way the kernel takes it: weights `2 ^ (s - max s)`, the products with the values summed, the weights summed
    against the ones beside the values, and one division at the end. -/
def rowOf {n : ℕ} (s v : Fin n → EReal) : EReal :=
  Ideal.div (∑ t, Ideal.exp2 (s t - Finset.univ.fold max ⊥ s) * v t)
    (∑ t, Ideal.exp2 (s t - Finset.univ.fold max ⊥ s))

/-- The same with the weights summed against a column `w`, as the row is computed. -/
def rowW {n : ℕ} (s v w : Fin n → EReal) : EReal :=
  Ideal.div (∑ t, Ideal.exp2 (s t - Finset.univ.fold max (Ideal.ofBits .f32 0xFF800000#32) s) * v t)
    (∑ t, Ideal.exp2 (s t - Finset.univ.fold max (Ideal.ofBits .f32 0xFF800000#32) s) * w t)

/-- Against a column of ones, the row of the kernel. -/
theorem rowW_one {n : ℕ} (s v w : Fin n → EReal) (hw : ∀ t, w t = 1) : rowW s v w = rowOf s v := by
  simp only [rowW, rowOf, hw, mul_one, ofBits_ninf]

/-- A row the textbook way: each weight `e ^ (x - max x)` divided by their sum, then the products with the values summed. -/
def rowRef {n : ℕ} (x v : Fin n → EReal) : EReal :=
  ∑ t, v t * Ideal.div (Ideal.exp (x t - Finset.univ.fold max ⊥ x)) (∑ u, Ideal.exp (x u - Finset.univ.fold max ⊥ x))

/-- The maximum of a nonempty row is one of its entries and bounds them all. -/
theorem fold_max_spec {n : ℕ} [NeZero n] (f : Fin n → EReal) :
    ∃ i, Finset.univ.fold max ⊥ f = f i ∧ ∀ t, f t ≤ f i := by
  obtain ⟨i, -, hi⟩ := Finset.exists_mem_eq_sup (Finset.univ : Finset (Fin n)) Finset.univ_nonempty f
  have h : Finset.univ.fold max ⊥ f = Finset.univ.sup f := rfl
  exact ⟨i, h.trans hi, fun t => hi ▸ Finset.le_sup (Finset.mem_univ t)⟩

/-- The extended real of a sum of reals is the sum of the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor distributes over a sum of extended reals. -/
theorem mul_sum_coe {ι : Type} (s : Finset ι) {c : ℝ} (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (EReal.coe_nonneg.mpr hc) (EReal.coe_ne_top c) _ _

/-- `2 ^ (y / ln 2 - z / ln 2) = e ^ (y - z)`. -/
theorem rpow_two_log (y z : ℝ) : Real.rpow 2 ((Real.log 2)⁻¹ * y - (Real.log 2)⁻¹ * z) = Real.exp (y - z) := by
  have h : Real.log 2 ≠ 0 := (Real.log_pos (by norm_num)).ne'
  show (2 : ℝ) ^ ((Real.log 2)⁻¹ * y - (Real.log 2)⁻¹ * z) = _
  rw [Real.rpow_def_of_pos (by norm_num)]
  congr 1
  field_simp

/-- THE ROW. With real scores `x` and the kernel's scores `x / ln 2`, both rows are one extended real, whatever the values. -/
theorem row_eq {n : ℕ} [NeZero n] (x : Fin n → ℝ) (v : Fin n → EReal) :
    rowOf (fun t => (((Real.log 2)⁻¹ * x t : ℝ) : EReal)) v = rowRef (fun t => (x t : EReal)) v := by
  obtain ⟨i, hi, himax⟩ := fold_max_spec (fun t => (((Real.log 2)⁻¹ * x t : ℝ) : EReal))
  obtain ⟨j, hj, hjmax⟩ := fold_max_spec (fun t => (x t : EReal))
  have hpos : 0 < (Real.log 2)⁻¹ := inv_pos.mpr (Real.log_pos (by norm_num))
  have hij : x i = x j := by
    refine le_antisymm (EReal.coe_le_coe_iff.mp (hjmax i)) ?_
    exact le_of_mul_le_mul_left (EReal.coe_le_coe_iff.mp (himax j)) hpos
  unfold rowOf rowRef
  rw [hi, hj, hij]
  simp only [← EReal.coe_sub, Ideal.exp2_coe, Ideal.exp_coe, rpow_two_log]
  set p : Fin n → ℝ := fun t => Real.exp (x t - x j) with hp
  have hL : (∑ t, ((p t : ℝ) : EReal)) = ((∑ t, p t : ℝ) : EReal) := (coe_sum _ _).symm
  have hLpos : 0 < ∑ t, p t := Finset.sum_pos (fun t _ => Real.exp_pos _) Finset.univ_nonempty
  rw [hL, Ideal.div_coe hLpos.ne', mul_comm, mul_sum_coe _ (by positivity)]
  refine Finset.sum_congr rfl fun t _ => ?_
  rw [Ideal.div_coe hLpos.ne', mul_comm (v t), mul_comm _ (((1 / ∑ t, p t : ℝ)) : EReal), ← mul_assoc]

/-- A sum of products of reals is a real. -/
theorem sum_mul_coe {n : ℕ} (a b : Fin n → EReal) (ha : ∀ k, ∃ r : ℝ, a k = r) (hb : ∀ k, ∃ r : ℝ, b k = r) :
    ∃ r : ℝ, (∑ k, a k * b k) = r ∧ ∀ c : ℝ, (∑ k, (a k * (c : EReal)) * b k) = ((c * r : ℝ) : EReal) := by
  choose a' ha using ha
  choose b' hb using hb
  refine ⟨∑ k, a' k * b' k, ?_, fun c => ?_⟩
  · simp only [ha, hb, ← EReal.coe_mul]; exact (coe_sum _ _).symm
  · simp only [ha, hb, ← EReal.coe_mul]
    rw [← coe_sum, Finset.mul_sum]
    refine congrArg _ (Finset.sum_congr rfl fun k _ => by ring)

/-- THE ATTENTION ROW: queries scaled by `1 / (ln 2 · √d)` and powers of two against the textbook row of the scores
    times `1 / √d`; queries and keys are real, the values arbitrary. -/
theorem attention_row {n e : ℕ} [NeZero n] (d : ℝ) (q : Fin e → EReal) (k : Fin n → Fin e → EReal) (v : Fin n → EReal)
    (hq : ∀ i, ∃ r : ℝ, q i = r) (hk : ∀ t i, ∃ r : ℝ, k t i = r) :
    rowOf (fun t => ∑ i, (q i * (((Real.log 2 * d)⁻¹ : ℝ) : EReal)) * k t i) v
      = rowRef (fun t => (∑ i, q i * k t i) * ((d⁻¹ : ℝ) : EReal)) v := by
  choose r hr using fun t => sum_mul_coe q (k t) hq (hk t)
  have h1 : (fun t => ∑ i, (q i * (((Real.log 2 * d)⁻¹ : ℝ) : EReal)) * k t i)
      = fun t => (((Real.log 2)⁻¹ * (d⁻¹ * r t) : ℝ) : EReal) := by
    funext t; rw [(hr t).2, mul_inv, mul_assoc]
  have h2 : (fun t => (∑ i, q i * k t i) * ((d⁻¹ : ℝ) : EReal)) = fun t => ((d⁻¹ * r t : ℝ) : EReal) := by
    funext t; rw [(hr t).1, ← EReal.coe_mul, mul_comm]
  rw [h1, h2]
  exact row_eq _ v

end Cert.Softmax

end
-- ==== Proof.GqaKernel.lean ====
module

public import proofs.«01_k».proof.Proof.Gen.GqaIdeal.Value
public import Idealize.ShloMosaic.Lib.Pipeline.ValueKit
public import Idealize.ShloMosaic.Lib.Pointwise
public import Idealize.ShloMosaic.Lib.Claim
public import proofs.«01_k».proof.Proof.Softmax

@[expose] public section

set_option maxRecDepth 16384

noncomputable section

open Idealize.ShloMosaic Idealize.ShloMosaic.TcCoe Idealize.SL.Sem
open Idealize.ShloMosaic.Pipeline (Dat)

namespace Cert.GqaIdeal.Value

open Cert.GqaIdeal Cert.GqaIdeal.Gen

/-- One element of the result from the call's operands: query row `p` of head `h` of batch `b` against the first `n`
    keys of its key-value head `g`, at lane `l` of the values. -/
def cell (Q : FVec Ideal S4x8x4352x128 .bf16) (K : FVec Ideal S4x2x4352x128 .bf16) (W : FVec Ideal S4x2x4352x256 .bf16)
    (n : ℕ) (hn : n ≤ 4352) (b : Fin 4) (h : Fin 8) (g : Fin 2) (p : Fin 4352) (l : Fin 128) : EReal :=
  Softmax.rowW (n := n) (fun t => ∑ d : Fin 128, Q (ix4 b h p d) * K (ix4 b g ⟨t.val, by omega⟩ d))
    (fun t => W (ix4 b g ⟨t.val, by omega⟩ ⟨l.val, by omega⟩)) (fun t => W (ix4 b g ⟨t.val, by omega⟩ 128))

/-- What the call leaves in the result array: the latent rows first, against all keys, then the context rows, against
    the context's keys. -/
def G (Q : FVec Ideal S4x8x4352x128 .bf16) (K : FVec Ideal S4x2x4352x128 .bf16) (W : FVec Ideal S4x2x4352x256 .bf16) :
    FVec Ideal S17408x1024 .bf16 := fun i =>
  have h0 : (i 0).val < 17408 := (i 0).isLt
  have h1 : (i 1).val < 1024 := (i 1).isLt
  if h : (i 0).val < 16384 then
    cell Q K W 4352 (by omega) ⟨(i 0).val / 4096, by omega⟩ ⟨(i 1).val / 128, by omega⟩ ⟨(i 1).val / 512, by omega⟩
      ⟨256 + (i 0).val % 4096, by omega⟩ ⟨(i 1).val % 128, by omega⟩
  else
    cell Q K W 256 (by omega) ⟨((i 0).val - 16384) / 256, by omega⟩ ⟨(i 1).val / 128, by omega⟩ ⟨(i 1).val / 512, by omega⟩
      ⟨((i 0).val - 16384) % 256, by omega⟩ ⟨(i 1).val % 128, by omega⟩

variable (m : (ℓ : Loc nD τ sig) → Buf (Elt Ideal) ℓ)

/-- The windows' block indices at every point, from the point's number. -/
theorem idx : ∀ t : Fin cfg0.N, win0_0.index t = ![t.val / 34, t.val / 17 % 2, t.val % 17, 0]
    ∧ win0_1.index t = ![t.val / 34, t.val / 17 % 2, 0, 0] ∧ win0_2.index t = ![t.val / 34, t.val / 17 % 2, 0, 0]
    ∧ win0_3.index t = ![if t.val % 17 = 0 then 64 + t.val / 34 else t.val / 34 * 16 + t.val % 17 - 1, t.val / 17 % 2] :=
  (by decide +kernel : ∀ t : Fin grid0.N, _)

/-- An element of the result depends on its coordinates alone. -/
theorem cell_congr (Q K W) (n : ℕ) (hn : n ≤ 4352) {b b' : Fin 4} {h h' : Fin 8} {g g' : Fin 2} {p p' : Fin 4352}
    {l l' : Fin 128} (hb : b.val = b'.val) (hh : h.val = h'.val) (hg : g.val = g'.val) (hp : p.val = p'.val)
    (hl : l.val = l'.val) : cell Q K W n hn b h g p l = cell Q K W n hn b' h' g' p' l' := by
  rw [Fin.ext hb, Fin.ext hh, Fin.ext hg, Fin.ext hp, Fin.ext hl]

/-- The result at a latent row. -/
theorem G_latent (Q K W) (i : S17408x1024.Idx) (b : Fin 4) (h : Fin 8) (g : Fin 2) (p : Fin 4352) (l : Fin 128)
    (h0 : (i 0).val = b.val * 4096 + (p.val - 256)) (hp : 256 ≤ p.val) (h1 : (i 1).val = h.val * 128 + l.val)
    (hg : g.val = h.val / 4) : G Q K W i = cell Q K W 4352 (by omega) b h g p l := by
  rw [G, dif_pos (by omega)]
  apply cell_congr <;> simp only <;> omega

/-- The result at a context row. -/
theorem G_context (Q K W) (i : S17408x1024.Idx) (b : Fin 4) (h : Fin 8) (g : Fin 2) (p : Fin 4352) (l : Fin 128)
    (h0 : (i 0).val = 16384 + b.val * 256 + p.val) (hp : p.val < 256) (h1 : (i 1).val = h.val * 128 + l.val)
    (hg : g.val = h.val / 4) : G Q K W i = cell Q K W 256 (by omega) b h g p l := by
  rw [G, dif_neg (by omega)]
  apply cell_congr <;> simp only <;> omega

/-- The row a tile computes at row `r` and lane `l` from its block `q` of queries, `k` of keys and `v` of values. -/
def tile {n : ℕ} (q : FVec Ideal ⟨4, ![1, 1, 256, 128]⟩ .bf16) (k : FVec Ideal ⟨4, ![1, 1, n, 128]⟩ .bf16)
    (v : FVec Ideal ⟨4, ![1, 1, n, 256]⟩ .bf16) (r : Fin 256) (l : Fin 128) : EReal :=
  Softmax.rowW (n := n) (fun s => ∑ d : Fin 128, q (ix4 0 0 r d) * k (ix4 0 0 s d))
    (fun s => v (ix4 0 0 s ⟨l.val, by omega⟩)) (fun s => v (ix4 0 0 s 128))

/-- Head 0 of the group, at a context point. -/
theorem pay_c0 (q k v) (r : Fin 256) (l : Fin 128) : k0_pay10 (F := Ideal) (k0_pay5 q k) (k0_pay9 q k) v (ix2 r l) = tile q k v r l := by
  pointwise [k0_pay10, k0_pay5, k0_pay9]
  rfl

/-- Head 1 of the group, at a context point. -/
theorem pay_c1 (q k v) (r : Fin 256) (l : Fin 128) : k0_pay11 (F := Ideal) (k0_pay6 q k) v (ix2 r l) = tile q k v r l := by
  pointwise [k0_pay11, k0_pay6]
  rfl

/-- Head 2 of the group, at a context point. -/
theorem pay_c2 (q k v) (r : Fin 256) (l : Fin 128) : k0_pay1 (F := Ideal) (k0_pay12 (k0_pay7 q k) v) (k0_pay13 (k0_pay7 q k) v) (ix2 r l) = tile q k v r l := by
  pointwise [k0_pay1, k0_pay12, k0_pay13, k0_pay7]
  rfl

/-- Head 3 of the group, at a context point. -/
theorem pay_c3 (q k v) (r : Fin 256) (l : Fin 128) : k0_pay2 (F := Ideal) (k0_pay8 q k) v (ix2 r l) = tile q k v r l := by
  pointwise [k0_pay2, k0_pay8]
  rfl

/-- Head 0 of the group, at a latent point. -/
theorem pay_l0 (q k v) (r : Fin 256) (l : Fin 128) : k0_pay19 (F := Ideal) (k0_pay14 q k) (k0_pay18 q k) v (ix2 r l) = tile q k v r l := by
  pointwise [k0_pay19, k0_pay14, k0_pay18]
  rfl

/-- Head 1 of the group, at a latent point. -/
theorem pay_l1 (q k v) (r : Fin 256) (l : Fin 128) : k0_pay20 (F := Ideal) (k0_pay15 q k) v (ix2 r l) = tile q k v r l := by
  pointwise [k0_pay20, k0_pay15]
  rfl

/-- Head 2 of the group, at a latent point. -/
theorem pay_l2 (q k v) (r : Fin 256) (l : Fin 128) : k0_pay3 (F := Ideal) (k0_pay21 (k0_pay16 q k) v) (k0_pay22 (k0_pay16 q k) v) (ix2 r l) = tile q k v r l := by
  pointwise [k0_pay3, k0_pay21, k0_pay22, k0_pay16]
  rfl

/-- Head 3 of the group, at a latent point. -/
theorem pay_l3 (q k v) (r : Fin 256) (l : Fin 128) : k0_pay4 (F := Ideal) (k0_pay17 q k) v (ix2 r l) = tile q k v r l := by
  pointwise [k0_pay4, k0_pay17]
  rfl

/-- The row a tile computes from its blocks, as an element of the result. -/
theorem tile_cell (Q K W) {n : ℕ} (hn : n ≤ 4352) (q k v) (r : Fin 256) (l : Fin 128) (b : Fin 4) (h : Fin 8) (g : Fin 2)
    (p : Fin 4352) (hq : ∀ d, q (ix4 0 0 r d) = Q (ix4 b h p d))
    (hk : ∀ s d, k (ix4 0 0 s d) = K (ix4 b g ⟨s.val, by omega⟩ d))
    (hv : ∀ s d, v (ix4 0 0 s d) = W (ix4 b g ⟨s.val, by omega⟩ d)) :
    tile (n := n) q k v r l = cell Q K W n hn b h g p l := by
  simp only [tile, hq, hk, hv, cell]

set_option maxHeartbeats 2000000 in
/-- After the run the result array holds `G` of the call's operands. -/
theorem final (c : Dev nD) : (dats m 0 c).arrAt 3 (cfgs 0).N = G (V m c main_v6) (V m c main_v7) (V m c main_v13) := by
  refine (dats m 0 c).arrAt_eq_of_covers 3 _ (by decide +kernel) fun t hf y => ?_
  have ht : t.val < 136 := t.isLt
  blk_simp
  rw [after0_3]
  by_cases h0 : t.val % 17 = 0
  · rw [outsAt0_A m c t h0 (by omega)]
    frame_out
    generalize hi : ((cfg0.win 3).blk t).view.emb y = i
    have hi0 : (i 0 : ℕ) = (64 + t.val / 34) * 256 + (y 0).val := by rw [← hi]; blk_simp [idx t, h0]; rfl
    have hi1 : (i 1 : ℕ) = (t.val / 17 % 2) * 512 + (y 1).val := by rw [← hi]; blk_simp [idx t]
    clear hi
    canon_tiles x h
    all_goals
      idx_vars x
      rw [G_context _ _ _ i ⟨t.val / 34, by omega⟩ ⟨(i 1).val / 128, by omega⟩ ⟨t.val / 17 % 2, by omega⟩
        ⟨x0.val, by omega⟩ x1 (by simp only; omega) (by simp only; omega) (by simp only; omega) (by simp only; omega)]
      first | rw [pay_c0] | rw [pay_c1] | rw [pay_c2] | rw [pay_c3]
      apply tile_cell
      · intro d; try rw [View.ld_apply]
        blk_ext [iblk, idx t, Rect.idx_unit_val]
      · intro s d; try rw [View.ld_apply]
        blk_ext [iblk, idx t, Rect.idx_unit_val]
      · intro s d; try rw [View.ld_apply]
        blk_ext [iblk, idx t, Rect.idx_unit_val]
  · rw [outsAt0_B m c t h0 (by omega)]
    frame_out
    generalize hi : ((cfg0.win 3).blk t).view.emb y = i
    have hi0 : (i 0 : ℕ) = (t.val / 34 * 16 + t.val % 17 - 1) * 256 + (y 0).val := by rw [← hi]; blk_simp [idx t, h0]; rw [if_neg not_false]
    have hi1 : (i 1 : ℕ) = (t.val / 17 % 2) * 512 + (y 1).val := by rw [← hi]; blk_simp [idx t]
    clear hi
    canon_tiles x h
    all_goals
      idx_vars x
      rw [G_latent _ _ _ i ⟨t.val / 34, by omega⟩ ⟨(i 1).val / 128, by omega⟩ ⟨t.val / 17 % 2, by omega⟩
        ⟨t.val % 17 * 256 + x0.val, by omega⟩ x1 (by simp only; omega) (by simp only; omega) (by simp only; omega)
        (by simp only; omega)]
      first | rw [pay_l0] | rw [pay_l1] | rw [pay_l2] | rw [pay_l3]
      apply tile_cell
      · intro d; try rw [View.ld_apply]
        blk_ext [iblk, idx t, Rect.idx_unit_val]
      · intro s d; try rw [View.ld_apply]
        blk_ext [iblk, idx t, Rect.idx_unit_val]
      · intro s d; try rw [View.ld_apply]
        blk_ext [iblk, idx t, Rect.idx_unit_val]

end Cert.GqaIdeal.Value

end
-- ==== Proof.Numbers.lean ====
module

public import Idealize.ShloMosaic.Lib.IdealHost
public import Idealize.ShloMosaic.Lib.Pipeline.ValueKit

@[expose] public section

noncomputable section

open Idealize.ShloMosaic

namespace Cert.Numbers

/-- The float word of 2. -/
theorem two : Ideal.ofBits .f32 0x40000000#32 = ((2 : ℝ) : EReal) := by
  simp [Ideal.ofBits, Ideal.ieee, -EReal.coe_mul]; norm_num

/-- The float word of 128. -/
theorem w128 : Ideal.ofBits .f32 0x43000000#32 = ((128 : ℝ) : EReal) := by
  simp [Ideal.ofBits, Ideal.ieee, -EReal.coe_mul]; norm_num

/-- The float word of 192. -/
theorem w192 : Ideal.ofBits .f32 0x43400000#32 = ((192 : ℝ) : EReal) := by
  simp [Ideal.ofBits, Ideal.ieee, -EReal.coe_mul]; norm_num

/-- The float word of a half. -/
theorem half : Ideal.ofBits .f32 0x3F000000#32 = ((1 / 2 : ℝ) : EReal) := by
  simp [Ideal.ofBits, Ideal.ieee, -EReal.coe_mul]; norm_num

/-- The float word of infinity. -/
theorem inf : Ideal.ofBits .f32 0x7F800000#32 = ⊤ := by
  simp [Ideal.ofBits, Ideal.ieee]

/-- The kernel's folded scale. -/
theorem kscale (d : ℝ) (hd : 0 < d) : Ideal.div 1 (Ideal.log ((2 : ℝ) : EReal) * Ideal.sqrt (d : EReal))
    = (((Real.log 2 * Real.sqrt d)⁻¹ : ℝ) : EReal) := by
  have h2 : Real.log 2 ≠ 0 := (Real.log_pos (by norm_num)).ne'
  have hs : Real.sqrt d ≠ 0 := (Real.sqrt_pos.mpr hd).ne'
  rw [Ideal.log_coe, Ideal.sqrt_coe, if_neg (by norm_num), if_neg (not_lt.mpr hd.le), ← EReal.coe_mul,
    Ideal.div_coe (mul_ne_zero h2 hs), one_mul, one_div]

/-- The reference's scale. -/
theorem rscale (d : ℝ) (hd : 0 < d) : Ideal.div 1 (Ideal.sqrt (d : EReal)) = (((Real.sqrt d)⁻¹ : ℝ) : EReal) := by
  rw [Ideal.sqrt_coe, if_neg (not_lt.mpr hd.le), Ideal.div_coe (Real.sqrt_pos.mpr hd).ne', one_mul, one_div]

/-- A value whose magnitude is below infinity is a real number. -/
theorem real_of_abs_lt (x : EReal)
    (h : BitVec.ofBool (decide (max x (-x) < Ideal.ofBits .f32 0x7F800000#32)) = 1#1) : ∃ r : ℝ, x = (r : EReal) := by
  rw [inf] at h
  have h' : max x (-x) < ⊤ := by
    by_contra hn
    simp [hn] at h
  induction x using EReal.rec with
  | bot => simp at h'
  | top => simp at h'
  | coe r => exact ⟨r, rfl⟩

end Cert.Numbers

end
-- ==== Proof.GqaOperands.lean ====
module

public import proofs.«01_k».proof.Proof.GqaKernel
public import proofs.«01_k».proof.Proof.Numbers

@[expose] public section

set_option maxRecDepth 16384

noncomputable section

open Idealize.ShloMosaic Idealize.ShloMosaic.TcCoe Idealize.SL.Sem

namespace Cert.GqaIdeal.Value

open Cert.GqaIdeal Cert.GqaIdeal.Gen

variable (m : (ℓ : Loc nD τ sig) → Buf (Elt Ideal) ℓ)

/-- The query operand is the query argument, scaled. -/
theorem operand_q (c : Dev nD) (b : Fin 4) (h : Fin 8) (p : Fin 4352) (d : Fin 128) :
    V m c main_v6 (ix4 b h p d) = (show EReal from m ((c.tc : Thread nD τ).loc main_arg0) (ix4 b h p d)) * (((Real.log 2 * Real.sqrt 128)⁻¹ : ℝ) : EReal) := by
  entry_read
  pointwise []
  rw [Numbers.two, Numbers.w128, Numbers.kscale 128 (by norm_num)]

/-- The key operand is the key argument. -/
theorem operand_k (c : Dev nD) (b : Fin 4) (h : Fin 2) (p : Fin 4352) (d : Fin 128) :
    V m c main_v7 (ix4 b h p d) = m ((c.tc : Thread nD τ).loc main_arg1) (ix4 b h p d) := by
  entry_read
  pointwise []

/-- The value operand's first lanes are the value argument. -/
theorem operand_v (c : Dev nD) (b : Fin 4) (h : Fin 2) (p : Fin 4352) (l : Fin 128) :
    V m c main_v13 (ix4 b h p ⟨l.val, by omega⟩) = m ((c.tc : Thread nD τ).loc main_arg2) (ix4 b h p l) := by
  entry_read
  pointwise []

/-- Its lane 128 is one. -/
theorem operand_one (c : Dev nD) (b : Fin 4) (h : Fin 2) (p : Fin 4352) :
    V m c main_v13 (ix4 b h p 128) = (1 : EReal) := by
  entry_read
  pointwise []
  show (((1#1 : BitVec 1).toNat : ℝ) : EReal) = 1
  simp

end Cert.GqaIdeal.Value

end
-- ==== Proof.GqaRef.lean ====
module

public import proofs.«01_k».proof.Proof.Gen.GqaRefIdeal.Read
public import Idealize.ShloMosaic.Lib.Pipeline.ValueKit
public import Idealize.ShloMosaic.Lib.Pointwise
public import Idealize.ShloMosaic.Lib.Claim
public import proofs.«01_k».proof.Proof.Softmax
public import proofs.«01_k».proof.Proof.Numbers

@[expose] public section

set_option maxRecDepth 16384

noncomputable section

open Idealize.ShloMosaic Idealize.ShloMosaic.TcCoe Idealize.SL.Sem

namespace Cert.GqaRefIdeal.Value

open Cert.GqaRefIdeal Cert.GqaRefIdeal.Gen Cert.GqaRefIdeal.Read

/-- The scale of the scores, `1 / sqrt 128`. -/
def scale : EReal := (((Real.sqrt 128)⁻¹ : ℝ) : EReal)

/-- One element of the reference: query row `p` of head `h` of batch `b` against the first `n` keys of its key-value
    head `g`, at lane `l` of the values. -/
def cell (x0 : FVec Ideal S4x8x4352x128 .f32) (x1 x2 : FVec Ideal S4x2x4352x128 .f32) (n : ℕ) (hn : n ≤ 4352)
    (b : Fin 4) (h : Fin 8) (g : Fin 2) (p : Fin 4352) (l : Fin 128) : EReal :=
  Softmax.rowRef (n := n) (fun t => (∑ d : Fin 128, x0 (ix4 b h p d) * x1 (ix4 b g ⟨t.val, by omega⟩ d)) * scale)
    (fun t => x2 (ix4 b g ⟨t.val, by omega⟩ l))

/-- The scaled scores of the latent queries. -/
theorem lat_score (x0 : FVec Ideal S4x8x4352x128 .f32) (x1 : FVec Ideal S4x2x4352x128 .f32) (b : Fin 4) (g : Fin 2)
    (j : Fin 4) (r : Fin 4096) (t : Fin 4352) : val_main_v6 (F := Ideal) x0 x1 (ix5 b g j r t)
      = (∑ d : Fin 128, x0 (ix4 b ⟨g.val * 4 + j.val, by omega⟩ ⟨256 + r.val, by omega⟩ d)
          * x1 (ix4 b g t d)) * scale := by
  pointwise [val_main_v6, val_main_v5, val_main_v4, val_main_v3, val_main_v2, val_main_v1, val_main_v0, val_main_cst_0, val_main_cst]
  rw [Numbers.w128, Numbers.rscale 128 (by norm_num)]
  rfl

/-- The maximum of a row of scores of the latent queries. -/
theorem lat_max (x0 : FVec Ideal S4x8x4352x128 .f32) (x1 : FVec Ideal S4x2x4352x128 .f32) (b : Fin 4) (g : Fin 2)
    (j : Fin 4) (r : Fin 4096) : val_main_v9 (F := Ideal) x0 x1 (ix4 b g j r)
      = Finset.univ.fold max ⊥ fun t : Fin 4352 => val_main_v6 (F := Ideal) x0 x1 (ix5 b g j r t) := by
  have h : val_main_v7 (F := Ideal) x0 x1 (ix4 b g j r)
      = Finset.univ.fold max ⊥ fun t : Fin 4352 => val_main_v6 (F := Ideal) x0 x1 (ix5 b g j r t) := by
    unfold val_main_v7
    generalize val_main_v6 (F := Ideal) x0 x1 = y
    pointwise [val_main_cst_1]
    rw [Softmax.ofBits_ninf]
  rw [val_main_v9_apply, h]
  generalize val_main_v6 (F := Ideal) x0 x1 = y
  rw [val_main_v8_apply, val_main_cst_2_apply, Ideal.ofBits_def, Softmax.ofBits_ninf]
  exact max_bot_left _

/-- The latent queries' attention. -/
theorem lat (x0 : FVec Ideal S4x8x4352x128 .f32) (x1 x2 : FVec Ideal S4x2x4352x128 .f32) (b : Fin 4) (g : Fin 2)
    (j : Fin 4) (r : Fin 4096) (l : Fin 128) : val_main_v18 (F := Ideal) x0 x1 x2 (ix5 b g l j r)
      = cell x0 x1 x2 4352 (by omega) b ⟨g.val * 4 + j.val, by omega⟩ g ⟨256 + r.val, by omega⟩ l := by
  have hm := lat_max x0 x1
  have hs := lat_score x0 x1
  unfold val_main_v18 val_main_v17 val_main_v16 val_main_v15 val_main_v14 val_main_v13 val_main_v12 val_main_v11 val_main_v10
  generalize val_main_v9 (F := Ideal) x0 x1 = M at *
  generalize val_main_v6 (F := Ideal) x0 x1 = s at *
  pointwise [val_main_cst_3]
  simp only [hm, hs]
  rfl

/-- The scaled scores of the context queries. -/
theorem ctx_score (x0 : FVec Ideal S4x8x4352x128 .f32) (x1 : FVec Ideal S4x2x4352x128 .f32) (b : Fin 4) (g : Fin 2)
    (j : Fin 4) (r : Fin 256) (t : Fin 256) : val_main_v26 (F := Ideal) x0 x1 (ix5 b g j r t)
      = (∑ d : Fin 128, x0 (ix4 b ⟨g.val * 4 + j.val, by omega⟩ ⟨r.val, by omega⟩ d)
          * x1 (ix4 b g ⟨t.val, by omega⟩ d)) * scale := by
  pointwise [val_main_v26, val_main_v25, val_main_v24, val_main_v21, val_main_v22, val_main_v2, val_main_v1, val_main_v0, val_main_cst_0, val_main_cst]
  rw [Numbers.w128, Numbers.rscale 128 (by norm_num)]
  rfl

/-- The maximum of a row of scores of the context queries. -/
theorem ctx_max (x0 : FVec Ideal S4x8x4352x128 .f32) (x1 : FVec Ideal S4x2x4352x128 .f32) (b : Fin 4) (g : Fin 2)
    (j : Fin 4) (r : Fin 256) : val_main_v29 (F := Ideal) x0 x1 (ix4 b g j r)
      = Finset.univ.fold max ⊥ fun t : Fin 256 => val_main_v26 (F := Ideal) x0 x1 (ix5 b g j r t) := by
  have h : val_main_v27 (F := Ideal) x0 x1 (ix4 b g j r)
      = Finset.univ.fold max ⊥ fun t : Fin 256 => val_main_v26 (F := Ideal) x0 x1 (ix5 b g j r t) := by
    unfold val_main_v27
    generalize val_main_v26 (F := Ideal) x0 x1 = y
    pointwise [val_main_cst_4]
    rw [Softmax.ofBits_ninf]
  rw [val_main_v29_apply, h]
  generalize val_main_v26 (F := Ideal) x0 x1 = y
  rw [val_main_v28_apply, val_main_cst_5_apply, Ideal.ofBits_def, Softmax.ofBits_ninf]
  exact max_bot_left _

/-- The context queries' attention. -/
theorem ctx (x0 : FVec Ideal S4x8x4352x128 .f32) (x1 x2 : FVec Ideal S4x2x4352x128 .f32) (b : Fin 4) (g : Fin 2)
    (j : Fin 4) (r : Fin 256) (l : Fin 128) : val_main_v38 (F := Ideal) x0 x1 x2 (ix5 b g l j r)
      = cell x0 x1 x2 256 (by omega) b ⟨g.val * 4 + j.val, by omega⟩ g ⟨r.val, by omega⟩ l := by
  have hm := ctx_max x0 x1
  have hs := ctx_score x0 x1
  unfold val_main_v38 val_main_v37 val_main_v36 val_main_v35 val_main_v34 val_main_v33 val_main_v32 val_main_v31 val_main_v30 val_main_v23
  generalize val_main_v29 (F := Ideal) x0 x1 = M at *
  generalize val_main_v26 (F := Ideal) x0 x1 = s at *
  pointwise [val_main_cst_6]
  simp only [hm, hs]
  rfl

/-- The latent rows, one under the other. -/
theorem lat_rows (x0 : FVec Ideal S4x8x4352x128 .f32) (x1 x2 : FVec Ideal S4x2x4352x128 .f32) (i : Fin 16384)
    (j : Fin 1024) : val_main_v20 (F := Ideal) x0 x1 x2 (ix2 i j)
      = cell x0 x1 x2 4352 (by omega) ⟨i.val / 4096, by omega⟩ ⟨j.val / 128, by omega⟩ ⟨j.val / 512, by omega⟩
          ⟨256 + i.val % 4096, by omega⟩ ⟨j.val % 128, by omega⟩ := by
  have h := lat x0 x1 x2
  unfold val_main_v20 val_main_v19
  generalize val_main_v18 (F := Ideal) x0 x1 x2 = y at *
  pointwise []
  rw [h]
  exact congrArg (fun k => cell x0 x1 x2 4352 _ _ k _ _ _)
    (Fin.ext (by show j.val / 512 * 4 + j.val / 128 % 4 = j.val / 128; omega))

/-- The reference's result at a latent row. -/
theorem res_latent (x0 : FVec Ideal S4x8x4352x128 .f32) (x1 x2 : FVec Ideal S4x2x4352x128 .f32) (i : Fin 17408)
    (j : Fin 1024) (hi : i.val < 16384) : val_main_v42 (F := Ideal) x0 x1 x2 (ix2 i j)
      = cell x0 x1 x2 4352 (by omega) ⟨i.val / 4096, by omega⟩ ⟨j.val / 128, by omega⟩ ⟨j.val / 512, by omega⟩
          ⟨256 + i.val % 4096, by omega⟩ ⟨j.val % 128, by omega⟩ := by
  have h := lat_rows x0 x1 x2
  unfold val_main_v42 val_main_v41
  generalize val_main_v20 (F := Ideal) x0 x1 x2 = y at *
  generalize val_main_v40 (F := Ideal) x0 x1 x2 = z at *
  pointwise []
  rw [dif_pos hi]
  exact h ⟨i.val, by omega⟩ j

/-- The context rows, one under the other. -/
theorem ctx_rows (x0 : FVec Ideal S4x8x4352x128 .f32) (x1 x2 : FVec Ideal S4x2x4352x128 .f32) (i : Fin 1024)
    (j : Fin 1024) : val_main_v40 (F := Ideal) x0 x1 x2 (ix2 i j)
      = cell x0 x1 x2 256 (by omega) ⟨i.val / 256, by omega⟩ ⟨j.val / 128, by omega⟩ ⟨j.val / 512, by omega⟩
          ⟨i.val % 256, by omega⟩ ⟨j.val % 128, by omega⟩ := by
  have h := ctx x0 x1 x2
  unfold val_main_v40 val_main_v39
  generalize val_main_v38 (F := Ideal) x0 x1 x2 = y at *
  pointwise []
  rw [h]
  exact congrArg (fun k => cell x0 x1 x2 256 _ _ k _ _ _)
    (Fin.ext (by show j.val / 512 * 4 + j.val / 128 % 4 = j.val / 128; omega))

/-- The reference's result at a context row. -/
theorem res_context (x0 : FVec Ideal S4x8x4352x128 .f32) (x1 x2 : FVec Ideal S4x2x4352x128 .f32) (i : Fin 17408)
    (j : Fin 1024) (hi : ¬ i.val < 16384) : val_main_v42 (F := Ideal) x0 x1 x2 (ix2 i j)
      = cell x0 x1 x2 256 (by omega) ⟨(i.val - 16384) / 256, by omega⟩ ⟨j.val / 128, by omega⟩ ⟨j.val / 512, by omega⟩
          ⟨(i.val - 16384) % 256, by omega⟩ ⟨j.val % 128, by omega⟩ := by
  have h := ctx_rows x0 x1 x2
  unfold val_main_v42 val_main_v41
  generalize val_main_v40 (F := Ideal) x0 x1 x2 = y at *
  generalize val_main_v20 (F := Ideal) x0 x1 x2 = z at *
  pointwise []
  rw [dif_neg hi]
  exact h ⟨i.val - 16384, by omega⟩ j

end Cert.GqaRefIdeal.Value

end
-- ==== Proof.Finite.lean ====
/- What the preconditions give: every query and every key is a real number. -/
module

public import proofs.«01_k».proof.Pre_finite_gqa
public import proofs.«01_k».proof.Pre_finite_mla
public import proofs.«01_k».proof.Proof.Numbers
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Finite

/-- The queries of the grouped attention are real. -/
theorem gqa_q [Cert.Pre_finite_gqa.Facts] (a0 a1 a2) (h : Cert.Pre_finite_gqa.fn (F := Ideal) a0 a1 a2 = fun _ => 1#1)
    (b : Fin 4) (e : Fin 8) (p : Fin 4352) (d : Fin 128) : ∃ r : ℝ, a0 (ix4 b e p d) = (r : EReal) := by
  have hb := congrFun h (ix4 b ⟨e.val, by omega⟩ p d)
  revert hb
  unfold Cert.Pre_finite_gqa.fn
  pointwise []
  exact Numbers.real_of_abs_lt _

/-- The keys of the grouped attention are real. -/
theorem gqa_k [Cert.Pre_finite_gqa.Facts] (a0 a1 a2) (h : Cert.Pre_finite_gqa.fn (F := Ideal) a0 a1 a2 = fun _ => 1#1)
    (b : Fin 4) (e : Fin 2) (p : Fin 4352) (d : Fin 128) : ∃ r : ℝ, a1 (ix4 b e p d) = (r : EReal) := by
  have hb := congrFun h (ix4 b ⟨8 + e.val, by omega⟩ p d)
  revert hb
  unfold Cert.Pre_finite_gqa.fn
  pointwise []
  exact Numbers.real_of_abs_lt _

/-- The queries of the latent attention are real. -/
theorem mla_q [Cert.Pre_finite_mla.Facts] (a0 a1 a2) (h : Cert.Pre_finite_mla.fn (F := Ideal) a0 a1 a2 = fun _ => 1#1)
    (b : Fin 4) (e : Fin 8) (p : Fin 4352) (d : Fin 192) : ∃ r : ℝ, a0 (ix4 b e p d) = (r : EReal) := by
  have hb := congrFun h (ix4 b ⟨e.val, by omega⟩ p d)
  revert hb
  unfold Cert.Pre_finite_mla.fn
  pointwise []
  exact Numbers.real_of_abs_lt _

/-- The keys of the latent attention are real. -/
theorem mla_k [Cert.Pre_finite_mla.Facts] (a0 a1 a2) (h : Cert.Pre_finite_mla.fn (F := Ideal) a0 a1 a2 = fun _ => 1#1)
    (b : Fin 4) (e : Fin 8) (p : Fin 4352) (d : Fin 192) : ∃ r : ℝ, a1 (ix4 b e p d) = (r : EReal) := by
  have hb := congrFun h (ix4 b ⟨8 + e.val, by omega⟩ p d)
  revert hb
  unfold Cert.Pre_finite_mla.fn
  pointwise []
  exact Numbers.real_of_abs_lt _

end Cert.Finite

end
-- ==== Proof.Gqa.lean ====
/- The grouped-query attention: the kernel's run and the reference's leave the same array. -/
module

public import proofs.«01_k».proof.Defs
public import proofs.«01_k».proof.Proof.Gen.GqaRefIdeal.Run
public import proofs.«01_k».proof.Proof.GqaOperands
public import proofs.«01_k».proof.Proof.GqaRef
public import proofs.«01_k».proof.Proof.Finite

@[expose] public section

set_option maxRecDepth 16384

noncomputable section

open Idealize.ShloMosaic Idealize.ShloMosaic.TcCoe Idealize.SL.Sem

namespace Cert.Gqa.Proof

/-- What the kernel's operands `Q`, `K`, `W` hold of the arguments `x0`, `x1`, `x2`: the scaled queries, the keys, the
    values with a one beside them; and that queries and keys are real. -/
structure Operands (Q : FVec Ideal GqaIdeal.S4x8x4352x128 .bf16) (K : FVec Ideal GqaIdeal.S4x2x4352x128 .bf16)
    (W : FVec Ideal GqaIdeal.S4x2x4352x256 .bf16) (x0 : FVec Ideal GqaRefIdeal.S4x8x4352x128 .f32)
    (x1 x2 : FVec Ideal GqaRefIdeal.S4x2x4352x128 .f32) : Prop where
  q : ∀ b h p d, Q (ix4 b h p d) = x0 (ix4 b h p d) * (((Real.log 2 * Real.sqrt 128)⁻¹ : ℝ) : EReal)
  k : ∀ b g p d, K (ix4 b g p d) = x1 (ix4 b g p d)
  v : ∀ b g p (l : Fin 128), W (ix4 b g p ⟨l.val, by omega⟩) = x2 (ix4 b g p l)
  one : ∀ b g p, W (ix4 b g p 128) = (1 : EReal)
  qr : ∀ b h p d, ∃ r : ℝ, x0 (ix4 b h p d) = (r : EReal)
  kr : ∀ b g p d, ∃ r : ℝ, x1 (ix4 b g p d) = (r : EReal)

/-- One element: the kernel's row against the reference's. -/
theorem cell_eq {Q K W x0 x1 x2} (H : Operands Q K W x0 x1 x2) (n : ℕ) (hn : n ≤ 4352) (h0n : n ≠ 0) (b : Fin 4)
    (h : Fin 8) (g : Fin 2) (p : Fin 4352) (l : Fin 128) :
    GqaIdeal.Value.cell Q K W n hn b h g p l = GqaRefIdeal.Value.cell x0 x1 x2 n hn b h g p l := by
  haveI : NeZero n := ⟨h0n⟩
  unfold GqaIdeal.Value.cell GqaRefIdeal.Value.cell
  simp only [H.q, H.k, H.v, H.one]
  rw [Softmax.rowW_one _ _ _ fun _ => rfl]
  exact Softmax.attention_row (Real.sqrt 128) (fun d => x0 (ix4 b h p d)) (fun t d => x1 (ix4 b g ⟨t.val, by omega⟩ d))
    (fun t => x2 (ix4 b g ⟨t.val, by omega⟩ l)) (fun d => H.qr b h p d) (fun t d => H.kr b g ⟨t.val, by omega⟩ d)

/-- The kernel's result is the reference's. -/
theorem result_eq {Q K W x0 x1 x2} (H : Operands Q K W x0 x1 x2) :
    GqaIdeal.Value.G Q K W = GqaRefIdeal.Read.val_main_v42 (F := Ideal) x0 x1 x2 := by
  funext i
  idx_vars i
  by_cases hi : i0.val < 16384
  · rw [GqaRefIdeal.Value.res_latent x0 x1 x2 i0 i1 hi, ← cell_eq H 4352 (by omega) (by omega)]
    exact dif_pos hi
  · rw [GqaRefIdeal.Value.res_context x0 x1 x2 i0 i1 hi, ← cell_eq H 256 (by omega) (by omega)]
    exact dif_neg hi

/-- The value claim of the grouped-query attention. -/
theorem algebraic [Cert.Pre_finite_gqa.Facts] : Cert.algebraic_GqaIdeal_GqaRefIdeal_pre_finite_gqa := by
  pair_intro
  · run_from Cert.GqaIdeal.Value.run_blocks m g
  · run_from Cert.GqaRefIdeal.Value.run m' g'
    obtain ⟨e0, e1, e2⟩ := hagree c
    rw [GqaRefIdeal.Read.val_main_v42_eq, e0, e1, e2]
    refine (result_eq ⟨GqaIdeal.Value.operand_q m c, GqaIdeal.Value.operand_k m c, GqaIdeal.Value.operand_v m c,
      GqaIdeal.Value.operand_one m c, Finite.gqa_q _ _ _ (hpre c), Finite.gqa_k _ _ _ (hpre c)⟩).symm.trans ?_
    exact (GqaIdeal.Value.final m c).symm

end Cert.Gqa.Proof

end
-- ==== Proof.MlaKernel.lean ====
module

public import proofs.«01_k».proof.Proof.Gen.MlaIdeal.Value
public import Idealize.ShloMosaic.Lib.Pipeline.ValueKit
public import Idealize.ShloMosaic.Lib.Pointwise
public import Idealize.ShloMosaic.Lib.Claim
public import proofs.«01_k».proof.Proof.Softmax

@[expose] public section

set_option maxRecDepth 16384

noncomputable section

open Idealize.ShloMosaic Idealize.ShloMosaic.TcCoe Idealize.SL.Sem
open Idealize.ShloMosaic.Pipeline (Dat)

namespace Cert.MlaIdeal.Value

open Cert.MlaIdeal Cert.MlaIdeal.Gen

/-- One element of the result from the call's operands: query row `p` of head `h` of batch `b` against the first `n`
    keys of head `g`, at lane `l` of the values. -/
def cell (Q : FVec Ideal S4x8x4352x256 .bf16) (K : FVec Ideal S4x8x4352x256 .bf16) (W : FVec Ideal S4x8x4352x256 .bf16)
    (n : ℕ) (hn : n ≤ 4352) (b : Fin 4) (h : Fin 8) (g : Fin 8) (p : Fin 4352) (l : Fin 128) : EReal :=
  Softmax.rowW (n := n) (fun t => ∑ d : Fin 256, Q (ix4 b h p d) * K (ix4 b g ⟨t.val, by omega⟩ d))
    (fun t => W (ix4 b g ⟨t.val, by omega⟩ ⟨l.val, by omega⟩)) (fun t => W (ix4 b g ⟨t.val, by omega⟩ 128))

/-- What the call leaves in the result array: the latent rows first, against all keys, then the context rows, against
    the context's keys. -/
def G (Q : FVec Ideal S4x8x4352x256 .bf16) (K : FVec Ideal S4x8x4352x256 .bf16) (W : FVec Ideal S4x8x4352x256 .bf16) :
    FVec Ideal S17408x1024 .bf16 := fun i =>
  have h0 : (i 0).val < 17408 := (i 0).isLt
  have h1 : (i 1).val < 1024 := (i 1).isLt
  if h : (i 0).val < 16384 then
    cell Q K W 4352 (by omega) ⟨(i 0).val / 4096, by omega⟩ ⟨(i 1).val / 128, by omega⟩ ⟨(i 1).val / 128, by omega⟩
      ⟨256 + (i 0).val % 4096, by omega⟩ ⟨(i 1).val % 128, by omega⟩
  else
    cell Q K W 256 (by omega) ⟨((i 0).val - 16384) / 256, by omega⟩ ⟨(i 1).val / 128, by omega⟩ ⟨(i 1).val / 128, by omega⟩
      ⟨((i 0).val - 16384) % 256, by omega⟩ ⟨(i 1).val % 128, by omega⟩

variable (m : (ℓ : Loc nD τ sig) → Buf (Elt Ideal) ℓ)

/-- The windows' block indices at every point, from the point's number. -/
theorem idx : ∀ t : Fin cfg0.N, win0_0.index t = ![t.val / 34, t.val / 17 % 2, t.val % 17, 0]
    ∧ win0_1.index t = ![t.val / 34, t.val / 17 % 2, 0, 0] ∧ win0_2.index t = ![t.val / 34, t.val / 17 % 2, 0, 0]
    ∧ win0_3.index t = ![if t.val % 17 = 0 then 64 + t.val / 34 else t.val / 34 * 16 + t.val % 17 - 1, t.val / 17 % 2] :=
  (by decide +kernel : ∀ t : Fin grid0.N, _)

/-- An element of the result depends on its coordinates alone. -/
theorem cell_congr (Q K W) (n : ℕ) (hn : n ≤ 4352) {b b' : Fin 4} {h h' : Fin 8} {g g' : Fin 8} {p p' : Fin 4352}
    {l l' : Fin 128} (hb : b.val = b'.val) (hh : h.val = h'.val) (hg : g.val = g'.val) (hp : p.val = p'.val)
    (hl : l.val = l'.val) : cell Q K W n hn b h g p l = cell Q K W n hn b' h' g' p' l' := by
  rw [Fin.ext hb, Fin.ext hh, Fin.ext hg, Fin.ext hp, Fin.ext hl]

/-- The result at a latent row. -/
theorem G_latent (Q K W) (i : S17408x1024.Idx) (b : Fin 4) (h : Fin 8) (g : Fin 8) (p : Fin 4352) (l : Fin 128)
    (h0 : (i 0).val = b.val * 4096 + (p.val - 256)) (hp : 256 ≤ p.val) (h1 : (i 1).val = h.val * 128 + l.val)
    (hg : g.val = h.val) : G Q K W i = cell Q K W 4352 (by omega) b h g p l := by
  rw [G, dif_pos (by omega)]
  apply cell_congr <;> simp only <;> omega

/-- The result at a context row. -/
theorem G_context (Q K W) (i : S17408x1024.Idx) (b : Fin 4) (h : Fin 8) (g : Fin 8) (p : Fin 4352) (l : Fin 128)
    (h0 : (i 0).val = 16384 + b.val * 256 + p.val) (hp : p.val < 256) (h1 : (i 1).val = h.val * 128 + l.val)
    (hg : g.val = h.val) : G Q K W i = cell Q K W 256 (by omega) b h g p l := by
  rw [G, dif_neg (by omega)]
  apply cell_congr <;> simp only <;> omega

/-- The row a tile computes at row `r` and lane `l` from its block `q` of queries, `k` of keys and `v` of values. -/
def tile {n : ℕ} (q : FVec Ideal ⟨4, ![1, 1, 256, 256]⟩ .bf16) (k : FVec Ideal ⟨4, ![1, 1, n, 256]⟩ .bf16)
    (v : FVec Ideal ⟨4, ![1, 1, n, 256]⟩ .bf16) (r : Fin 256) (l : Fin 128) : EReal :=
  Softmax.rowW (n := n) (fun s => ∑ d : Fin 256, q (ix4 0 0 r d) * k (ix4 0 0 s d))
    (fun s => v (ix4 0 0 s ⟨l.val, by omega⟩)) (fun s => v (ix4 0 0 s 128))

/-- Head 0 of the group, at a context point. -/
theorem pay_c0 (q k v) (r : Fin 256) (l : Fin 128) : k0_pay10 (F := Ideal) (k0_pay5 q k) (k0_pay9 q k) v (ix2 r l) = tile q k v r l := by
  pointwise [k0_pay10, k0_pay5, k0_pay9]
  rfl

/-- Head 1 of the group, at a context point. -/
theorem pay_c1 (q k v) (r : Fin 256) (l : Fin 128) : k0_pay11 (F := Ideal) (k0_pay6 q k) v (ix2 r l) = tile q k v r l := by
  pointwise [k0_pay11, k0_pay6]
  rfl

/-- Head 2 of the group, at a context point. -/
theorem pay_c2 (q k v) (r : Fin 256) (l : Fin 128) : k0_pay1 (F := Ideal) (k0_pay12 (k0_pay7 q k) v) (k0_pay13 (k0_pay7 q k) v) (ix2 r l) = tile q k v r l := by
  pointwise [k0_pay1, k0_pay12, k0_pay13, k0_pay7]
  rfl

/-- Head 3 of the group, at a context point. -/
theorem pay_c3 (q k v) (r : Fin 256) (l : Fin 128) : k0_pay2 (F := Ideal) (k0_pay8 q k) v (ix2 r l) = tile q k v r l := by
  pointwise [k0_pay2, k0_pay8]
  rfl

/-- Head 0 of the group, at a latent point. -/
theorem pay_l0 (q k v) (r : Fin 256) (l : Fin 128) : k0_pay19 (F := Ideal) (k0_pay14 q k) (k0_pay18 q k) v (ix2 r l) = tile q k v r l := by
  pointwise [k0_pay19, k0_pay14, k0_pay18]
  rfl

/-- Head 1 of the group, at a latent point. -/
theorem pay_l1 (q k v) (r : Fin 256) (l : Fin 128) : k0_pay20 (F := Ideal) (k0_pay15 q k) v (ix2 r l) = tile q k v r l := by
  pointwise [k0_pay20, k0_pay15]
  rfl

/-- Head 2 of the group, at a latent point. -/
theorem pay_l2 (q k v) (r : Fin 256) (l : Fin 128) : k0_pay3 (F := Ideal) (k0_pay21 (k0_pay16 q k) v) (k0_pay22 (k0_pay16 q k) v) (ix2 r l) = tile q k v r l := by
  pointwise [k0_pay3, k0_pay21, k0_pay22, k0_pay16]
  rfl

/-- Head 3 of the group, at a latent point. -/
theorem pay_l3 (q k v) (r : Fin 256) (l : Fin 128) : k0_pay4 (F := Ideal) (k0_pay17 q k) v (ix2 r l) = tile q k v r l := by
  pointwise [k0_pay4, k0_pay17]
  rfl

/-- The row a tile computes from its blocks, as an element of the result. -/
theorem tile_cell (Q K W) {n : ℕ} (hn : n ≤ 4352) (q k v) (r : Fin 256) (l : Fin 128) (b : Fin 4) (h : Fin 8) (g : Fin 8)
    (p : Fin 4352) (hq : ∀ d, q (ix4 0 0 r d) = Q (ix4 b h p d))
    (hk : ∀ s d, k (ix4 0 0 s d) = K (ix4 b g ⟨s.val, by omega⟩ d))
    (hv : ∀ s d, v (ix4 0 0 s d) = W (ix4 b g ⟨s.val, by omega⟩ d)) :
    tile (n := n) q k v r l = cell Q K W n hn b h g p l := by
  simp only [tile, hq, hk, hv, cell]

set_option maxHeartbeats 2000000 in
/-- After the run the result array holds `G` of the call's operands. -/
theorem final (c : Dev nD) : (dats m 0 c).arrAt 3 (cfgs 0).N = G (V m c main_v7) (V m c main_v9) (V m c main_v15) := by
  refine (dats m 0 c).arrAt_eq_of_covers 3 _ (by decide +kernel) fun t hf y => ?_
  have ht : t.val < 136 := t.isLt
  blk_simp
  rw [after0_3]
  by_cases h0 : t.val % 17 = 0
  · rw [outsAt0_A m c t h0 (by omega)]
    frame_out
    generalize hi : ((cfg0.win 3).blk t).view.emb y = i
    have hi0 : (i 0 : ℕ) = (64 + t.val / 34) * 256 + (y 0).val := by rw [← hi]; blk_simp [idx t, h0]; rfl
    have hi1 : (i 1 : ℕ) = (t.val / 17 % 2) * 512 + (y 1).val := by rw [← hi]; blk_simp [idx t]
    clear hi
    canon_tiles x h
    all_goals
      idx_vars x
      rw [G_context _ _ _ i ⟨t.val / 34, by omega⟩ ⟨(i 1).val / 128, by omega⟩ ⟨(i 1).val / 128, by omega⟩
        ⟨x0.val, by omega⟩ x1 (by simp only; omega) (by simp only; omega) (by simp only; omega) rfl]
      first | rw [pay_c0] | rw [pay_c1] | rw [pay_c2] | rw [pay_c3]
      apply tile_cell
      · intro d; try rw [View.ld_apply]
        blk_ext [iblk, idx t, Rect.idx_unit_val]
      · intro s d; try rw [View.ld_apply]
        blk_ext [iblk, idx t, Rect.idx_unit_val]
      · intro s d; try rw [View.ld_apply]
        blk_ext [iblk, idx t, Rect.idx_unit_val]
  · rw [outsAt0_B m c t h0 (by omega)]
    frame_out
    generalize hi : ((cfg0.win 3).blk t).view.emb y = i
    have hi0 : (i 0 : ℕ) = (t.val / 34 * 16 + t.val % 17 - 1) * 256 + (y 0).val := by rw [← hi]; blk_simp [idx t, h0]; rw [if_neg not_false]
    have hi1 : (i 1 : ℕ) = (t.val / 17 % 2) * 512 + (y 1).val := by rw [← hi]; blk_simp [idx t]
    clear hi
    canon_tiles x h
    all_goals
      idx_vars x
      rw [G_latent _ _ _ i ⟨t.val / 34, by omega⟩ ⟨(i 1).val / 128, by omega⟩ ⟨(i 1).val / 128, by omega⟩
        ⟨t.val % 17 * 256 + x0.val, by omega⟩ x1 (by simp only; omega) (by simp only; omega) (by simp only; omega)
        rfl]
      first | rw [pay_l0] | rw [pay_l1] | rw [pay_l2] | rw [pay_l3]
      apply tile_cell
      · intro d; try rw [View.ld_apply]
        blk_ext [iblk, idx t, Rect.idx_unit_val]
      · intro s d; try rw [View.ld_apply]
        blk_ext [iblk, idx t, Rect.idx_unit_val]
      · intro s d; try rw [View.ld_apply]
        blk_ext [iblk, idx t, Rect.idx_unit_val]

end Cert.MlaIdeal.Value

end
-- ==== Proof.MlaOperands.lean ====
module

public import proofs.«01_k».proof.Proof.MlaKernel
public import proofs.«01_k».proof.Proof.Numbers
public import Idealize.ShloMosaic.Lib.KernelVsHost

@[expose] public section

set_option maxRecDepth 16384

noncomputable section

open Idealize.ShloMosaic Idealize.ShloMosaic.TcCoe Idealize.SL.Sem

namespace Cert.MlaIdeal.Value

open Cert.MlaIdeal Cert.MlaIdeal.Gen

variable (m : (ℓ : Loc nD τ sig) → Buf (Elt Ideal) ℓ)

/-- A padded array at one of the first 192 lanes. -/
theorem pad_in (x : S4x8x4352x192.Idx → EReal) (v : S_.Idx → EReal) (b : Fin 4) (h : Fin 8) (p : Fin 4352)
    (d : Fin 192) : pad S4x8x4352x256 ![0, 0, 0, 0] ![0, 0, 0, 64] ![0, 0, 0, 0] x v
      pads_S4x8x4352x192_S4x8x4352x256_000_000_000_0640 h_S_ (ix4 b h p (Fin.castAdd 64 d)) = x (ix4 b h p d) := by
  refine pad_apply_of_inside _ _ _ _ _ _ _ _ _ fun a => ?_
  fin_cases a <;> simp <;> rfl

/-- A padded array at one of the other lanes. -/
theorem pad_out (x : S4x8x4352x192.Idx → EReal) (v : S_.Idx → EReal) (b : Fin 4) (h : Fin 8) (p : Fin 4352)
    (d : Fin 64) : pad S4x8x4352x256 ![0, 0, 0, 0] ![0, 0, 0, 64] ![0, 0, 0, 0] x v
      pads_S4x8x4352x192_S4x8x4352x256_000_000_000_0640 h_S_ (ix4 b h p (Fin.natAdd 192 d)) = v (Shape.Idx.first h_S_) := by
  refine pad_apply_of_not_inside _ _ _ _ _ _ _ _ (3 : Fin 4) ?_
  rintro ⟨-, -, hlt⟩
  have hlt' : (192 + d.val - 0) / 1 < 192 := hlt
  omega

/-- The padding value, zero. -/
theorem zero_word (i : S_.Idx) : (sitofp (F := Ideal) .f32 (constantI S_ 32 0#32)) i = (0 : EReal) := by
  show (((0#32 : BitVec 32).toInt : ℝ) : EReal) = 0
  simp

/-- The query operand's first 192 lanes are the query argument, scaled. -/
theorem operand_q (c : Dev nD) (b : Fin 4) (h : Fin 8) (p : Fin 4352) (d : Fin 192) :
    V m c main_v7 (ix4 b h p (Fin.castAdd 64 d)) = (show EReal from m ((c.tc : Thread nD τ).loc main_arg0) (ix4 b h p d))
      * (((Real.log 2 * Real.sqrt 192)⁻¹ : ℝ) : EReal) := by
  simp only [V, hostOps0, hostOps0_1, hostOps0_2, hostOps0_3, hostOps0_4, List.flatten_cons, List.flatten_nil,
    List.cons_append, List.nil_append, List.append_nil]
  entry_read
  simp only [StableHlo.TRef.toBuf, StableHlo.TRef.ofBuf, StableHlo.TRef.of, cast_eq]
  refine (pad_in _ _ b h p d).trans ?_
  pointwise []
  rw [Numbers.two, Numbers.w192, Numbers.kscale 192 (by norm_num)]

/-- Its other lanes are zero. -/
theorem operand_q_pad (c : Dev nD) (b : Fin 4) (h : Fin 8) (p : Fin 4352) (d : Fin 64) :
    V m c main_v7 (ix4 b h p (Fin.natAdd 192 d)) = (0 : EReal) := by
  simp only [V, hostOps0, hostOps0_1, hostOps0_2, hostOps0_3, hostOps0_4, List.flatten_cons, List.flatten_nil,
    List.cons_append, List.nil_append, List.append_nil]
  entry_read
  simp only [StableHlo.TRef.toBuf, StableHlo.TRef.ofBuf, StableHlo.TRef.of, cast_eq]
  refine (pad_out _ _ b h p d).trans ?_
  exact zero_word _

/-- The key operand's first 192 lanes are the key argument. -/
theorem operand_k (c : Dev nD) (b : Fin 4) (h : Fin 8) (p : Fin 4352) (d : Fin 192) :
    V m c main_v9 (ix4 b h p (Fin.castAdd 64 d)) = m ((c.tc : Thread nD τ).loc main_arg1) (ix4 b h p d) := by
  simp only [V, hostOps0, hostOps0_1, hostOps0_2, hostOps0_3, hostOps0_4, List.flatten_cons, List.flatten_nil,
    List.cons_append, List.nil_append, List.append_nil]
  entry_read
  simp only [StableHlo.TRef.toBuf, StableHlo.TRef.ofBuf, StableHlo.TRef.of, cast_eq]
  refine (pad_in _ _ b h p d).trans ?_
  rfl

/-- Its other lanes are zero. -/
theorem operand_k_pad (c : Dev nD) (b : Fin 4) (h : Fin 8) (p : Fin 4352) (d : Fin 64) :
    V m c main_v9 (ix4 b h p (Fin.natAdd 192 d)) = (0 : EReal) := by
  simp only [V, hostOps0, hostOps0_1, hostOps0_2, hostOps0_3, hostOps0_4, List.flatten_cons, List.flatten_nil,
    List.cons_append, List.nil_append, List.append_nil]
  entry_read
  simp only [StableHlo.TRef.toBuf, StableHlo.TRef.ofBuf, StableHlo.TRef.of, cast_eq]
  refine (pad_out _ _ b h p d).trans ?_
  exact zero_word _

/-- The value operand's first lanes are the value argument. -/
theorem operand_v (c : Dev nD) (b : Fin 4) (h : Fin 8) (p : Fin 4352) (l : Fin 128) :
    V m c main_v15 (ix4 b h p ⟨l.val, by omega⟩) = m ((c.tc : Thread nD τ).loc main_arg2) (ix4 b h p l) := by
  simp only [V, hostOps0, hostOps0_1, hostOps0_2, hostOps0_3, hostOps0_4, List.flatten_cons, List.flatten_nil,
    List.cons_append, List.nil_append, List.append_nil]
  entry_read
  pointwise []

/-- Its lane 128 is one. -/
theorem operand_one (c : Dev nD) (b : Fin 4) (h : Fin 8) (p : Fin 4352) :
    V m c main_v15 (ix4 b h p 128) = (1 : EReal) := by
  simp only [V, hostOps0, hostOps0_1, hostOps0_2, hostOps0_3, hostOps0_4, List.flatten_cons, List.flatten_nil,
    List.cons_append, List.nil_append, List.append_nil]
  entry_read
  pointwise []
  show (((1#1 : BitVec 1).toNat : ℝ) : EReal) = 1
  simp

end Cert.MlaIdeal.Value

end
-- ==== Proof.MlaRef.lean ====
module

public import proofs.«01_k».proof.Proof.Gen.MlaRefIdeal.Read
public import Idealize.ShloMosaic.Lib.Pipeline.ValueKit
public import Idealize.ShloMosaic.Lib.Pointwise
public import Idealize.ShloMosaic.Lib.Claim
public import proofs.«01_k».proof.Proof.Softmax
public import proofs.«01_k».proof.Proof.Numbers

@[expose] public section

set_option maxRecDepth 16384

noncomputable section

open Idealize.ShloMosaic Idealize.ShloMosaic.TcCoe Idealize.SL.Sem

namespace Cert.MlaRefIdeal.Value

open Cert.MlaRefIdeal Cert.MlaRefIdeal.Gen Cert.MlaRefIdeal.Read

/-- The scale of the scores, `1 / sqrt 192`. -/
def scale : EReal := (((Real.sqrt 192)⁻¹ : ℝ) : EReal)

/-- One element of the reference: query row `p` of head `h` of batch `b` against the first `n` keys of head
    `g`, at lane `l` of the values. -/
def cell (x0 : FVec Ideal S4x8x4352x192 .f32) (x1 : FVec Ideal S4x8x4352x192 .f32) (x2 : FVec Ideal S4x8x4352x128 .f32) (n : ℕ) (hn : n ≤ 4352)
    (b : Fin 4) (h : Fin 8) (g : Fin 8) (p : Fin 4352) (l : Fin 128) : EReal :=
  Softmax.rowRef (n := n) (fun t => (∑ d : Fin 192, x0 (ix4 b h p d) * x1 (ix4 b g ⟨t.val, by omega⟩ d)) * scale)
    (fun t => x2 (ix4 b g ⟨t.val, by omega⟩ l))

/-- The scaled scores of the latent queries. -/
theorem lat_score (x0 : FVec Ideal S4x8x4352x192 .f32) (x1 : FVec Ideal S4x8x4352x192 .f32) (b : Fin 4) (g : Fin 8)
    (j : Fin 1) (r : Fin 4096) (t : Fin 4352) : val_main_v6 (F := Ideal) x0 x1 (ix5 b g j r t)
      = (∑ d : Fin 192, x0 (ix4 b g ⟨256 + r.val, by omega⟩ d)
          * x1 (ix4 b g t d)) * scale := by
  pointwise [val_main_v6, val_main_v5, val_main_v4, val_main_v3, val_main_v2, val_main_v1, val_main_v0, val_main_cst_0, val_main_cst]
  rw [Numbers.w192, Numbers.rscale 192 (by norm_num)]
  rfl

/-- The maximum of a row of scores of the latent queries. -/
theorem lat_max (x0 : FVec Ideal S4x8x4352x192 .f32) (x1 : FVec Ideal S4x8x4352x192 .f32) (b : Fin 4) (g : Fin 8)
    (j : Fin 1) (r : Fin 4096) : val_main_v9 (F := Ideal) x0 x1 (ix4 b g j r)
      = Finset.univ.fold max ⊥ fun t : Fin 4352 => val_main_v6 (F := Ideal) x0 x1 (ix5 b g j r t) := by
  have h : val_main_v7 (F := Ideal) x0 x1 (ix4 b g j r)
      = Finset.univ.fold max ⊥ fun t : Fin 4352 => val_main_v6 (F := Ideal) x0 x1 (ix5 b g j r t) := by
    unfold val_main_v7
    generalize val_main_v6 (F := Ideal) x0 x1 = y
    pointwise [val_main_cst_1]
    rw [Softmax.ofBits_ninf, Subsingleton.elim j 0]
  rw [val_main_v9_apply, h]
  generalize val_main_v6 (F := Ideal) x0 x1 = y
  rw [val_main_v8_apply, val_main_cst_2_apply, Ideal.ofBits_def, Softmax.ofBits_ninf]
  exact max_bot_left _

/-- The latent queries' attention. -/
theorem lat (x0 : FVec Ideal S4x8x4352x192 .f32) (x1 : FVec Ideal S4x8x4352x192 .f32) (x2 : FVec Ideal S4x8x4352x128 .f32) (b : Fin 4) (g : Fin 8)
    (j : Fin 1) (r : Fin 4096) (l : Fin 128) : val_main_v18 (F := Ideal) x0 x1 x2 (ix5 b g l j r)
      = cell x0 x1 x2 4352 (by omega) b g g ⟨256 + r.val, by omega⟩ l := by
  have hm := lat_max x0 x1
  have hs := lat_score x0 x1
  unfold val_main_v18 val_main_v17 val_main_v16 val_main_v15 val_main_v14 val_main_v13 val_main_v12 val_main_v11 val_main_v10
  generalize val_main_v9 (F := Ideal) x0 x1 = M at *
  generalize val_main_v6 (F := Ideal) x0 x1 = s at *
  pointwise [val_main_cst_3]
  simp only [hm, hs]
  rfl

/-- The scaled scores of the context queries. -/
theorem ctx_score (x0 : FVec Ideal S4x8x4352x192 .f32) (x1 : FVec Ideal S4x8x4352x192 .f32) (b : Fin 4) (g : Fin 8)
    (j : Fin 1) (r : Fin 256) (t : Fin 256) : val_main_v26 (F := Ideal) x0 x1 (ix5 b g j r t)
      = (∑ d : Fin 192, x0 (ix4 b g ⟨r.val, by omega⟩ d)
          * x1 (ix4 b g ⟨t.val, by omega⟩ d)) * scale := by
  pointwise [val_main_v26, val_main_v25, val_main_v24, val_main_v21, val_main_v22, val_main_v2, val_main_v1, val_main_v0, val_main_cst_0, val_main_cst]
  rw [Numbers.w192, Numbers.rscale 192 (by norm_num)]
  rfl

/-- The maximum of a row of scores of the context queries. -/
theorem ctx_max (x0 : FVec Ideal S4x8x4352x192 .f32) (x1 : FVec Ideal S4x8x4352x192 .f32) (b : Fin 4) (g : Fin 8)
    (j : Fin 1) (r : Fin 256) : val_main_v29 (F := Ideal) x0 x1 (ix4 b g j r)
      = Finset.univ.fold max ⊥ fun t : Fin 256 => val_main_v26 (F := Ideal) x0 x1 (ix5 b g j r t) := by
  have h : val_main_v27 (F := Ideal) x0 x1 (ix4 b g j r)
      = Finset.univ.fold max ⊥ fun t : Fin 256 => val_main_v26 (F := Ideal) x0 x1 (ix5 b g j r t) := by
    unfold val_main_v27
    generalize val_main_v26 (F := Ideal) x0 x1 = y
    pointwise [val_main_cst_4]
    rw [Softmax.ofBits_ninf, Subsingleton.elim j 0]
  rw [val_main_v29_apply, h]
  generalize val_main_v26 (F := Ideal) x0 x1 = y
  rw [val_main_v28_apply, val_main_cst_5_apply, Ideal.ofBits_def, Softmax.ofBits_ninf]
  exact max_bot_left _

/-- The context queries' attention. -/
theorem ctx (x0 : FVec Ideal S4x8x4352x192 .f32) (x1 : FVec Ideal S4x8x4352x192 .f32) (x2 : FVec Ideal S4x8x4352x128 .f32) (b : Fin 4) (g : Fin 8)
    (j : Fin 1) (r : Fin 256) (l : Fin 128) : val_main_v38 (F := Ideal) x0 x1 x2 (ix5 b g l j r)
      = cell x0 x1 x2 256 (by omega) b g g ⟨r.val, by omega⟩ l := by
  have hm := ctx_max x0 x1
  have hs := ctx_score x0 x1
  unfold val_main_v38 val_main_v37 val_main_v36 val_main_v35 val_main_v34 val_main_v33 val_main_v32 val_main_v31 val_main_v30 val_main_v23
  generalize val_main_v29 (F := Ideal) x0 x1 = M at *
  generalize val_main_v26 (F := Ideal) x0 x1 = s at *
  pointwise [val_main_cst_6]
  simp only [hm, hs]
  rfl

/-- The latent rows, one under the other. -/
theorem lat_rows (x0 : FVec Ideal S4x8x4352x192 .f32) (x1 : FVec Ideal S4x8x4352x192 .f32) (x2 : FVec Ideal S4x8x4352x128 .f32) (i : Fin 16384)
    (j : Fin 1024) : val_main_v20 (F := Ideal) x0 x1 x2 (ix2 i j)
      = cell x0 x1 x2 4352 (by omega) ⟨i.val / 4096, by omega⟩ ⟨j.val / 128, by omega⟩ ⟨j.val / 128, by omega⟩
          ⟨256 + i.val % 4096, by omega⟩ ⟨j.val % 128, by omega⟩ := by
  have h := lat x0 x1 x2
  unfold val_main_v20 val_main_v19
  generalize val_main_v18 (F := Ideal) x0 x1 x2 = y at *
  pointwise []
  rw [h]

/-- The reference's result at a latent row. -/
theorem res_latent (x0 : FVec Ideal S4x8x4352x192 .f32) (x1 : FVec Ideal S4x8x4352x192 .f32) (x2 : FVec Ideal S4x8x4352x128 .f32) (i : Fin 17408)
    (j : Fin 1024) (hi : i.val < 16384) : val_main_v42 (F := Ideal) x0 x1 x2 (ix2 i j)
      = cell x0 x1 x2 4352 (by omega) ⟨i.val / 4096, by omega⟩ ⟨j.val / 128, by omega⟩ ⟨j.val / 128, by omega⟩
          ⟨256 + i.val % 4096, by omega⟩ ⟨j.val % 128, by omega⟩ := by
  have h := lat_rows x0 x1 x2
  unfold val_main_v42 val_main_v41
  generalize val_main_v20 (F := Ideal) x0 x1 x2 = y at *
  generalize val_main_v40 (F := Ideal) x0 x1 x2 = z at *
  pointwise []
  rw [dif_pos hi]
  exact h ⟨i.val, by omega⟩ j

/-- The context rows, one under the other. -/
theorem ctx_rows (x0 : FVec Ideal S4x8x4352x192 .f32) (x1 : FVec Ideal S4x8x4352x192 .f32) (x2 : FVec Ideal S4x8x4352x128 .f32) (i : Fin 1024)
    (j : Fin 1024) : val_main_v40 (F := Ideal) x0 x1 x2 (ix2 i j)
      = cell x0 x1 x2 256 (by omega) ⟨i.val / 256, by omega⟩ ⟨j.val / 128, by omega⟩ ⟨j.val / 128, by omega⟩
          ⟨i.val % 256, by omega⟩ ⟨j.val % 128, by omega⟩ := by
  have h := ctx x0 x1 x2
  unfold val_main_v40 val_main_v39
  generalize val_main_v38 (F := Ideal) x0 x1 x2 = y at *
  pointwise []
  rw [h]

/-- The reference's result at a context row. -/
theorem res_context (x0 : FVec Ideal S4x8x4352x192 .f32) (x1 : FVec Ideal S4x8x4352x192 .f32) (x2 : FVec Ideal S4x8x4352x128 .f32) (i : Fin 17408)
    (j : Fin 1024) (hi : ¬ i.val < 16384) : val_main_v42 (F := Ideal) x0 x1 x2 (ix2 i j)
      = cell x0 x1 x2 256 (by omega) ⟨(i.val - 16384) / 256, by omega⟩ ⟨j.val / 128, by omega⟩ ⟨j.val / 128, by omega⟩
          ⟨(i.val - 16384) % 256, by omega⟩ ⟨j.val % 128, by omega⟩ := by
  have h := ctx_rows x0 x1 x2
  unfold val_main_v42 val_main_v41
  generalize val_main_v40 (F := Ideal) x0 x1 x2 = y at *
  generalize val_main_v20 (F := Ideal) x0 x1 x2 = z at *
  pointwise []
  rw [dif_neg hi]
  exact h ⟨i.val - 16384, by omega⟩ j

end Cert.MlaRefIdeal.Value

end
-- ==== Proof.Mla.lean ====
/- The latent attention: the kernel's run and the reference's leave the same array. -/
module

public import proofs.«01_k».proof.Defs
public import proofs.«01_k».proof.Proof.Gen.MlaRefIdeal.Run
public import proofs.«01_k».proof.Proof.MlaOperands
public import proofs.«01_k».proof.Proof.MlaRef
public import proofs.«01_k».proof.Proof.Finite

@[expose] public section

set_option maxRecDepth 16384

noncomputable section

open Idealize.ShloMosaic Idealize.ShloMosaic.TcCoe Idealize.SL.Sem

namespace Cert.Mla.Proof

/-- What the kernel's operands `Q`, `K`, `W` hold of the arguments `x0`, `x1`, `x2`: the scaled queries, the keys, the
    values with a one beside them; queries and keys followed by zeros; and that queries and keys are real. -/
structure Operands (Q : FVec Ideal MlaIdeal.S4x8x4352x256 .bf16) (K : FVec Ideal MlaIdeal.S4x8x4352x256 .bf16)
    (W : FVec Ideal MlaIdeal.S4x8x4352x256 .bf16) (x0 : FVec Ideal MlaRefIdeal.S4x8x4352x192 .f32)
    (x1 : FVec Ideal MlaRefIdeal.S4x8x4352x192 .f32) (x2 : FVec Ideal MlaRefIdeal.S4x8x4352x128 .f32) : Prop where
  q : ∀ b h p (d : Fin 192), Q (ix4 b h p (Fin.castAdd 64 d)) = x0 (ix4 b h p d) * (((Real.log 2 * Real.sqrt 192)⁻¹ : ℝ) : EReal)
  q0 : ∀ b h p (d : Fin 64), Q (ix4 b h p (Fin.natAdd 192 d)) = (0 : EReal)
  k : ∀ b g p (d : Fin 192), K (ix4 b g p (Fin.castAdd 64 d)) = x1 (ix4 b g p d)
  k0 : ∀ b g p (d : Fin 64), K (ix4 b g p (Fin.natAdd 192 d)) = (0 : EReal)
  v : ∀ b g p (l : Fin 128), W (ix4 b g p ⟨l.val, by omega⟩) = x2 (ix4 b g p l)
  one : ∀ b g p, W (ix4 b g p 128) = (1 : EReal)
  qr : ∀ b h p d, ∃ r : ℝ, x0 (ix4 b h p d) = (r : EReal)
  kr : ∀ b g p d, ∃ r : ℝ, x1 (ix4 b g p d) = (r : EReal)

/-- A score over the 256 padded lanes is the score over the 192 lanes that hold values. -/
theorem score_eq {Q K W x0 x1 x2} (H : Operands Q K W x0 x1 x2) (b : Fin 4) (h g : Fin 8) (p t : Fin 4352) :
    (∑ d : Fin 256, Q (ix4 b h p d) * K (ix4 b g t d) : EReal)
      = ∑ d : Fin 192, x0 (ix4 b h p d) * (((Real.log 2 * Real.sqrt 192)⁻¹ : ℝ) : EReal) * x1 (ix4 b g t d) := by
  refine (Fin.sum_univ_add (a := 192) (b := 64) _).trans ?_
  simp only [H.q, H.q0, H.k, H.k0, mul_zero, Finset.sum_const_zero, add_zero]

/-- One element: the kernel's row against the reference's. -/
theorem cell_eq {Q K W x0 x1 x2} (H : Operands Q K W x0 x1 x2) (n : ℕ) (hn : n ≤ 4352) (h0n : n ≠ 0) (b : Fin 4)
    (h : Fin 8) (g : Fin 8) (p : Fin 4352) (l : Fin 128) :
    MlaIdeal.Value.cell Q K W n hn b h g p l = MlaRefIdeal.Value.cell x0 x1 x2 n hn b h g p l := by
  haveI : NeZero n := ⟨h0n⟩
  unfold MlaIdeal.Value.cell MlaRefIdeal.Value.cell
  simp only [score_eq H, H.v, H.one]
  rw [Softmax.rowW_one _ _ _ fun _ => rfl]
  exact Softmax.attention_row (Real.sqrt 192) (fun d => x0 (ix4 b h p d)) (fun t d => x1 (ix4 b g ⟨t.val, by omega⟩ d))
    (fun t => x2 (ix4 b g ⟨t.val, by omega⟩ l)) (fun d => H.qr b h p d) (fun t d => H.kr b g ⟨t.val, by omega⟩ d)

/-- The kernel's result is the reference's. -/
theorem result_eq {Q K W x0 x1 x2} (H : Operands Q K W x0 x1 x2) :
    MlaIdeal.Value.G Q K W = MlaRefIdeal.Read.val_main_v42 (F := Ideal) x0 x1 x2 := by
  funext i
  idx_vars i
  by_cases hi : i0.val < 16384
  · rw [MlaRefIdeal.Value.res_latent x0 x1 x2 i0 i1 hi, ← cell_eq H 4352 (by omega) (by omega)]
    exact dif_pos hi
  · rw [MlaRefIdeal.Value.res_context x0 x1 x2 i0 i1 hi, ← cell_eq H 256 (by omega) (by omega)]
    exact dif_neg hi

/-- The value claim of the latent attention. -/
theorem algebraic [Cert.Pre_finite_mla.Facts] : Cert.algebraic_MlaIdeal_MlaRefIdeal_pre_finite_mla := by
  pair_intro
  · run_from Cert.MlaIdeal.Value.run_blocks m g
  · run_from Cert.MlaRefIdeal.Value.run m' g'
    obtain ⟨e0, e1, e2⟩ := hagree c
    rw [MlaRefIdeal.Read.val_main_v42_eq, e0, e1, e2]
    refine (result_eq ⟨MlaIdeal.Value.operand_q m c, MlaIdeal.Value.operand_q_pad m c,
      MlaIdeal.Value.operand_k m c, MlaIdeal.Value.operand_k_pad m c, MlaIdeal.Value.operand_v m c,
      MlaIdeal.Value.operand_one m c, Finite.mla_q _ _ _ (hpre c), Finite.mla_k _ _ _ (hpre c)⟩).symm.trans ?_
    exact (MlaIdeal.Value.final m c).symm

end Cert.Mla.Proof

end
-- ==== Proof.Silu.lean ====
module

public import proofs.«01_k».proof.Proof.Numbers

@[expose] public section

noncomputable section

open Idealize.ShloMosaic

namespace Cert.Silu

/-- The logistic function as the division it is, on the extended reals. -/
theorem logistic_eq (x : EReal) : Ideal.div 1 (1 + Ideal.exp (-x)) = Ideal.logistic x := by
  induction x using EReal.rec with
  | bot =>
    have h : (1 : EReal) + ⊤ = ⊤ := EReal.add_top_of_ne_bot (EReal.coe_ne_bot 1)
    simp [h, Ideal.div]
  | top => rw [EReal.neg_top, Ideal.exp_bot, add_zero, Ideal.logistic_top, ← EReal.coe_one,
      Ideal.div_coe one_ne_zero]; simp
  | coe r =>
    rw [← EReal.coe_neg, Ideal.exp_coe, ← EReal.coe_one, ← EReal.coe_add,
      Ideal.div_coe (by positivity), Ideal.logistic_coe, one_div, ← EReal.coe_mul, one_mul]

/-- Half of one plus the hyperbolic tangent of half an argument is the logistic function. -/
theorem tanh_eq (x : EReal) : ((1 / 2 : ℝ) : EReal) * Ideal.tanh (((1 / 2 : ℝ) : EReal) * x) + ((1 / 2 : ℝ) : EReal)
    = Ideal.logistic x := by
  induction x using EReal.rec with
  | bot =>
    rw [EReal.coe_mul_bot_of_pos (by norm_num), Ideal.tanh_bot, Ideal.logistic_bot, ← EReal.coe_one, ← EReal.coe_neg,
      ← EReal.coe_mul, ← EReal.coe_add]; norm_num
  | top =>
    rw [EReal.coe_mul_top_of_pos (by norm_num), Ideal.tanh_top, Ideal.logistic_top, ← EReal.coe_one,
      ← EReal.coe_mul, ← EReal.coe_add]; norm_num
  | coe r =>
    rw [← EReal.coe_mul, Ideal.tanh_coe, Ideal.logistic_coe, ← EReal.coe_mul, ← EReal.coe_add, EReal.coe_eq_coe_iff,
      Real.tanh_eq_sinh_div_cosh, Real.sinh_eq, Real.cosh_eq]
    have h1 : Real.exp (-r) = Real.exp (-(1 / 2 * r)) * Real.exp (-(1 / 2 * r)) := by rw [← Real.exp_add]; ring_nf
    have h2 : Real.exp (1 / 2 * r) * Real.exp (-(1 / 2 * r)) = 1 := by rw [← Real.exp_add]; simp
    have hp := Real.exp_pos (1 / 2 * r)
    have hq := Real.exp_pos (-(1 / 2 * r))
    rw [h1]
    generalize Real.exp (1 / 2 * r) = a at *
    generalize Real.exp (-(1 / 2 * r)) = b at *
    have ha : a = b⁻¹ := eq_inv_of_mul_eq_one_left h2
    subst ha
    field_simp
    ring

end Cert.Silu

end
-- ==== Proof.FfnUp0.lean ====
/- The feed-forward block's hidden layer, layer 0: the kernel's run and the reference's leave the same array. -/
module

public import proofs.«01_k».proof.Defs
public import proofs.«01_k».proof.Proof.Gen.FfnUp0Ideal.Value
public import proofs.«01_k».proof.Proof.Gen.FfnUp0RefIdeal.Run
public import proofs.«01_k».proof.Proof.Gen.FfnUp0RefIdeal.Read
public import proofs.«01_k».proof.Proof.Silu
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnUp0.Proof

/-- One element of the hidden layer: the gate's product through its own logistic, times the other product. -/
def hidden (u : FVec Ideal FfnUp0Ideal.S17408x2048 .bf16) (wg wu : FVec Ideal FfnUp0Ideal.S2x2048x5632 .f32) :
    FVec Ideal FfnUp0Ideal.S17408x5632 .bf16 := fun i =>
  (∑ k : Fin 2048, u (ix2 (i 0) k) * wg (ix3 0 k (i 1)))
      * Ideal.logistic (∑ k : Fin 2048, u (ix2 (i 0) k) * wg (ix3 0 k (i 1)))
    * ∑ k : Fin 2048, u (ix2 (i 0) k) * wu (ix3 0 k (i 1))

end Cert.FfnUp0.Proof

namespace Cert.FfnUp0Ideal.Value

open Cert.FfnUp0Ideal Cert.FfnUp0Ideal.Gen

variable (m : (ℓ : Loc nD τ sig) → Buf (Elt Ideal) ℓ)

/-- The windows' block indices at every point, from the point's number. -/
theorem idx : ∀ t : Fin cfg0.N, win0_0.index t = ![t.val / 11, 0] ∧ win0_1.index t = ![0, 0, t.val % 11]
    ∧ win0_2.index t = ![0, 0, t.val % 11] ∧ win0_3.index t = ![t.val / 11, t.val % 11] :=
  (by decide +kernel : ∀ t : Fin grid0.N, _)

/-- The tile a point stores, from its operand blocks: the logistic is written with the hyperbolic tangent. -/
theorem pay (u : Vec Ideal S1024x2048 .bf16) (wg wu : Vec Ideal S1x2048x512 .f32) (p : Fin 1024) (q : Fin 512) :
    k0_pay1 u wg wu (ix2 p q) = ((∑ k : Fin 2048, u (ix2 p k) * wg (ix3 0 k q))
      * Ideal.logistic (∑ k : Fin 2048, u (ix2 p k) * wg (ix3 0 k q)) * ∑ k : Fin 2048, u (ix2 p k) * wu (ix3 0 k q) : EReal) := by
  pointwise [k0_pay1]
  rw [Numbers.half, Silu.tanh_eq]

/-- What a point stores is its block of the hidden layer. -/
theorem point (c : Dev nD) (t : Fin cfg0.N) (y) : k0_pay1 (iblk m c 0 t) (iblk m c 1 t) (iblk m c 2 t) y
    = FfnUp0.Proof.hidden (m ((c.tc : Thread nD τ).loc main_arg0)) (m ((c.tc : Thread nD τ).loc main_arg1))
      (m ((c.tc : Thread nD τ).loc main_arg2)) (((cfg0.win 3).blk t).view.emb y) := by
  have ht : t.val < 187 := t.isLt
  idx_vars y
  rw [pay]
  unfold FfnUp0.Proof.hidden
  blk_point [iblk, V, idx t]

/-- What the call leaves in the result array. -/
theorem final (c : Dev nD) : (dats m 0 c).arrAt 3 (cfgs 0).N
    = FfnUp0.Proof.hidden (m ((c.tc : Thread nD τ).loc main_arg0)) (m ((c.tc : Thread nD τ).loc main_arg1))
      (m ((c.tc : Thread nD τ).loc main_arg2)) := by
  refine (dats m 0 c).arrAt_eq_of_covers 3 _ (by decide +kernel) fun t _ y => ?_
  blk_simp
  rw [after0_3]
  frame_out
  exact point m c t y

end Cert.FfnUp0Ideal.Value

namespace Cert.FfnUp0RefIdeal.Value

open Cert.FfnUp0RefIdeal

/-- The reference's result is the same hidden layer. -/
theorem res (x0 : FVec Ideal S17408x2048 .bf16) (x1 x2 : FVec Ideal S2x2048x5632 .f32) :
    Read.val_main_v9 (F := Ideal) x0 x1 x2 = FfnUp0.Proof.hidden x0 x1 x2 := by
  funext i
  idx_vars i
  pointwise [Read.val_main_v9, Read.val_main_v8, Read.val_main_v7, Read.val_main_v6, Read.val_main_call0_v5,
    Read.val_main_call0_v4, Read.val_main_call0_cst_0, Read.val_main_call0_v3, Read.val_main_call0_v2,
    Read.val_main_call0_cst, Read.val_main_call0_v1, Read.val_main_call0_v0, Read.val_main_v5, Read.val_main_v4,
    Read.val_main_v3, Read.val_main_v2, Read.val_main_v1, Read.val_main_v0, FfnUp0.Proof.hidden]
  rw [Silu.logistic_eq]

end Cert.FfnUp0RefIdeal.Value

namespace Cert.FfnUp0.Proof

/-- The value claim of the hidden layer. -/
theorem algebraic : Cert.algebraic_FfnUp0Ideal_FfnUp0RefIdeal := by
  pair_intro
  · run_from Cert.FfnUp0Ideal.Value.run_blocks m g
  · run_from Cert.FfnUp0RefIdeal.Value.run m' g'
    rw [FfnUp0RefIdeal.Read.val_main_v9_eq]
    exact (FfnUp0RefIdeal.Value.res _ _ _).trans (FfnUp0Ideal.Value.final m c).symm

end Cert.FfnUp0.Proof

end
-- ==== Proof.FfnUp1.lean ====
/- The feed-forward block's hidden layer, layer 1: the kernel's run and the reference's leave the same array. -/
module

public import proofs.«01_k».proof.Defs
public import proofs.«01_k».proof.Proof.Gen.FfnUp1Ideal.Value
public import proofs.«01_k».proof.Proof.Gen.FfnUp1RefIdeal.Run
public import proofs.«01_k».proof.Proof.Gen.FfnUp1RefIdeal.Read
public import proofs.«01_k».proof.Proof.Silu
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnUp1.Proof

/-- One element of the hidden layer: the gate's product through its own logistic, times the other product. -/
def hidden (u : FVec Ideal FfnUp1Ideal.S16384x2048 .bf16) (wg wu : FVec Ideal FfnUp1Ideal.S2x2048x5632 .f32) :
    FVec Ideal FfnUp1Ideal.S16384x5632 .bf16 := fun i =>
  (∑ k : Fin 2048, u (ix2 (i 0) k) * wg (ix3 1 k (i 1)))
      * Ideal.logistic (∑ k : Fin 2048, u (ix2 (i 0) k) * wg (ix3 1 k (i 1)))
    * ∑ k : Fin 2048, u (ix2 (i 0) k) * wu (ix3 1 k (i 1))

end Cert.FfnUp1.Proof

namespace Cert.FfnUp1Ideal.Value

open Cert.FfnUp1Ideal Cert.FfnUp1Ideal.Gen

variable (m : (ℓ : Loc nD τ sig) → Buf (Elt Ideal) ℓ)

/-- The windows' block indices at every point, from the point's number. -/
theorem idx : ∀ t : Fin cfg0.N, win0_0.index t = ![t.val / 11, 0] ∧ win0_1.index t = ![1, 0, t.val % 11]
    ∧ win0_2.index t = ![1, 0, t.val % 11] ∧ win0_3.index t = ![t.val / 11, t.val % 11] :=
  (by decide +kernel : ∀ t : Fin grid0.N, _)

/-- The tile a point stores, from its operand blocks: the logistic is written with the hyperbolic tangent. -/
theorem pay (u : Vec Ideal S1024x2048 .bf16) (wg wu : Vec Ideal S1x2048x512 .f32) (p : Fin 1024) (q : Fin 512) :
    k0_pay1 u wg wu (ix2 p q) = ((∑ k : Fin 2048, u (ix2 p k) * wg (ix3 0 k q))
      * Ideal.logistic (∑ k : Fin 2048, u (ix2 p k) * wg (ix3 0 k q)) * ∑ k : Fin 2048, u (ix2 p k) * wu (ix3 0 k q) : EReal) := by
  pointwise [k0_pay1]
  rw [Numbers.half, Silu.tanh_eq]

/-- What a point stores is its block of the hidden layer. -/
theorem point (c : Dev nD) (t : Fin cfg0.N) (y) : k0_pay1 (iblk m c 0 t) (iblk m c 1 t) (iblk m c 2 t) y
    = FfnUp1.Proof.hidden (m ((c.tc : Thread nD τ).loc main_arg0)) (m ((c.tc : Thread nD τ).loc main_arg1))
      (m ((c.tc : Thread nD τ).loc main_arg2)) (((cfg0.win 3).blk t).view.emb y) := by
  have ht : t.val < 176 := t.isLt
  idx_vars y
  rw [pay]
  unfold FfnUp1.Proof.hidden
  blk_point [iblk, V, idx t]

/-- What the call leaves in the result array. -/
theorem final (c : Dev nD) : (dats m 0 c).arrAt 3 (cfgs 0).N
    = FfnUp1.Proof.hidden (m ((c.tc : Thread nD τ).loc main_arg0)) (m ((c.tc : Thread nD τ).loc main_arg1))
      (m ((c.tc : Thread nD τ).loc main_arg2)) := by
  refine (dats m 0 c).arrAt_eq_of_covers 3 _ (by decide +kernel) fun t _ y => ?_
  blk_simp
  rw [after0_3]
  frame_out
  exact point m c t y

end Cert.FfnUp1Ideal.Value

namespace Cert.FfnUp1RefIdeal.Value

open Cert.FfnUp1RefIdeal

/-- The reference's result is the same hidden layer. -/
theorem res (x0 : FVec Ideal S16384x2048 .bf16) (x1 x2 : FVec Ideal S2x2048x5632 .f32) :
    Read.val_main_v9 (F := Ideal) x0 x1 x2 = FfnUp1.Proof.hidden x0 x1 x2 := by
  funext i
  idx_vars i
  pointwise [Read.val_main_v9, Read.val_main_v8, Read.val_main_v7, Read.val_main_v6, Read.val_main_call0_v5,
    Read.val_main_call0_v4, Read.val_main_call0_cst_0, Read.val_main_call0_v3, Read.val_main_call0_v2,
    Read.val_main_call0_cst, Read.val_main_call0_v1, Read.val_main_call0_v0, Read.val_main_v5, Read.val_main_v4,
    Read.val_main_v3, Read.val_main_v2, Read.val_main_v1, Read.val_main_v0, FfnUp1.Proof.hidden]
  rw [Silu.logistic_eq]

end Cert.FfnUp1RefIdeal.Value

namespace Cert.FfnUp1.Proof

/-- The value claim of the hidden layer. -/
theorem algebraic : Cert.algebraic_FfnUp1Ideal_FfnUp1RefIdeal := by
  pair_intro
  · run_from Cert.FfnUp1Ideal.Value.run_blocks m g
  · run_from Cert.FfnUp1RefIdeal.Value.run m' g'
    rw [FfnUp1RefIdeal.Read.val_main_v9_eq]
    exact (FfnUp1RefIdeal.Value.res _ _ _).trans (FfnUp1Ideal.Value.final m c).symm

end Cert.FfnUp1.Proof

end
-- ==== Proof.RecIn.lean ====
module

public import proofs.«01_k».proof.Defs
public import proofs.«01_k».proof.Proof.Gen.RecInIdeal.Value
public import proofs.«01_k».proof.Proof.Gen.RecInRefIdeal.Run
public import proofs.«01_k».proof.Proof.Gen.RecInRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RecIn.Proof

/-- The product of the normalised rows with the recurrent layer's input weights, one element. -/
def product (u : FVec Ideal RecInIdeal.S17408x2048 .bf16) (w : FVec Ideal RecInIdeal.S1x2048x7168 .f32) :
    FVec Ideal RecInIdeal.S17408x7168 .f32 :=
  fun i => ∑ k : Fin 2048, u (ix2 (i 0) k) * w (ix3 0 k (i 1))

end Cert.RecIn.Proof

namespace Cert.RecInIdeal.Value

open Cert.RecInIdeal Cert.RecInIdeal.Gen

variable (m : (ℓ : Loc nD τ sig) → Buf (Elt Ideal) ℓ)

/-- The windows' block indices at every point, from the point's number. -/
theorem idx : ∀ t : Fin cfg0.N, win0_0.index t = ![t.val / 7, 0] ∧ win0_1.index t = ![0, 0, t.val % 7]
    ∧ win0_2.index t = ![t.val / 7, t.val % 7] := (by decide +kernel : ∀ t : Fin grid0.N, _)

/-- What a point stores is its block of the product. -/
theorem point (c : Dev nD) (t : Fin cfg0.N) (y) : k0_pay1 (iblk m c 0 t) (iblk m c 1 t) y
    = RecIn.Proof.product (m ((c.tc : Thread nD τ).loc main_arg0)) (m ((c.tc : Thread nD τ).loc main_arg1))
      (((cfg0.win 2).blk t).view.emb y) := by
  have ht : t.val < 119 := t.isLt
  pointwise [k0_pay1, RecIn.Proof.product]
  blk_point [iblk, V, idx t]

/-- What the call leaves in the result array. -/
theorem final (c : Dev nD) : (dats m 0 c).arrAt 2 (cfgs 0).N
    = RecIn.Proof.product (m ((c.tc : Thread nD τ).loc main_arg0)) (m ((c.tc : Thread nD τ).loc main_arg1)) := by
  refine (dats m 0 c).arrAt_eq_of_covers 2 _ (by decide +kernel) fun t _ y => ?_
  blk_simp
  rw [after0_2]
  frame_out
  exact point m c t y

end Cert.RecInIdeal.Value

namespace Cert.RecInRefIdeal.Value

open Cert.RecInRefIdeal

/-- The reference's result is the same product. -/
theorem res (x0 : FVec Ideal S17408x2048 .bf16) (x1 : FVec Ideal S1x2048x7168 .f32) :
    Read.val_main_v2 (F := Ideal) x0 x1 = RecIn.Proof.product x0 x1 := by
  funext i
  idx_vars i
  pointwise [Read.val_main_v2, Read.val_main_v1, Read.val_main_v0, RecIn.Proof.product]

end Cert.RecInRefIdeal.Value

namespace Cert.RecIn.Proof

/-- The value claim of the recurrent layer's input product. -/
theorem algebraic : Cert.algebraic_RecInIdeal_RecInRefIdeal := by
  pair_intro
  · run_from Cert.RecInIdeal.Value.run_blocks m g
  · run_from Cert.RecInRefIdeal.Value.run m' g'
    exact (RecInRefIdeal.Value.res _ _).trans (RecInIdeal.Value.final m c).symm

end Cert.RecIn.Proof

end
-- ==== Proof.Residual.lean ====
/- The shape shared by the four calls that close a block: a gated product added to the residual, the root-mean-square
   norm of the sum, and its modulation. -/
module

public import Idealize.ShloMosaic.Lib.IdealHost
public import Idealize.ShloMosaic.Lib.Pipeline.ValueKit

@[expose] public section

noncomputable section

open Idealize.ShloMosaic

namespace Cert.Residual

/-- A row of the residual stream after the block: the residual `r` plus the gate `g` times the row `a` through `w`. -/
def stream {K : ℕ} (a : Fin K → EReal) (w : Fin K → Fin 2048 → EReal) (r g : Fin 2048 → EReal) (j : Fin 2048) : EReal :=
  r j + g j * ∑ k, a k * w k j

/-- The same row where `a` comes in two halves, each with its half of the weight's rows. -/
def stream2 (a a' : Fin 1024 → EReal) (w w' : Fin 1024 → Fin 2048 → EReal) (r g : Fin 2048 → EReal) (j : Fin 2048) : EReal :=
  r j + g j * (∑ k, a k * w k j + ∑ k, a' k * w' k j)

/-- The row divided by its root mean square (with the epsilon's float word), times the norm's weight. -/
def normed (h nw : Fin 2048 → EReal) (j : Fin 2048) : EReal :=
  h j * Ideal.rsqrt (Ideal.div (∑ d, h d * h d) (Ideal.ofBits .f32 0x45000000#32) + Ideal.ofBits .f32 0x358637BD#32) * nw j

/-- The normed row under its modulation: scaled by one plus `sc` and shifted by `sh`. -/
def modulated (h nw sh sc : Fin 2048 → EReal) (j : Fin 2048) : EReal := normed h nw j * (1 + sc j) + sh j

/-- Equal entries give equal rows of the stream. -/
theorem stream_congr {K : ℕ} {a a' : Fin K → EReal} {w w' : Fin K → Fin 2048 → EReal} {r r' g g' : Fin 2048 → EReal}
    (ha : ∀ k, a k = a' k) (hw : ∀ k j, w k j = w' k j) (hr : ∀ j, r j = r' j) (hg : ∀ j, g j = g' j) (j : Fin 2048) :
    stream a w r g j = stream a' w' r' g' j := by
  simp only [stream, ha, hw, hr, hg]

/-- Equal entries give equal rows of the stream in halves. -/
theorem stream2_congr {a b a' b' : Fin 1024 → EReal} {w v w' v' : Fin 1024 → Fin 2048 → EReal} {r r' g g' : Fin 2048 → EReal}
    (ha : ∀ k, a k = b k) (ha' : ∀ k, a' k = b' k) (hw : ∀ k j, w k j = v k j) (hw' : ∀ k j, w' k j = v' k j)
    (hr : ∀ j, r j = r' j) (hg : ∀ j, g j = g' j) (j : Fin 2048) : stream2 a a' w w' r g j = stream2 b b' v v' r' g' j := by
  simp only [stream2, ha, ha', hw, hw', hr, hg]

/-- A sum over 2048 positions, in two halves. -/
theorem sum_halves (f : Fin 2048 → EReal) :
    ∑ k, f k = ∑ k : Fin 1024, f ⟨k.val, by omega⟩ + ∑ k : Fin 1024, f ⟨1024 + k.val, by omega⟩ :=
  Fin.sum_univ_add (a := 1024) (b := 1024) f

/-- Equal entries give equal normed rows. -/
theorem normed_congr {h h' nw nw' : Fin 2048 → EReal} (hh : ∀ j, h j = h' j) (hn : ∀ j, nw j = nw' j) (j : Fin 2048) :
    normed h nw j = normed h' nw' j := by
  simp only [normed, hh, hn]

/-- Equal entries give equal modulated rows. -/
theorem modulated_congr {h h' nw nw' sh sh' sc sc' : Fin 2048 → EReal} (hh : ∀ j, h j = h' j) (hn : ∀ j, nw j = nw' j)
    (h1 : ∀ j, sh j = sh' j) (h2 : ∀ j, sc j = sc' j) (j : Fin 2048) :
    modulated h nw sh sc j = modulated h' nw' sh' sc' j := by
  simp only [modulated, normed, hh, hn, h1, h2]

end Cert.Residual

end
-- ==== Proof.MixOut0Spec.lean ====
/- The attention layer's output product with the feed-forward block's norm and modulation: the two arrays it leaves. -/
module

public import proofs.«01_k».proof.Proof.Gen.MixOut0RefIdeal.Read
public import proofs.«01_k».proof.Proof.Residual
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixOut0.Proof

open Cert.MixOut0RefIdeal

/-- Row `p` of the residual: the latents' rows, then the context's. -/
def residual (x3 : FVec Ideal S4x4096x2048 .f32) (x4 : FVec Ideal S4x256x2048 .f32) (p : Fin 17408) (j : Fin 2048) : EReal :=
  if h : p.val < 16384 then x3 (ix3 ⟨p.val / 4096, by omega⟩ ⟨p.val % 4096, by omega⟩ j)
  else x4 (ix3 ⟨(p.val - 16384) / 256, by omega⟩ ⟨(p.val - 16384) % 256, by omega⟩ j)

/-- Row `p` of the residual stream after the mixer: the two mixers' outputs through the two halves of the weight's rows;
    the gate is chunk 2 of layer 0's modulation of the row's batch, the context's rows taking batch 4. -/
def stream (x0 x1 : FVec Ideal S17408x1024 .bf16) (x2 : FVec Ideal S2x2048x2048 .f32)
    (x3 : FVec Ideal S4x4096x2048 .f32) (x4 : FVec Ideal S4x256x2048 .f32) (x5 : FVec Ideal S2x8x12288 .f32) (p : Fin 17408) : Fin 2048 → EReal :=
  Residual.stream2 (fun k => x0 (ix2 p k)) (fun k => x1 (ix2 p k)) (fun k j => x2 (ix3 0 ⟨k.val, by omega⟩ j))
    (fun k j => x2 (ix3 0 ⟨1024 + k.val, by omega⟩ j)) (residual x3 x4 p)
    (fun j => x5 (ix3 0 ⟨p.val / 4096, by omega⟩ ⟨4096 + j.val, by omega⟩))

/-- Row `p` of the feed-forward block's input: the row of the stream normed, under chunks 3 and 4 of the modulation. -/
def next (x0 x1 : FVec Ideal S17408x1024 .bf16) (x2 : FVec Ideal S2x2048x2048 .f32)
    (x3 : FVec Ideal S4x4096x2048 .f32) (x4 : FVec Ideal S4x256x2048 .f32) (x5 : FVec Ideal S2x8x12288 .f32) (x6 : FVec Ideal S2x2048 .f32) (p : Fin 17408) : Fin 2048 → EReal :=
  Residual.modulated (stream x0 x1 x2 x3 x4 x5 p) (fun j => x6 (ix2 0 j))
    (fun j => x5 (ix3 0 ⟨p.val / 4096, by omega⟩ ⟨6144 + j.val, by omega⟩))
    (fun j => x5 (ix3 0 ⟨p.val / 4096, by omega⟩ ⟨8192 + j.val, by omega⟩))

/-- The first result: every row of the stream. -/
def outH (x0 x1 : FVec Ideal S17408x1024 .bf16) (x2 : FVec Ideal S2x2048x2048 .f32)
    (x3 : FVec Ideal S4x4096x2048 .f32) (x4 : FVec Ideal S4x256x2048 .f32) (x5 : FVec Ideal S2x8x12288 .f32) : FVec Ideal S17408x2048 .f32 :=
  fun i => stream x0 x1 x2 x3 x4 x5 (i 0) (i 1)

/-- The second result: every row of the feed-forward block's input. -/
def outU (x0 x1 : FVec Ideal S17408x1024 .bf16) (x2 : FVec Ideal S2x2048x2048 .f32)
    (x3 : FVec Ideal S4x4096x2048 .f32) (x4 : FVec Ideal S4x256x2048 .f32) (x5 : FVec Ideal S2x8x12288 .f32) (x6 : FVec Ideal S2x2048 .f32) : FVec Ideal S17408x2048 .bf16 :=
  fun i => next x0 x1 x2 x3 x4 x5 x6 (i 0) (i 1)

end Cert.MixOut0.Proof

end
-- ==== Proof.MixOut0Kernel.lean ====
/- What the attention layer's output call leaves in its two result arrays. -/
module

public import proofs.«01_k».proof.Proof.Gen.MixOut0Ideal.Value
public import proofs.«01_k».proof.Proof.MixOut0Spec
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixOut0Ideal.Value

open Cert.MixOut0Ideal Cert.MixOut0Ideal.Gen

variable (m : (ℓ : Loc nD τ sig) → Buf (Elt Ideal) ℓ)

/-- The windows' block indices at every point, from the point's number. -/
theorem idx : ∀ t : Fin cfg0.N, win0_0.index t = ![t.val, 0] ∧ win0_1.index t = ![t.val, 0]
    ∧ win0_2.index t = ![0, 0, 0] ∧ win0_3.index t = ![0, 1, 0] ∧ win0_4.index t = ![min t.val 31, 0]
    ∧ win0_5.index t = ![t.val - 32, 0] ∧ win0_6.index t = ![2 + t.val / 8 * 6, 0, 0] ∧ win0_7.index t = ![0, 0]
    ∧ win0_8.index t = ![3 + t.val / 8 * 6, 0, 0] ∧ win0_9.index t = ![4 + t.val / 8 * 6, 0, 0]
    ∧ win0_10.index t = ![t.val, 0] ∧ win0_11.index t = ![t.val, 0] := (by decide +kernel : ∀ t : Fin grid0.N, _)

/-- A point below 32 takes the latents' residual, the others the context's. -/
theorem flag : ∀ t : Fin cfg0.N, Scalar.cmpi .slt (BitVec.ofNat 32 (grid0.coords t 0).val) 32#32
    = if t.val < 32 then 1#1 else 0#1 := (by decide +kernel : ∀ t : Fin grid0.N, _)

/-- The weight operand is the weight argument. -/
theorem operand_w (c : Dev nD) (l : Fin 2) (k : Fin 2048) (j : Fin 2048) :
    V m c main_v0 (ix3 l k j) = m ((c.tc : Thread nD τ).loc main_arg2) (ix3 l k j) := by
  entry_read
  pointwise []

/-- The latents' operand is their argument, batch after batch. -/
theorem operand_x (c : Dev nD) (p : Fin 16384) (j : Fin 2048) :
    V m c main_v1 (ix2 p j) = m ((c.tc : Thread nD τ).loc main_arg3)
      (ix3 ⟨p.val / 4096, by omega⟩ ⟨p.val % 4096, by omega⟩ j) := by
  entry_read
  pointwise []

/-- The context's operand is its argument, batch after batch. -/
theorem operand_ctx (c : Dev nD) (p : Fin 1024) (j : Fin 2048) :
    V m c main_v2 (ix2 p j) = m ((c.tc : Thread nD τ).loc main_arg4)
      (ix3 ⟨p.val / 256, by omega⟩ ⟨p.val % 256, by omega⟩ j) := by
  entry_read
  pointwise []

/-- The modulation operand is the modulation argument, a row for every chunk. -/
theorem operand_mods (c : Dev nD) (r : Fin 96) (j : Fin 2048) :
    V m c main_v3 (ix3 r 0 j) = m ((c.tc : Thread nD τ).loc main_arg5)
      (ix3 ⟨r.val / 48, by omega⟩ ⟨r.val / 6 % 8, by omega⟩ ⟨r.val % 6 * 2048 + j.val, by omega⟩) := by
  entry_read
  pointwise []

/-- The norm's weight operand is row 0 of the norms' weights. -/
theorem operand_nw (c : Dev nD) (j : Fin 2048) :
    V m c main_v6 (ix2 0 j) = m ((c.tc : Thread nD τ).loc main_arg6) (ix2 0 j) := by
  entry_read
  pointwise []

/-- A row of the stream, from the blocks of a stored tile; `n` is the point. -/
def rowH (n : BitVec 32) (a a' : Vec Ideal S128x1024 .bf16) (w w' : Vec Ideal S1x1024x2048 .bf16) (h h' : Vec Ideal S128x2048 .f32)
    (g : Vec Ideal S1x1x2048 .f32) (p : Fin 128) : Fin 2048 → EReal :=
  Residual.stream2 (fun k => a (ix2 p k)) (fun k => a' (ix2 p k)) (fun k j => w (ix3 0 k j)) (fun k j => w' (ix3 0 k j))
    (fun j => Scalar.select (Scalar.cmpi .slt n 32#32) (h (ix2 p j)) (h' (ix2 p j))) (fun j => g (ix3 0 0 j))

/-- A row of the block's input, from the blocks of a stored tile. -/
def rowU (n : BitVec 32) (a a' : Vec Ideal S128x1024 .bf16) (w w' : Vec Ideal S1x1024x2048 .bf16) (h h' : Vec Ideal S128x2048 .f32)
    (g : Vec Ideal S1x1x2048 .f32) (nw : Vec Ideal S1x2048 .f32) (sh sc : Vec Ideal S1x1x2048 .f32) (p : Fin 128) : Fin 2048 → EReal :=
  Residual.modulated (rowH n a a' w w' h h' g p) (fun j => nw (ix2 0 j)) (fun j => sh (ix3 0 0 j)) (fun j => sc (ix3 0 0 j))

section
variable (n : BitVec 32) (a a' : Vec Ideal S128x1024 .bf16) (w w' : Vec Ideal S1x1024x2048 .bf16) (h h' : Vec Ideal S128x2048 .f32)
    (g : Vec Ideal S1x1x2048 .f32) (nw : Vec Ideal S1x2048 .f32) (sh sc : Vec Ideal S1x1x2048 .f32) (p : Fin 128) (q : Fin 2048)

/-- The first tile of the stream. -/
theorem payH0 : k0_pay7 n (k0_pay2 a w a' w') h h' g (ix2 p q) = rowH n a a' w w' h h' g p q := by
  pointwise [k0_pay7, k0_pay2]
  rfl

/-- The second tile of the stream. -/
theorem payH1 : k0_pay10 n (k0_pay3 a w a' w') h h' g (ix2 p q) = rowH n a a' w w' h h' g p q := by
  pointwise [k0_pay10, k0_pay3]
  rfl

/-- The third tile of the stream. -/
theorem payH2 : k0_pay13 n (k0_pay5 (k0_pay4 a w) a' w') h h' g (ix2 p q) = rowH n a a' w w' h h' g p q := by
  pointwise [k0_pay13, k0_pay5, k0_pay4]
  rfl

/-- The fourth tile of the stream. -/
theorem payH3 : k0_pay16 n (k0_pay6 a w a' w') h h' g (ix2 p q) = rowH n a a' w w' h h' g p q := by
  pointwise [k0_pay16, k0_pay6]
  rfl

/-- The first tile of the block's input. -/
theorem payU0 : k0_pay9 (k0_pay8 n (k0_pay2 a w a' w') h h' g) nw sc sh (ix2 p q) = rowU n a a' w w' h h' g nw sh sc p q := by
  have e := payH0 n a a' w w' h h' g
  unfold k0_pay9 k0_pay8
  generalize k0_pay7 n (k0_pay2 a w a' w') h h' g = y at *
  pointwise []
  simp only [e]
  rfl

/-- The second tile of the block's input. -/
theorem payU1 : k0_pay12 (k0_pay10 n (k0_pay3 a w a' w') h h' g) (k0_pay11 n (k0_pay3 a w a' w') h h' g) nw sc sh (ix2 p q)
    = rowU n a a' w w' h h' g nw sh sc p q := by
  have e := payH1 n a a' w w' h h' g
  unfold k0_pay12 k0_pay11
  generalize k0_pay10 n (k0_pay3 a w a' w') h h' g = y at *
  pointwise []
  simp only [e]
  rfl

/-- The third tile of the block's input. -/
theorem payU2 : k0_pay15 (k0_pay13 n (k0_pay5 (k0_pay4 a w) a' w') h h' g) (k0_pay14 n (k0_pay5 (k0_pay4 a w) a' w') h h' g)
    (Scalar.ofBits .f32 0x358637BD#32) nw sc sh (ix2 p q) = rowU n a a' w w' h h' g nw sh sc p q := by
  have e := payH2 n a a' w w' h h' g
  unfold k0_pay15 k0_pay14
  generalize k0_pay13 n (k0_pay5 (k0_pay4 a w) a' w') h h' g = y at *
  pointwise []
  simp only [e]
  rfl

/-- The fourth tile of the block's input. -/
theorem payU3 : k0_pay1 (k0_pay16 n (k0_pay6 a w a' w') h h' g) (k0_pay17 n (k0_pay6 a w a' w') h h' g) nw sc sh (ix2 p q)
    = rowU n a a' w w' h h' g nw sh sc p q := by
  have e := payH3 n a a' w w' h h' g
  unfold k0_pay1 k0_pay17
  generalize k0_pay16 n (k0_pay6 a w a' w') h h' g = y at *
  pointwise []
  simp only [e]
  rfl

end

/-- The modulation's window of chunk `k` at a point holds its row of the modulation. -/
theorem mods_row (c : Dev nD) (t : Fin cfg0.N) (ht : t.val < 34) (k : Fin 6) (p : Fin 17408) (hp : p.val / 512 = t.val) (j : Fin 2048) :
    V m c main_v3 (ix3 ⟨k.val + t.val / 8 * 6, by omega⟩ 0 j) = m ((c.tc : Thread nD τ).loc main_arg5)
      (ix3 0 ⟨p.val / 4096, by omega⟩ ⟨k.val * 2048 + j.val, by omega⟩) := by
  refine (operand_mods m c _ j).trans ?_
  have e1 : (⟨(k.val + t.val / 8 * 6) / 48, by omega⟩ : Fin 2) = 0 := Fin.ext (by show (k.val + t.val / 8 * 6) / 48 = 0; omega)
  have e2 : (⟨(k.val + t.val / 8 * 6) / 6 % 8, by omega⟩ : Fin 8) = ⟨p.val / 4096, by omega⟩ :=
    Fin.ext (by show (k.val + t.val / 8 * 6) / 6 % 8 = p.val / 4096; omega)
  have e3 : (⟨(k.val + t.val / 8 * 6) % 6 * 2048 + j.val, by omega⟩ : Fin 12288) = ⟨k.val * 2048 + j.val, by omega⟩ :=
    Fin.ext (by show (k.val + t.val / 8 * 6) % 6 * 2048 + j.val = k.val * 2048 + j.val; omega)
  simp only [e1, e2, e3]

/-- The residual a point selects is the residual's row. -/
theorem selected (c : Dev nD) (t : Fin cfg0.N) (ht : t.val < 34) (p : Fin 17408) (hp : p.val / 512 = t.val) (u v : Fin 2048 → EReal)
    (hu : ∀ (h : t.val < 32) k, u k = V m c main_v1 (ix2 ⟨p.val, by omega⟩ k))
    (hv : ∀ (h : ¬ t.val < 32) k, v k = V m c main_v2 (ix2 ⟨p.val - 16384, by omega⟩ k)) (k : Fin 2048) :
    Scalar.select (Scalar.cmpi .slt (BitVec.ofNat 32 (grid0.coords t 0).val) 32#32) (u k) (v k)
      = MixOut0.Proof.residual (m ((c.tc : Thread nD τ).loc main_arg3)) (m ((c.tc : Thread nD τ).loc main_arg4)) p k := by
  rw [flag t]
  unfold MixOut0.Proof.residual
  by_cases h : t.val < 32
  · rw [if_pos h, dif_pos (by omega)]
    exact (hu h k).trans (operand_x m c _ k)
  · rw [if_neg h, dif_neg (by omega)]
    exact (hv h k).trans (operand_ctx m c _ k)

/-- A tile's row of the stream is the stream's row, where its rows of operands are. -/
theorem tileH (c : Dev nD) (t : Fin cfg0.N) (ht : t.val < 34) (a a' h h' r q) (p : Fin 17408) (j : Fin 2048) (hp : p.val / 512 = t.val)
    (hj : q.val = j.val)
    (ha : ∀ k, a (ix2 r k) = m ((c.tc : Thread nD τ).loc main_arg0) (ix2 p k))
    (ha' : ∀ k, a' (ix2 r k) = m ((c.tc : Thread nD τ).loc main_arg1) (ix2 p k))
    (hu : ∀ (_ : t.val < 32) k, h (ix2 r k) = V m c main_v1 (ix2 ⟨p.val, by omega⟩ k))
    (hv : ∀ (_ : ¬ t.val < 32) k, h' (ix2 r k) = V m c main_v2 (ix2 ⟨p.val - 16384, by omega⟩ k)) :
    rowH (BitVec.ofNat 32 (grid0.coords t 0).val) a a' (View.ld (iblk m c 2 t) r0_1) (View.ld (iblk m c 3 t) r0_1) h h'
        (iblk m c 6 t) r q
      = MixOut0.Proof.stream (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) p j := by
  obtain rfl : q = j := Fin.ext hj
  refine Residual.stream2_congr ha ha' ?_ ?_ (selected m c t ht p hp _ _ hu hv) ?_ q
  · intro k j; refine Eq.trans ?_ (operand_w m c 0 ⟨k.val, by omega⟩ j)
    try rw [View.ld_apply]
    blk_ext [iblk, idx t, Rect.idx_unit_val]
  · intro k j; refine Eq.trans ?_ (operand_w m c 0 ⟨1024 + k.val, by omega⟩ j)
    try rw [View.ld_apply]
    blk_ext [iblk, idx t, Rect.idx_unit_val]
  · intro j; refine Eq.trans ?_ (mods_row m c t ht 2 p hp j)
    blk_ext [iblk, idx t, Rect.idx_unit_val]

/-- A tile's row of the block's input is the input's row, where its rows of operands are. -/
theorem tileU (c : Dev nD) (t : Fin cfg0.N) (ht : t.val < 34) (a a' h h' r q) (p : Fin 17408) (j : Fin 2048) (hp : p.val / 512 = t.val)
    (hj : q.val = j.val)
    (ha : ∀ k, a (ix2 r k) = m ((c.tc : Thread nD τ).loc main_arg0) (ix2 p k))
    (ha' : ∀ k, a' (ix2 r k) = m ((c.tc : Thread nD τ).loc main_arg1) (ix2 p k))
    (hu : ∀ (_ : t.val < 32) k, h (ix2 r k) = V m c main_v1 (ix2 ⟨p.val, by omega⟩ k))
    (hv : ∀ (_ : ¬ t.val < 32) k, h' (ix2 r k) = V m c main_v2 (ix2 ⟨p.val - 16384, by omega⟩ k)) :
    rowU (BitVec.ofNat 32 (grid0.coords t 0).val) a a' (View.ld (iblk m c 2 t) r0_1) (View.ld (iblk m c 3 t) r0_1) h h'
        (iblk m c 6 t) (iblk m c 7 t) (iblk m c 8 t) (iblk m c 9 t) r q
      = MixOut0.Proof.next (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) p j := by
  obtain rfl : q = j := Fin.ext hj
  refine Residual.modulated_congr (fun d => tileH m c t ht a a' h h' r d p d hp rfl ha ha' hu hv) ?_ ?_ ?_ q
  · intro j; refine Eq.trans ?_ (operand_nw m c j)
    blk_ext [iblk, idx t, Rect.idx_unit_val]
  · intro j; refine Eq.trans ?_ (mods_row m c t ht 3 p hp j)
    blk_ext [iblk, idx t, Rect.idx_unit_val]
  · intro j; refine Eq.trans ?_ (mods_row m c t ht 4 p hp j)
    blk_ext [iblk, idx t, Rect.idx_unit_val]

/-- A load of a whole window of the modulation is the window. -/
theorem ld6 (v : Vec Ideal S1x1x2048 .f32) : View.ld v r0_6 = v :=
  View.ld_unit_zero (S := S1x1x2048) (by funext a; fin_cases a <;> rfl) _ v

end Cert.MixOut0Ideal.Value

end
-- ==== Proof.MixOut0Stream.lean ====
/- The first array the attention layer's output call leaves. -/
module

public import proofs.«01_k».proof.Proof.MixOut0Kernel
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixOut0Ideal.Value

open Cert.MixOut0Ideal Cert.MixOut0Ideal.Gen

variable (m : (ℓ : Loc nD τ sig) → Buf (Elt Ideal) ℓ)

set_option maxHeartbeats 2000000 in
/-- What the call leaves in the first result array. -/
theorem finalH (c : Dev nD) : (dats m 0 c).arrAt 10 (cfgs 0).N
    = MixOut0.Proof.outH (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) := by
  refine (dats m 0 c).arrAt_eq_of_covers 10 _ (by decide +kernel) fun t _ y => ?_
  have ht : t.val < 34 := t.isLt
  blk_simp
  rw [after0_10]
  frame_out
  generalize hi : ((cfg0.win 10).blk t).view.emb y = i
  have hi0 : (i 0 : ℕ) = t.val * 512 + (y 0).val := by rw [← hi]; blk_simp [idx t]
  have hi1 : (i 1 : ℕ) = (y 1).val := by rw [← hi]; blk_simp [idx t]
  clear hi
  unfold MixOut0.Proof.outH
  canon_tiles x h
  all_goals
    idx_vars x
    first | unfold k0_pay24 k0_pay21 | unfold k0_pay23 k0_pay20 | unfold k0_pay22 k0_pay19 | unfold k0_pay18
    try rw [ld6]
    first | rw [payH0] | rw [payH1] | rw [payH2] | rw [payH3]
    apply tileH m c t ht _ _ _ _ _ _ _ _ (by omega) (by omega)
    · intro k; try rw [View.ld_apply]
      blk_ext [iblk, V, idx t, Rect.idx_unit_val]
    · intro k; try rw [View.ld_apply]
      blk_ext [iblk, V, idx t, Rect.idx_unit_val]
    · intro _ k; try rw [View.ld_apply]
      blk_ext [iblk, idx t, Rect.idx_unit_val]
    · intro _ k; try rw [View.ld_apply]
      blk_ext [iblk, idx t, Rect.idx_unit_val]

end Cert.MixOut0Ideal.Value

end
-- ==== Proof.MixOut0Next.lean ====
/- The second array the attention layer's output call leaves. -/
module

public import proofs.«01_k».proof.Proof.MixOut0Kernel
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixOut0Ideal.Value

open Cert.MixOut0Ideal Cert.MixOut0Ideal.Gen

variable (m : (ℓ : Loc nD τ sig) → Buf (Elt Ideal) ℓ)

set_option maxHeartbeats 2000000 in
/-- What the call leaves in the second result array. -/
theorem finalU (c : Dev nD) : (dats m 0 c).arrAt 11 (cfgs 0).N
    = MixOut0.Proof.outU (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) := by
  refine (dats m 0 c).arrAt_eq_of_covers 11 _ (by decide +kernel) fun t _ y => ?_
  have ht : t.val < 34 := t.isLt
  blk_simp
  rw [after0_11]
  frame_out
  generalize hi : ((cfg0.win 11).blk t).view.emb y = i
  have hi0 : (i 0 : ℕ) = t.val * 512 + (y 0).val := by rw [← hi]; blk_simp [idx t]
  have hi1 : (i 1 : ℕ) = (y 1).val := by rw [← hi]; blk_simp [idx t]
  clear hi
  unfold MixOut0.Proof.outU
  canon_tiles x h
  all_goals
    idx_vars x
    first | unfold k0_pay24 k0_pay21 | unfold k0_pay23 k0_pay20 | unfold k0_pay22 k0_pay19 | unfold k0_pay18
    try rw [ld6]
    first | rw [payU0] | rw [payU1] | rw [payU2] | rw [payU3]
    apply tileU m c t ht _ _ _ _ _ _ _ _ (by omega) (by omega)
    · intro k; try rw [View.ld_apply]
      blk_ext [iblk, V, idx t, Rect.idx_unit_val]
    · intro k; try rw [View.ld_apply]
      blk_ext [iblk, V, idx t, Rect.idx_unit_val]
    · intro _ k; try rw [View.ld_apply]
      blk_ext [iblk, idx t, Rect.idx_unit_val]
    · intro _ k; try rw [View.ld_apply]
      blk_ext [iblk, idx t, Rect.idx_unit_val]

end Cert.MixOut0Ideal.Value

end
-- ==== Proof.MixOut0Ref.lean ====
/- What the reference of the attention layer's output call computes. -/
module

public import proofs.«01_k».proof.Proof.Gen.MixOut0RefIdeal.Read
public import proofs.«01_k».proof.Proof.MixOut0Spec
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixOut0RefIdeal.Value

open Cert.MixOut0RefIdeal Cert.MixOut0RefIdeal.Read

/-- The mixers' outputs, one beside the other. -/
theorem beside (x0 x1 : FVec Ideal S17408x1024 .bf16) (p : Fin 17408) (k : Fin 2048) :
    val_main_v0 (F := Ideal) x0 x1 (ix2 p k) = if h : k.val < 1024 then x0 (ix2 p ⟨k.val, h⟩)
      else x1 (ix2 p ⟨k.val - 1024, by omega⟩) := by
  unfold val_main_v0
  pointwise []

/-- The first half of a row of the mixers' outputs. -/
theorem left (x0 x1 : FVec Ideal S17408x1024 .bf16) (p : Fin 17408) (k : Fin 1024) :
    val_main_v0 (F := Ideal) x0 x1 (ix2 p ⟨k.val, by omega⟩) = x0 (ix2 p k) :=
  (beside x0 x1 _ _).trans (dif_pos k.isLt)

/-- The second half of a row of the mixers' outputs. -/
theorem right (x0 x1 : FVec Ideal S17408x1024 .bf16) (p : Fin 17408) (k : Fin 1024) :
    val_main_v0 (F := Ideal) x0 x1 (ix2 p ⟨1024 + k.val, by omega⟩) = x1 (ix2 p k) := by
  refine (beside x0 x1 _ _).trans ((dif_neg (by simp only; omega)).trans ?_)
  refine congrArg (fun k' : Fin 1024 => x1 (ix2 p k')) (Fin.ext ?_)
  show 1024 + k.val - 1024 = k.val
  omega

/-- The mixer's weight. -/
theorem weight (x2 : FVec Ideal S2x2048x2048 .f32) (k j : Fin 2048) : val_main_v2 (F := Ideal) x2 (ix2 k j) = x2 (ix3 0 k j) := by
  pointwise [val_main_v2, val_main_v1]

/-- The mixers' rows of the latents under their batch. -/
theorem batched_latent (x0 x1 : FVec Ideal S17408x1024 .bf16) (b : Fin 4) (s : Fin 4096) (k : Fin 2048) :
    val_main_v9 (F := Ideal) x0 x1 (ix3 b s k) = val_main_v0 (F := Ideal) x0 x1 (ix2 ⟨b.val * 4096 + s.val, by omega⟩ k) := by
  unfold val_main_v9 val_main_v8
  generalize val_main_v0 (F := Ideal) x0 x1 = y
  pointwise []

/-- The format's change leaves the rows. -/
theorem wide_latent (x0 x1 : FVec Ideal S17408x1024 .bf16) (i : S4x4096x2048.Idx) :
    (val_main_v10 (F := Ideal) x0 x1 i : EReal) = (val_main_v9 (F := Ideal) x0 x1 i : EReal) := by
  unfold val_main_v10
  rw [extf_apply]
  generalize val_main_v9 (F := Ideal) x0 x1 i = y
  rfl

/-- The gate of the rows of the latents. -/
theorem gate_latent (x5 : FVec Ideal S2x8x12288 .f32) (b : Fin 4) (s : Fin 4096) (j : Fin 2048) :
    val_main_v12 (F := Ideal) x5 (ix3 b s j) = x5 (ix3 0 ⟨b.val, by omega⟩ ⟨4096 + j.val, by omega⟩) := by
  pointwise [val_main_v12, val_main_v7, val_main_v6, val_main_v5]

/-- The product on the latents, in two halves. -/
theorem product_latent (x0 x1 : FVec Ideal S17408x1024 .bf16) (x2 : FVec Ideal S2x2048x2048 .f32) (b : Fin 4) (s : Fin 4096) (j : Fin 2048) :
    val_main_v11 (F := Ideal) x0 x1 x2 (ix3 b s j)
      = ∑ k : Fin 1024, x0 (ix2 ⟨b.val * 4096 + s.val, by omega⟩ k) * x2 (ix3 0 ⟨k.val, by omega⟩ j)
        + ∑ k : Fin 1024, x1 (ix2 ⟨b.val * 4096 + s.val, by omega⟩ k) * x2 (ix3 0 ⟨1024 + k.val, by omega⟩ j) := by
  refine Eq.trans (b := ∑ k : Fin 2048, val_main_v10 (F := Ideal) x0 x1 (ix3 b s k) * val_main_v2 (F := Ideal) x2 (ix2 k j)) ?_ ?_
  · unfold val_main_v11
    generalize val_main_v2 (F := Ideal) x2 = w
    generalize val_main_v10 (F := Ideal) x0 x1 = y
    pointwise []
  · rw [Residual.sum_halves]
    refine congrArg₂ (· + ·) (Finset.sum_congr rfl fun k _ => ?_) (Finset.sum_congr rfl fun k _ => ?_)
    · rw [wide_latent, batched_latent, left, weight]
    · rw [wide_latent, batched_latent, right, weight]

/-- The reference's residual stream on the latents. -/
theorem stream_latent (x0 x1 : FVec Ideal S17408x1024 .bf16) (x2 : FVec Ideal S2x2048x2048 .f32)
    (x3 : FVec Ideal S4x4096x2048 .f32) (x4 : FVec Ideal S4x256x2048 .f32) (x5 : FVec Ideal S2x8x12288 .f32) (b : Fin 4) (s : Fin 4096) (j : Fin 2048) :
    val_main_v14 (F := Ideal) x0 x1 x2 x3 x5 (ix3 b s j)
      = MixOut0.Proof.stream x0 x1 x2 x3 x4 x5 ⟨b.val * 4096 + s.val, by omega⟩ j := by
  have hb : (⟨(b.val * 4096 + s.val) / 4096, by omega⟩ : Fin 8) = ⟨b.val, by omega⟩ := Fin.ext (by show (b.val * 4096 + s.val) / 4096 = b.val; omega)
  have h1 : (⟨(b.val * 4096 + s.val) / 4096, by omega⟩ : Fin 4) = b := Fin.ext (by show (b.val * 4096 + s.val) / 4096 = b.val; omega)
  have h2 : (⟨(b.val * 4096 + s.val) % 4096, by omega⟩ : Fin 4096) = s := Fin.ext (by show (b.val * 4096 + s.val) % 4096 = s.val; omega)
  have hr : x3 (ix3 b s j) = MixOut0.Proof.residual x3 x4 ⟨b.val * 4096 + s.val, by omega⟩ j := by
    unfold MixOut0.Proof.residual
    rw [dif_pos (by simp only; omega)]
    simp only [h1, h2]
  unfold MixOut0.Proof.stream
  simp only [hb]
  exact congrArg₂ (· + ·) hr (congrArg₂ (· * ·) (gate_latent x5 b s j) (product_latent x0 x1 x2 b s j))

/-- The feed-forward block's input on the latents. -/
theorem next_latent (x0 x1 : FVec Ideal S17408x1024 .bf16) (x2 : FVec Ideal S2x2048x2048 .f32)
    (x3 : FVec Ideal S4x4096x2048 .f32) (x4 : FVec Ideal S4x256x2048 .f32) (x5 : FVec Ideal S2x8x12288 .f32) (x6 : FVec Ideal S2x2048 .f32) (b : Fin 4) (s : Fin 4096) (j : Fin 2048) :
    val_main_v49 (F := Ideal) x0 x1 x2 x3 x5 x6 (ix3 b s j)
      = MixOut0.Proof.next x0 x1 x2 x3 x4 x5 x6 ⟨b.val * 4096 + s.val, by omega⟩ j := by
  have hb : (⟨(b.val * 4096 + s.val) / 4096, by omega⟩ : Fin 8) = ⟨b.val, by omega⟩ := Fin.ext (by show (b.val * 4096 + s.val) / 4096 = b.val; omega)
  have h := stream_latent x0 x1 x2 x3 x4 x5
  unfold MixOut0.Proof.next
  simp only [hb]
  unfold val_main_v49 val_main_v47 val_main_v37 val_main_v34 val_main_v33 val_main_v32 val_main_v31 val_main_v29
    val_main_v27 val_main_v26 val_main_v25
  generalize val_main_v14 (F := Ideal) x0 x1 x2 x3 x5 = y at *
  pointwise [val_main_v48, val_main_v46, val_main_v45, val_main_v44, val_main_v43, val_main_v42, val_main_v41, val_main_v40,
    val_main_v39, val_main_v38, val_main_v36, val_main_v35, val_main_v30, val_main_v28, val_main_v4, val_main_v3,
    val_main_cst, val_main_cst_0, val_main_cst_1, val_main_cst_2,
    Residual.modulated, Residual.normed]
  simp only [h]

/-- The mixers' rows of the context under their batch. -/
theorem batched_context (x0 x1 : FVec Ideal S17408x1024 .bf16) (b : Fin 4) (s : Fin 256) (k : Fin 2048) :
    val_main_v18 (F := Ideal) x0 x1 (ix3 b s k) = val_main_v0 (F := Ideal) x0 x1 (ix2 ⟨16384 + (b.val * 256 + s.val), by omega⟩ k) := by
  unfold val_main_v18 val_main_v17
  generalize val_main_v0 (F := Ideal) x0 x1 = y
  pointwise []

/-- The format's change leaves the rows. -/
theorem wide_context (x0 x1 : FVec Ideal S17408x1024 .bf16) (i : S4x256x2048.Idx) :
    (val_main_v19 (F := Ideal) x0 x1 i : EReal) = (val_main_v18 (F := Ideal) x0 x1 i : EReal) := by
  unfold val_main_v19
  rw [extf_apply]
  generalize val_main_v18 (F := Ideal) x0 x1 i = y
  rfl

/-- The gate of the rows of the context. -/
theorem gate_context (x5 : FVec Ideal S2x8x12288 .f32) (b : Fin 4) (s : Fin 256) (j : Fin 2048) :
    val_main_v22 (F := Ideal) x5 (ix3 b s j) = x5 (ix3 0 4 ⟨4096 + j.val, by omega⟩) := by
  pointwise [val_main_v22, val_main_v21, val_main_v16, val_main_v15]

/-- The product on the context, in two halves. -/
theorem product_context (x0 x1 : FVec Ideal S17408x1024 .bf16) (x2 : FVec Ideal S2x2048x2048 .f32) (b : Fin 4) (s : Fin 256) (j : Fin 2048) :
    val_main_v20 (F := Ideal) x0 x1 x2 (ix3 b s j)
      = ∑ k : Fin 1024, x0 (ix2 ⟨16384 + (b.val * 256 + s.val), by omega⟩ k) * x2 (ix3 0 ⟨k.val, by omega⟩ j)
        + ∑ k : Fin 1024, x1 (ix2 ⟨16384 + (b.val * 256 + s.val), by omega⟩ k) * x2 (ix3 0 ⟨1024 + k.val, by omega⟩ j) := by
  refine Eq.trans (b := ∑ k : Fin 2048, val_main_v19 (F := Ideal) x0 x1 (ix3 b s k) * val_main_v2 (F := Ideal) x2 (ix2 k j)) ?_ ?_
  · unfold val_main_v20
    generalize val_main_v2 (F := Ideal) x2 = w
    generalize val_main_v19 (F := Ideal) x0 x1 = y
    pointwise []
  · rw [Residual.sum_halves]
    refine congrArg₂ (· + ·) (Finset.sum_congr rfl fun k _ => ?_) (Finset.sum_congr rfl fun k _ => ?_)
    · rw [wide_context, batched_context, left, weight]
    · rw [wide_context, batched_context, right, weight]

/-- The reference's residual stream on the context. -/
theorem stream_context (x0 x1 : FVec Ideal S17408x1024 .bf16) (x2 : FVec Ideal S2x2048x2048 .f32)
    (x3 : FVec Ideal S4x4096x2048 .f32) (x4 : FVec Ideal S4x256x2048 .f32) (x5 : FVec Ideal S2x8x12288 .f32) (b : Fin 4) (s : Fin 256) (j : Fin 2048) :
    val_main_v24 (F := Ideal) x0 x1 x2 x4 x5 (ix3 b s j)
      = MixOut0.Proof.stream x0 x1 x2 x3 x4 x5 ⟨16384 + (b.val * 256 + s.val), by omega⟩ j := by
  have hb : (⟨(16384 + (b.val * 256 + s.val)) / 4096, by omega⟩ : Fin 8) = 4 := Fin.ext (by show (16384 + (b.val * 256 + s.val)) / 4096 = 4; omega)
  have h1 : (⟨(16384 + (b.val * 256 + s.val) - 16384) / 256, by omega⟩ : Fin 4) = b :=
    Fin.ext (by show (16384 + (b.val * 256 + s.val) - 16384) / 256 = b.val; omega)
  have h2 : (⟨(16384 + (b.val * 256 + s.val) - 16384) % 256, by omega⟩ : Fin 256) = s :=
    Fin.ext (by show (16384 + (b.val * 256 + s.val) - 16384) % 256 = s.val; omega)
  have hr : x4 (ix3 b s j) = MixOut0.Proof.residual x3 x4 ⟨16384 + (b.val * 256 + s.val), by omega⟩ j := by
    unfold MixOut0.Proof.residual
    rw [dif_neg (by simp only; omega)]
    simp only [h1, h2]
  unfold MixOut0.Proof.stream
  simp only [hb]
  exact congrArg₂ (· + ·) hr (congrArg₂ (· * ·) (gate_context x5 b s j) (product_context x0 x1 x2 b s j))

/-- The feed-forward block's input on the context. -/
theorem next_context (x0 x1 : FVec Ideal S17408x1024 .bf16) (x2 : FVec Ideal S2x2048x2048 .f32)
    (x3 : FVec Ideal S4x4096x2048 .f32) (x4 : FVec Ideal S4x256x2048 .f32) (x5 : FVec Ideal S2x8x12288 .f32) (x6 : FVec Ideal S2x2048 .f32) (b : Fin 4) (s : Fin 256) (j : Fin 2048) :
    val_main_v74 (F := Ideal) x0 x1 x2 x4 x5 x6 (ix3 b s j)
      = MixOut0.Proof.next x0 x1 x2 x3 x4 x5 x6 ⟨16384 + (b.val * 256 + s.val), by omega⟩ j := by
  have hb : (⟨(16384 + (b.val * 256 + s.val)) / 4096, by omega⟩ : Fin 8) = 4 := Fin.ext (by show (16384 + (b.val * 256 + s.val)) / 4096 = 4; omega)
  have h := stream_context x0 x1 x2 x3 x4 x5
  unfold MixOut0.Proof.next
  simp only [hb]
  unfold val_main_v74 val_main_v71 val_main_v62 val_main_v59 val_main_v58 val_main_v57 val_main_v56 val_main_v54
    val_main_v52 val_main_v51 val_main_v50
  generalize val_main_v24 (F := Ideal) x0 x1 x2 x4 x5 = y at *
  pointwise [val_main_v73, val_main_v72, val_main_v70, val_main_v69, val_main_v68, val_main_v67, val_main_v66, val_main_v65,
    val_main_v64, val_main_v63, val_main_v61, val_main_v60, val_main_v55, val_main_v53, val_main_v4, val_main_v3,
    val_main_cst_3, val_main_cst_4, val_main_cst_5, val_main_cst_6,
    Residual.modulated, Residual.normed]
  simp only [h]

/-- The reference's first result is the same. -/
theorem resH (x0 x1 : FVec Ideal S17408x1024 .bf16) (x2 : FVec Ideal S2x2048x2048 .f32)
    (x3 : FVec Ideal S4x4096x2048 .f32) (x4 : FVec Ideal S4x256x2048 .f32) (x5 : FVec Ideal S2x8x12288 .f32) :
    val_main_v77 (F := Ideal) x0 x1 x2 x3 x4 x5 = MixOut0.Proof.outH x0 x1 x2 x3 x4 x5 := by
  funext i
  idx_vars i
  have h := stream_latent x0 x1 x2 x3 x4 x5
  have h' := stream_context x0 x1 x2 x3 x4 x5
  unfold val_main_v77 val_main_v76 val_main_v75
  generalize val_main_v14 (F := Ideal) x0 x1 x2 x3 x5 = y at *
  generalize val_main_v24 (F := Ideal) x0 x1 x2 x4 x5 = z at *
  pointwise [MixOut0.Proof.outH]
  by_cases hp : i0.val < 16384
  · have hi : (⟨i0.val / 4096 * 4096 + i0.val % 4096, by omega⟩ : Fin 17408) = i0 :=
      Fin.ext (by show i0.val / 4096 * 4096 + i0.val % 4096 = i0.val; omega)
    rw [dif_pos hp]
    simp only [h, hi]
  · have hi : (⟨16384 + ((i0.val - 16384) / 256 * 256 + (i0.val - 16384) % 256), by omega⟩ : Fin 17408) = i0 :=
      Fin.ext (by show 16384 + ((i0.val - 16384) / 256 * 256 + (i0.val - 16384) % 256) = i0.val; omega)
    rw [dif_neg hp]
    simp only [h', hi]

/-- The reference's second result is the same. -/
theorem resU (x0 x1 : FVec Ideal S17408x1024 .bf16) (x2 : FVec Ideal S2x2048x2048 .f32)
    (x3 : FVec Ideal S4x4096x2048 .f32) (x4 : FVec Ideal S4x256x2048 .f32) (x5 : FVec Ideal S2x8x12288 .f32) (x6 : FVec Ideal S2x2048 .f32) :
    val_main_v81 (F := Ideal) x0 x1 x2 x3 x4 x5 x6 = MixOut0.Proof.outU x0 x1 x2 x3 x4 x5 x6 := by
  funext i
  idx_vars i
  have h := next_latent x0 x1 x2 x3 x4 x5 x6
  have h' := next_context x0 x1 x2 x3 x4 x5 x6
  unfold val_main_v81 val_main_v80 val_main_v79 val_main_v78
  generalize val_main_v49 (F := Ideal) x0 x1 x2 x3 x5 x6 = y at *
  generalize val_main_v74 (F := Ideal) x0 x1 x2 x4 x5 x6 = z at *
  pointwise [MixOut0.Proof.outU]
  by_cases hp : i0.val < 16384
  · have hi : (⟨i0.val / 4096 * 4096 + i0.val % 4096, by omega⟩ : Fin 17408) = i0 :=
      Fin.ext (by show i0.val / 4096 * 4096 + i0.val % 4096 = i0.val; omega)
    rw [dif_pos hp]
    simp only [h, hi]
  · have hi : (⟨16384 + ((i0.val - 16384) / 256 * 256 + (i0.val - 16384) % 256), by omega⟩ : Fin 17408) = i0 :=
      Fin.ext (by show 16384 + ((i0.val - 16384) / 256 * 256 + (i0.val - 16384) % 256) = i0.val; omega)
    rw [dif_neg hp]
    simp only [h', hi]

end Cert.MixOut0RefIdeal.Value

end
-- ==== Proof.MixOut0.lean ====
/- The attention layer's output call: the kernel's run and the reference's leave the same two arrays. -/
module

public import proofs.«01_k».proof.Defs
public import proofs.«01_k».proof.Proof.Gen.MixOut0RefIdeal.Run
public import proofs.«01_k».proof.Proof.MixOut0Stream
public import proofs.«01_k».proof.Proof.MixOut0Next
public import proofs.«01_k».proof.Proof.MixOut0Ref
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixOut0.Proof

/-- The value claim of the call. -/
theorem algebraic : Cert.algebraic_MixOut0Ideal_MixOut0RefIdeal := by
  pair_intro
  · run_from Cert.MixOut0Ideal.Value.run_blocks m g
  · run_from Cert.MixOut0RefIdeal.Value.run m' g'
    · rw [MixOut0RefIdeal.Read.val_main_v77_eq]
      obtain ⟨h0, h1, h2, h3, h4, h5, h6⟩ := hagree c
      rw [h4, h5]
      exact (MixOut0RefIdeal.Value.resH _ _ _ _ _ _).trans (MixOut0Ideal.Value.finalH m c).symm
    · rw [MixOut0RefIdeal.Read.val_main_v81_eq]
      obtain ⟨h0, h1, h2, h3, h4, h5, h6⟩ := hagree c
      rw [h0, h1, h2, h3, h4, h5, h6]
      exact (MixOut0RefIdeal.Value.resU _ _ _ _ _ _ _).trans (MixOut0Ideal.Value.finalU m c).symm

end Cert.MixOut0.Proof

end
-- ==== Proof.FfnDown0.lean ====
/- The feed-forward block's second product in the first layer, with the next layer's norm and modulation: the kernel's run
   and the reference's leave the same two arrays. -/
module

public import proofs.«01_k».proof.Defs
public import proofs.«01_k».proof.Proof.Gen.FfnDown0Ideal.Value
public import proofs.«01_k».proof.Proof.Gen.FfnDown0RefIdeal.Run
public import proofs.«01_k».proof.Proof.Gen.FfnDown0RefIdeal.Read
public import proofs.«01_k».proof.Proof.Residual
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnDown0.Proof

open Cert.FfnDown0RefIdeal

/-- Row `p` of the residual stream after the block; the gate is chunk 5 of layer 0's modulation of the row's batch, the
    context's rows taking batch 4. -/
def stream (x0 : FVec Ideal S17408x5632 .bf16) (x1 : FVec Ideal S2x5632x2048 .f32) (x2 : FVec Ideal S17408x2048 .f32)
    (x3 : FVec Ideal S2x8x12288 .f32) (p : Fin 17408) : Fin 2048 → EReal :=
  Residual.stream (fun k : Fin 5632 => x0 (ix2 p k)) (fun k j => x1 (ix3 0 k j)) (fun j => x2 (ix2 p j))
    (fun j => x3 (ix3 0 ⟨p.val / 4096, by omega⟩ ⟨10240 + j.val, by omega⟩))

/-- Row `p` of the next layer's input: the row of the stream normed, under chunks 0 and 1 of layer 1's modulation. -/
def next (x0 : FVec Ideal S17408x5632 .bf16) (x1 : FVec Ideal S2x5632x2048 .f32) (x2 : FVec Ideal S17408x2048 .f32)
    (x3 : FVec Ideal S2x8x12288 .f32) (x4 : FVec Ideal S2x2048 .f32) (p : Fin 17408) : Fin 2048 → EReal :=
  Residual.modulated (stream x0 x1 x2 x3 p) (fun j => x4 (ix2 1 j))
    (fun j => x3 (ix3 1 ⟨p.val / 4096, by omega⟩ ⟨j.val, by omega⟩))
    (fun j => x3 (ix3 1 ⟨p.val / 4096, by omega⟩ ⟨2048 + j.val, by omega⟩))

/-- The first result: every row of the stream. -/
def outH (x0 : FVec Ideal S17408x5632 .bf16) (x1 : FVec Ideal S2x5632x2048 .f32) (x2 : FVec Ideal S17408x2048 .f32)
    (x3 : FVec Ideal S2x8x12288 .f32) : FVec Ideal S17408x2048 .f32 :=
  fun i => stream x0 x1 x2 x3 (i 0) (i 1)

/-- The second result: every row of the next layer's input. -/
def outU (x0 : FVec Ideal S17408x5632 .bf16) (x1 : FVec Ideal S2x5632x2048 .f32) (x2 : FVec Ideal S17408x2048 .f32)
    (x3 : FVec Ideal S2x8x12288 .f32) (x4 : FVec Ideal S2x2048 .f32) : FVec Ideal S17408x2048 .bf16 :=
  fun i => next x0 x1 x2 x3 x4 (i 0) (i 1)

end Cert.FfnDown0.Proof

namespace Cert.FfnDown0Ideal.Value

open Cert.FfnDown0Ideal Cert.FfnDown0Ideal.Gen

variable (m : (ℓ : Loc nD τ sig) → Buf (Elt Ideal) ℓ)

/-- The windows' block indices at every point, from the point's number. -/
theorem idx : ∀ t : Fin cfg0.N, win0_0.index t = ![t.val, 0] ∧ win0_1.index t = ![0, 0, 0]
    ∧ win0_2.index t = ![t.val, 0] ∧ win0_3.index t = ![5 + t.val / 16 * 6, 0, 0] ∧ win0_4.index t = ![0, 0]
    ∧ win0_5.index t = ![48 + t.val / 16 * 6, 0, 0] ∧ win0_6.index t = ![49 + t.val / 16 * 6, 0, 0]
    ∧ win0_7.index t = ![t.val, 0] ∧ win0_8.index t = ![t.val, 0] := (by decide +kernel : ∀ t : Fin grid0.N, _)

/-- The weight operand is the weight argument. -/
theorem operand_w (c : Dev nD) (l : Fin 2) (k : Fin 5632) (j : Fin 2048) :
    V m c main_v0 (ix3 l k j) = m ((c.tc : Thread nD τ).loc main_arg1) (ix3 l k j) := by
  entry_read
  pointwise []

/-- The modulation operand is the modulation argument, a row for every chunk. -/
theorem operand_mods (c : Dev nD) (r : Fin 96) (j : Fin 2048) :
    V m c main_v1 (ix3 r 0 j) = m ((c.tc : Thread nD τ).loc main_arg3)
      (ix3 ⟨r.val / 48, by omega⟩ ⟨r.val / 6 % 8, by omega⟩ ⟨r.val % 6 * 2048 + j.val, by omega⟩) := by
  entry_read
  pointwise []

/-- The norm's weight operand is row 1 of the norms' weights. -/
theorem operand_nw (c : Dev nD) (j : Fin 2048) :
    V m c main_v4 (ix2 0 j) = m ((c.tc : Thread nD τ).loc main_arg4) (ix2 1 j) := by
  entry_read
  pointwise []

/-- The tile a point stores in the first result, from its operand blocks. -/
theorem payH (a : Vec Ideal S256x5632 .bf16) (w : Vec Ideal S1x5632x2048 .bf16) (h : Vec Ideal S256x2048 .f32)
    (g : Vec Ideal S1x1x2048 .f32) (p : Fin 256) (q : Fin 2048) :
    k0_pay2 a w h g (ix2 p q) = Residual.stream (fun k : Fin 5632 => a (ix2 p k))
      (fun k j => w (ix3 0 k j)) (fun j => h (ix2 p j)) (fun j => g (ix3 0 0 j)) q := by
  pointwise [k0_pay2]
  rfl

/-- The tile a point stores in the second result, from its operand blocks. -/
theorem payU (a : Vec Ideal S256x5632 .bf16) (w : Vec Ideal S1x5632x2048 .bf16) (h : Vec Ideal S256x2048 .f32)
    (g : Vec Ideal S1x1x2048 .f32) (nw : Vec Ideal S1x2048 .f32) (sh sc : Vec Ideal S1x1x2048 .f32) (p : Fin 256) (q : Fin 2048) :
    k0_pay1 (k0_pay3 a w h g nw sc) (k0_pay4 sh) (ix2 p q) = Residual.modulated (Residual.stream (fun k : Fin 5632 => a (ix2 p k))
      (fun k j => w (ix3 0 k j)) (fun j => h (ix2 p j)) (fun j => g (ix3 0 0 j))) (fun j => nw (ix2 0 j))
      (fun j => sh (ix3 0 0 j)) (fun j => sc (ix3 0 0 j)) q := by
  pointwise [k0_pay1, k0_pay3, k0_pay4, k0_pay2]
  rfl

/-- A row of a point's blocks gives its row of the stream. -/
theorem rows (c : Dev nD) (t : Fin cfg0.N) (ht : t.val < 68) (r : Fin 256) (j : Fin 2048) :
    Residual.stream (fun k : Fin 5632 => iblk m c 0 t (ix2 r k)) (fun k j => iblk m c 1 t (ix3 0 k j))
      (fun j => iblk m c 2 t (ix2 r j)) (fun j => iblk m c 3 t (ix3 0 0 j)) j
    = FfnDown0.Proof.stream (m ((c.tc : Thread nD τ).loc main_arg0)) (m ((c.tc : Thread nD τ).loc main_arg1))
      (m ((c.tc : Thread nD τ).loc main_arg2)) (m ((c.tc : Thread nD τ).loc main_arg3)) ⟨t.val * 256 + r.val, by omega⟩ j := by
  refine Residual.stream_congr ?_ ?_ ?_ ?_ j
  · intro k; blk_ext [iblk, V, idx t]
  · intro k j; refine Eq.trans ?_ (operand_w m c 0 k j); blk_ext [iblk, idx t]
  · intro j; blk_ext [iblk, V, idx t]
  · intro j
    refine Eq.trans (b := V m c main_v1 (ix3 ⟨5 + t.val / 16 * 6, by omega⟩ 0 j)) ?_ ((operand_mods m c _ j).trans ?_)
    · blk_ext [iblk, idx t]
    · blk_ext []

/-- What the call leaves in the first result array. -/
theorem finalH (c : Dev nD) : (dats m 0 c).arrAt 7 (cfgs 0).N
    = FfnDown0.Proof.outH (m ((c.tc : Thread nD τ).loc main_arg0)) (m ((c.tc : Thread nD τ).loc main_arg1))
      (m ((c.tc : Thread nD τ).loc main_arg2)) (m ((c.tc : Thread nD τ).loc main_arg3)) := by
  refine (dats m 0 c).arrAt_eq_of_covers 7 _ (by decide +kernel) fun t _ y => ?_
  have ht : t.val < 68 := t.isLt
  blk_simp
  rw [after0_7]
  frame_out
  idx_vars y
  rw [payH]
  have hi : ((cfg0.win 7).blk t).view.emb (ix2 y0 y1) = ix2 ⟨t.val * 256 + y0.val, by omega⟩ y1 := by
    blk_ext [idx t]
  refine (rows m c t ht y0 y1).trans ?_
  rw [hi]
  rfl

/-- What the call leaves in the second result array. -/
theorem finalU (c : Dev nD) : (dats m 0 c).arrAt 8 (cfgs 0).N
    = FfnDown0.Proof.outU (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) := by
  refine (dats m 0 c).arrAt_eq_of_covers 8 _ (by decide +kernel) fun t _ y => ?_
  have ht : t.val < 68 := t.isLt
  blk_simp
  rw [after0_8]
  frame_out
  idx_vars y
  rw [payU]
  have hi : ((cfg0.win 8).blk t).view.emb (ix2 y0 y1) = ix2 ⟨t.val * 256 + y0.val, by omega⟩ y1 := by
    blk_ext [idx t]
  rw [hi]
  show _ = FfnDown0.Proof.next _ _ _ _ _ ⟨t.val * 256 + y0.val, _⟩ y1
  unfold FfnDown0.Proof.next
  refine Residual.modulated_congr (rows m c t ht y0) ?_ ?_ ?_ y1
  · intro j; refine Eq.trans ?_ (operand_nw m c j); blk_ext [iblk, idx t]
  · intro j
    refine Eq.trans (b := V m c main_v1 (ix3 ⟨48 + t.val / 16 * 6, by omega⟩ 0 j)) ?_ ((operand_mods m c _ j).trans ?_)
    · blk_ext [iblk, idx t]
    · blk_ext []
  · intro j
    refine Eq.trans (b := V m c main_v1 (ix3 ⟨49 + t.val / 16 * 6, by omega⟩ 0 j)) ?_ ((operand_mods m c _ j).trans ?_)
    · blk_ext [iblk, idx t]
    · blk_ext []

end Cert.FfnDown0Ideal.Value

namespace Cert.FfnDown0RefIdeal.Value

open Cert.FfnDown0RefIdeal Cert.FfnDown0RefIdeal.Read

/-- The reference's residual stream on the latents. -/
theorem stream_latent (x0 : FVec Ideal S17408x5632 .bf16) (x1 : FVec Ideal S2x5632x2048 .f32) (x2 : FVec Ideal S17408x2048 .f32)
    (x3 : FVec Ideal S2x8x12288 .f32) (b : Fin 4) (s : Fin 4096) (j : Fin 2048) :
    val_main_v15 (F := Ideal) x0 x1 x2 x3 (ix3 b s j)
      = FfnDown0.Proof.stream x0 x1 x2 x3 ⟨b.val * 4096 + s.val, by omega⟩ j := by
  have hb : (⟨(b.val * 4096 + s.val) / 4096, by omega⟩ : Fin 8) = ⟨b.val, by omega⟩ := Fin.ext (by show (b.val * 4096 + s.val) / 4096 = b.val; omega)
  unfold FfnDown0.Proof.stream
  simp only [hb]
  pointwise [val_main_v15, val_main_v14, val_main_v13, val_main_v12, val_main_v11, val_main_v10, val_main_v9, val_main_v8,
    val_main_v7, val_main_v6, val_main_v5, val_main_v4, val_main_v1, val_main_v0, Residual.stream]

/-- The reference's residual stream on the context. -/
theorem stream_context (x0 : FVec Ideal S17408x5632 .bf16) (x1 : FVec Ideal S2x5632x2048 .f32) (x2 : FVec Ideal S17408x2048 .f32)
    (x3 : FVec Ideal S2x8x12288 .f32) (b : Fin 4) (s : Fin 256) (j : Fin 2048) :
    val_main_v27 (F := Ideal) x0 x1 x2 x3 (ix3 b s j)
      = FfnDown0.Proof.stream x0 x1 x2 x3 ⟨16384 + (b.val * 256 + s.val), by omega⟩ j := by
  have hb : (⟨(16384 + (b.val * 256 + s.val)) / 4096, by omega⟩ : Fin 8) = 4 := Fin.ext (by show (16384 + (b.val * 256 + s.val)) / 4096 = 4; omega)
  unfold FfnDown0.Proof.stream
  simp only [hb]
  pointwise [val_main_v27, val_main_v26, val_main_v25, val_main_v24, val_main_v23, val_main_v22, val_main_v21, val_main_v20,
    val_main_v19, val_main_v18, val_main_v17, val_main_v16, val_main_v1, val_main_v0, Residual.stream]

/-- The next layer's input on the latents. -/
theorem next_latent (x0 : FVec Ideal S17408x5632 .bf16) (x1 : FVec Ideal S2x5632x2048 .f32) (x2 : FVec Ideal S17408x2048 .f32)
    (x3 : FVec Ideal S2x8x12288 .f32) (x4 : FVec Ideal S2x2048 .f32) (b : Fin 4) (s : Fin 4096) (j : Fin 2048) :
    val_main_v52 (F := Ideal) x0 x1 x2 x3 x4 (ix3 b s j)
      = FfnDown0.Proof.next x0 x1 x2 x3 x4 ⟨b.val * 4096 + s.val, by omega⟩ j := by
  have hb : (⟨(b.val * 4096 + s.val) / 4096, by omega⟩ : Fin 8) = ⟨b.val, by omega⟩ := Fin.ext (by show (b.val * 4096 + s.val) / 4096 = b.val; omega)
  have h := stream_latent x0 x1 x2 x3
  unfold FfnDown0.Proof.next
  simp only [hb]
  unfold val_main_v52 val_main_v50 val_main_v40 val_main_v37 val_main_v36 val_main_v35 val_main_v34 val_main_v32
    val_main_v30 val_main_v29 val_main_v28
  generalize val_main_v15 (F := Ideal) x0 x1 x2 x3 = y at *
  pointwise [val_main_v51, val_main_v49, val_main_v48, val_main_v47, val_main_v46, val_main_v45, val_main_v44, val_main_v43,
    val_main_v42, val_main_v41, val_main_v39, val_main_v38, val_main_v33, val_main_v31, val_main_v3, val_main_v2,
    val_main_cst, val_main_cst_0, val_main_cst_1, val_main_cst_2, Residual.modulated, Residual.normed]
  simp only [h]

/-- The next layer's input on the context. -/
theorem next_context (x0 : FVec Ideal S17408x5632 .bf16) (x1 : FVec Ideal S2x5632x2048 .f32) (x2 : FVec Ideal S17408x2048 .f32)
    (x3 : FVec Ideal S2x8x12288 .f32) (x4 : FVec Ideal S2x2048 .f32) (b : Fin 4) (s : Fin 256) (j : Fin 2048) :
    val_main_v77 (F := Ideal) x0 x1 x2 x3 x4 (ix3 b s j)
      = FfnDown0.Proof.next x0 x1 x2 x3 x4 ⟨16384 + (b.val * 256 + s.val), by omega⟩ j := by
  have hb : (⟨(16384 + (b.val * 256 + s.val)) / 4096, by omega⟩ : Fin 8) = 4 := Fin.ext (by show (16384 + (b.val * 256 + s.val)) / 4096 = 4; omega)
  have h := stream_context x0 x1 x2 x3
  unfold FfnDown0.Proof.next
  simp only [hb]
  unfold val_main_v77 val_main_v74 val_main_v65 val_main_v62 val_main_v61 val_main_v60 val_main_v59 val_main_v57
    val_main_v55 val_main_v54 val_main_v53
  generalize val_main_v27 (F := Ideal) x0 x1 x2 x3 = y at *
  pointwise [val_main_v76, val_main_v75, val_main_v73, val_main_v72, val_main_v71, val_main_v70, val_main_v69, val_main_v68,
    val_main_v67, val_main_v66, val_main_v64, val_main_v63, val_main_v58, val_main_v56, val_main_v3, val_main_v2,
    val_main_cst_3, val_main_cst_4, val_main_cst_5, val_main_cst_6, Residual.modulated, Residual.normed]
  simp only [h]

/-- The reference's first result is the same. -/
theorem resH (x0 : FVec Ideal S17408x5632 .bf16) (x1 : FVec Ideal S2x5632x2048 .f32) (x2 : FVec Ideal S17408x2048 .f32)
    (x3 : FVec Ideal S2x8x12288 .f32) :
    val_main_v80 (F := Ideal) x0 x1 x2 x3 = FfnDown0.Proof.outH x0 x1 x2 x3 := by
  funext i
  idx_vars i
  have h := stream_latent x0 x1 x2 x3
  have h' := stream_context x0 x1 x2 x3
  unfold val_main_v80 val_main_v79 val_main_v78
  generalize val_main_v15 (F := Ideal) x0 x1 x2 x3 = y at *
  generalize val_main_v27 (F := Ideal) x0 x1 x2 x3 = z at *
  pointwise [FfnDown0.Proof.outH]
  by_cases hp : i0.val < 16384
  · have hi : (⟨i0.val / 4096 * 4096 + i0.val % 4096, by omega⟩ : Fin 17408) = i0 :=
      Fin.ext (by show i0.val / 4096 * 4096 + i0.val % 4096 = i0.val; omega)
    rw [dif_pos hp]
    simp only [h, hi]
  · have hi : (⟨16384 + ((i0.val - 16384) / 256 * 256 + (i0.val - 16384) % 256), by omega⟩ : Fin 17408) = i0 :=
      Fin.ext (by show 16384 + ((i0.val - 16384) / 256 * 256 + (i0.val - 16384) % 256) = i0.val; omega)
    rw [dif_neg hp]
    simp only [h', hi]

/-- The reference's second result is the same. -/
theorem resU (x0 : FVec Ideal S17408x5632 .bf16) (x1 : FVec Ideal S2x5632x2048 .f32) (x2 : FVec Ideal S17408x2048 .f32)
    (x3 : FVec Ideal S2x8x12288 .f32) (x4 : FVec Ideal S2x2048 .f32) :
    val_main_v84 (F := Ideal) x0 x1 x2 x3 x4 = FfnDown0.Proof.outU x0 x1 x2 x3 x4 := by
  funext i
  idx_vars i
  have h := next_latent x0 x1 x2 x3 x4
  have h' := next_context x0 x1 x2 x3 x4
  unfold val_main_v84 val_main_v83 val_main_v82 val_main_v81
  generalize val_main_v52 (F := Ideal) x0 x1 x2 x3 x4 = y at *
  generalize val_main_v77 (F := Ideal) x0 x1 x2 x3 x4 = z at *
  pointwise [FfnDown0.Proof.outU]
  by_cases hp : i0.val < 16384
  · have hi : (⟨i0.val / 4096 * 4096 + i0.val % 4096, by omega⟩ : Fin 17408) = i0 :=
      Fin.ext (by show i0.val / 4096 * 4096 + i0.val % 4096 = i0.val; omega)
    rw [dif_pos hp]
    simp only [h, hi]
  · have hi : (⟨16384 + ((i0.val - 16384) / 256 * 256 + (i0.val - 16384) % 256), by omega⟩ : Fin 17408) = i0 :=
      Fin.ext (by show 16384 + ((i0.val - 16384) / 256 * 256 + (i0.val - 16384) % 256) = i0.val; omega)
    rw [dif_neg hp]
    simp only [h', hi]

end Cert.FfnDown0RefIdeal.Value

namespace Cert.FfnDown0.Proof

/-- The value claim of the call. -/
theorem algebraic : Cert.algebraic_FfnDown0Ideal_FfnDown0RefIdeal := by
  pair_intro
  · run_from Cert.FfnDown0Ideal.Value.run_blocks m g
  · run_from Cert.FfnDown0RefIdeal.Value.run m' g'
    · rw [FfnDown0RefIdeal.Read.val_main_v80_eq]
      exact (FfnDown0RefIdeal.Value.resH _ _ _ _).trans (FfnDown0Ideal.Value.finalH m c).symm
    · rw [FfnDown0RefIdeal.Read.val_main_v84_eq]
      obtain ⟨h0, h1, h2, h3, h4⟩ := hagree c
      rw [h0, h1, h2, h3, h4]
      exact (FfnDown0RefIdeal.Value.resU _ _ _ _ _).trans (FfnDown0Ideal.Value.finalU m c).symm

end Cert.FfnDown0.Proof

end
-- ==== Proof.MixOut1Spec.lean ====
/- The recurrent layer's output product with the feed-forward block's norm and modulation: the two arrays it leaves. -/
module

public import proofs.«01_k».proof.Proof.Gen.MixOut1RefIdeal.Read
public import proofs.«01_k».proof.Proof.Residual
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixOut1.Proof

open Cert.MixOut1RefIdeal

/-- Row `p` of the residual stream after the mixer: the two mixers' outputs through the two halves of the weight's rows;
    the gate is chunk 2 of layer 1's modulation of the row's batch. -/
def stream (x0 x1 : FVec Ideal S16384x1024 .bf16) (x2 : FVec Ideal S2x2048x2048 .f32)
    (x3 : FVec Ideal S17408x2048 .f32) (x4 : FVec Ideal S2x8x12288 .f32) (p : Fin 16384) : Fin 2048 → EReal :=
  Residual.stream2 (fun k => x0 (ix2 p k)) (fun k => x1 (ix2 p k)) (fun k j => x2 (ix3 1 ⟨k.val, by omega⟩ j))
    (fun k j => x2 (ix3 1 ⟨1024 + k.val, by omega⟩ j)) (fun j => x3 (ix2 ⟨p.val, by omega⟩ j))
    (fun j => x4 (ix3 1 ⟨p.val / 4096, by omega⟩ ⟨4096 + j.val, by omega⟩))

/-- Row `p` of the feed-forward block's input: the row of the stream normed, under chunks 3 and 4 of the modulation. -/
def next (x0 x1 : FVec Ideal S16384x1024 .bf16) (x2 : FVec Ideal S2x2048x2048 .f32)
    (x3 : FVec Ideal S17408x2048 .f32) (x4 : FVec Ideal S2x8x12288 .f32) (x5 : FVec Ideal S2x2048 .f32) (p : Fin 16384) : Fin 2048 → EReal :=
  Residual.modulated (stream x0 x1 x2 x3 x4 p) (fun j => x5 (ix2 1 j))
    (fun j => x4 (ix3 1 ⟨p.val / 4096, by omega⟩ ⟨6144 + j.val, by omega⟩))
    (fun j => x4 (ix3 1 ⟨p.val / 4096, by omega⟩ ⟨8192 + j.val, by omega⟩))

/-- The first result: every row of the stream. -/
def outH (x0 x1 : FVec Ideal S16384x1024 .bf16) (x2 : FVec Ideal S2x2048x2048 .f32)
    (x3 : FVec Ideal S17408x2048 .f32) (x4 : FVec Ideal S2x8x12288 .f32) : FVec Ideal S16384x2048 .f32 :=
  fun i => stream x0 x1 x2 x3 x4 (i 0) (i 1)

/-- The second result: every row of the feed-forward block's input. -/
def outU (x0 x1 : FVec Ideal S16384x1024 .bf16) (x2 : FVec Ideal S2x2048x2048 .f32)
    (x3 : FVec Ideal S17408x2048 .f32) (x4 : FVec Ideal S2x8x12288 .f32) (x5 : FVec Ideal S2x2048 .f32) : FVec Ideal S16384x2048 .bf16 :=
  fun i => next x0 x1 x2 x3 x4 x5 (i 0) (i 1)

end Cert.MixOut1.Proof

end
-- ==== Proof.MixOut1Kernel.lean ====
/- What the recurrent layer's output call leaves in its two result arrays. -/
module

public import proofs.«01_k».proof.Proof.Gen.MixOut1Ideal.Value
public import proofs.«01_k».proof.Proof.MixOut1Spec
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixOut1Ideal.Value

open Cert.MixOut1Ideal Cert.MixOut1Ideal.Gen

variable (m : (ℓ : Loc nD τ sig) → Buf (Elt Ideal) ℓ)

/-- The windows' block indices at every point, from the point's number. -/
theorem idx : ∀ t : Fin cfg0.N, win0_0.index t = ![t.val, 0] ∧ win0_1.index t = ![t.val, 0]
    ∧ win0_2.index t = ![1, 0, 0] ∧ win0_3.index t = ![1, 1, 0] ∧ win0_4.index t = ![t.val, 0]
    ∧ win0_5.index t = ![50 + t.val / 8 * 6, 0, 0] ∧ win0_6.index t = ![0, 0]
    ∧ win0_7.index t = ![51 + t.val / 8 * 6, 0, 0] ∧ win0_8.index t = ![52 + t.val / 8 * 6, 0, 0]
    ∧ win0_9.index t = ![t.val, 0] ∧ win0_10.index t = ![t.val, 0] := (by decide +kernel : ∀ t : Fin grid0.N, _)

/-- The weight operand is the weight argument. -/
theorem operand_w (c : Dev nD) (l : Fin 2) (k : Fin 2048) (j : Fin 2048) :
    V m c main_v0 (ix3 l k j) = m ((c.tc : Thread nD τ).loc main_arg2) (ix3 l k j) := by
  entry_read
  pointwise []

/-- The modulation operand is the modulation argument, a row for every chunk. -/
theorem operand_mods (c : Dev nD) (r : Fin 96) (j : Fin 2048) :
    V m c main_v1 (ix3 r 0 j) = m ((c.tc : Thread nD τ).loc main_arg4)
      (ix3 ⟨r.val / 48, by omega⟩ ⟨r.val / 6 % 8, by omega⟩ ⟨r.val % 6 * 2048 + j.val, by omega⟩) := by
  entry_read
  pointwise []

/-- The norm's weight operand is row 1 of the norms' weights. -/
theorem operand_nw (c : Dev nD) (j : Fin 2048) :
    V m c main_v4 (ix2 0 j) = m ((c.tc : Thread nD τ).loc main_arg5) (ix2 1 j) := by
  entry_read
  pointwise []

/-- A row of the stream, from the blocks of a stored tile. -/
def rowH (a a' : Vec Ideal S128x1024 .bf16) (w w' : Vec Ideal S1x1024x2048 .bf16) (h : Vec Ideal S128x2048 .f32)
    (g : Vec Ideal S1x1x2048 .f32) (p : Fin 128) : Fin 2048 → EReal :=
  Residual.stream2 (fun k => a (ix2 p k)) (fun k => a' (ix2 p k)) (fun k j => w (ix3 0 k j)) (fun k j => w' (ix3 0 k j))
    (fun j => h (ix2 p j)) (fun j => g (ix3 0 0 j))

/-- A row of the block's input, from the blocks of a stored tile. -/
def rowU (a a' : Vec Ideal S128x1024 .bf16) (w w' : Vec Ideal S1x1024x2048 .bf16) (h : Vec Ideal S128x2048 .f32)
    (g : Vec Ideal S1x1x2048 .f32) (nw : Vec Ideal S1x2048 .f32) (sh sc : Vec Ideal S1x1x2048 .f32) (p : Fin 128) : Fin 2048 → EReal :=
  Residual.modulated (rowH a a' w w' h g p) (fun j => nw (ix2 0 j)) (fun j => sh (ix3 0 0 j)) (fun j => sc (ix3 0 0 j))

section
variable (a a' : Vec Ideal S128x1024 .bf16) (w w' : Vec Ideal S1x1024x2048 .bf16) (h : Vec Ideal S128x2048 .f32)
    (g : Vec Ideal S1x1x2048 .f32) (nw : Vec Ideal S1x2048 .f32) (sh sc : Vec Ideal S1x1x2048 .f32) (p : Fin 128) (q : Fin 2048)

/-- The first tile of the stream. -/
theorem payH0 : k0_pay7 (k0_pay2 a w a' w') h g (ix2 p q) = rowH a a' w w' h g p q := by
  pointwise [k0_pay7, k0_pay2]
  rfl

/-- The second tile of the stream. -/
theorem payH1 : k0_pay10 (k0_pay3 a w a' w') h g (ix2 p q) = rowH a a' w w' h g p q := by
  pointwise [k0_pay10, k0_pay3]
  rfl

/-- The third tile of the stream. -/
theorem payH2 : k0_pay14 (k0_pay5 (k0_pay4 a w) a' w') h g (ix2 p q) = rowH a a' w w' h g p q := by
  pointwise [k0_pay14, k0_pay5, k0_pay4]
  rfl

/-- The fourth tile of the stream. -/
theorem payH3 : k0_pay18 (k0_pay6 a w a' w') h g (ix2 p q) = rowH a a' w w' h g p q := by
  pointwise [k0_pay18, k0_pay6]
  rfl

/-- The first tile of the block's input. -/
theorem payU0 : k0_pay9 (k0_pay8 (k0_pay2 a w a' w') h g nw) sc sh (ix2 p q) = rowU a a' w w' h g nw sh sc p q := by
  have e := payH0 a a' w w' h g
  unfold k0_pay9 k0_pay8
  generalize k0_pay7 (k0_pay2 a w a' w') h g = y at *
  pointwise []
  simp only [e]
  rfl

/-- The second tile of the block's input. -/
theorem payU1 : k0_pay13 (k0_pay11 (k0_pay3 a w a' w') h g nw) (k0_pay12 sc) sh (ix2 p q) = rowU a a' w w' h g nw sh sc p q := by
  have e := payH1 a a' w w' h g
  unfold k0_pay13 k0_pay11
  generalize k0_pay10 (k0_pay3 a w a' w') h g = y at *
  pointwise [k0_pay12]
  simp only [e]
  rfl

/-- The third tile of the block's input. -/
theorem payU2 : k0_pay17 (k0_pay15 (k0_pay5 (k0_pay4 a w) a' w') h g nw) (k0_pay16 sc) sh (ix2 p q)
    = rowU a a' w w' h g nw sh sc p q := by
  have e := payH2 a a' w w' h g
  unfold k0_pay17 k0_pay15
  generalize k0_pay14 (k0_pay5 (k0_pay4 a w) a' w') h g = y at *
  pointwise [k0_pay16]
  simp only [e]
  rfl

/-- The fourth tile of the block's input. -/
theorem payU3 : k0_pay1 (k0_pay19 (k0_pay6 a w a' w') h g nw sc) sh (ix2 p q) = rowU a a' w w' h g nw sh sc p q := by
  have e := payH3 a a' w w' h g
  unfold k0_pay1 k0_pay19
  generalize k0_pay18 (k0_pay6 a w a' w') h g = y at *
  pointwise []
  simp only [e]
  rfl

end

/-- The modulation's window of chunk `k` at a point holds its row of the modulation. -/
theorem mods_row (c : Dev nD) (t : Fin cfg0.N) (ht : t.val < 32) (k : Fin 6) (p : Fin 16384) (hp : p.val / 512 = t.val) (j : Fin 2048) :
    V m c main_v1 (ix3 ⟨48 + k.val + t.val / 8 * 6, by omega⟩ 0 j) = m ((c.tc : Thread nD τ).loc main_arg4)
      (ix3 1 ⟨p.val / 4096, by omega⟩ ⟨k.val * 2048 + j.val, by omega⟩) := by
  refine (operand_mods m c _ j).trans ?_
  have e1 : (⟨(48 + k.val + t.val / 8 * 6) / 48, by omega⟩ : Fin 2) = 1 := Fin.ext (by show (48 + k.val + t.val / 8 * 6) / 48 = 1; omega)
  have e2 : (⟨(48 + k.val + t.val / 8 * 6) / 6 % 8, by omega⟩ : Fin 8) = ⟨p.val / 4096, by omega⟩ :=
    Fin.ext (by show (48 + k.val + t.val / 8 * 6) / 6 % 8 = p.val / 4096; omega)
  have e3 : (⟨(48 + k.val + t.val / 8 * 6) % 6 * 2048 + j.val, by omega⟩ : Fin 12288) = ⟨k.val * 2048 + j.val, by omega⟩ :=
    Fin.ext (by show (48 + k.val + t.val / 8 * 6) % 6 * 2048 + j.val = k.val * 2048 + j.val; omega)
  simp only [e1, e2, e3]

/-- A tile's row of the stream is the stream's row, where its rows of operands are. -/
theorem tileH (c : Dev nD) (t : Fin cfg0.N) (ht : t.val < 32) (a a' h r q) (p : Fin 16384) (j : Fin 2048) (hp : p.val / 512 = t.val)
    (hj : q.val = j.val)
    (ha : ∀ k, a (ix2 r k) = m ((c.tc : Thread nD τ).loc main_arg0) (ix2 p k))
    (ha' : ∀ k, a' (ix2 r k) = m ((c.tc : Thread nD τ).loc main_arg1) (ix2 p k))
    (hh : ∀ k, h (ix2 r k) = m ((c.tc : Thread nD τ).loc main_arg3) (ix2 ⟨p.val, by omega⟩ k)) :
    rowH a a' (View.ld (iblk m c 2 t) r0_1) (View.ld (iblk m c 3 t) r0_1) h (iblk m c 5 t) r q
      = MixOut1.Proof.stream (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) p j := by
  obtain rfl : q = j := Fin.ext hj
  refine Residual.stream2_congr ha ha' ?_ ?_ hh ?_ q
  · intro k j; refine Eq.trans ?_ (operand_w m c 1 ⟨k.val, by omega⟩ j)
    try rw [View.ld_apply]
    blk_ext [iblk, idx t, Rect.idx_unit_val]
  · intro k j; refine Eq.trans ?_ (operand_w m c 1 ⟨1024 + k.val, by omega⟩ j)
    try rw [View.ld_apply]
    blk_ext [iblk, idx t, Rect.idx_unit_val]
  · intro j; refine Eq.trans ?_ (mods_row m c t ht 2 p hp j)
    try rw [View.ld_apply]
    blk_ext [iblk, idx t, Rect.idx_unit_val]

/-- A tile's row of the block's input is the input's row, where its rows of operands are. -/
theorem tileU (c : Dev nD) (t : Fin cfg0.N) (ht : t.val < 32) (a a' h r q) (p : Fin 16384) (j : Fin 2048) (hp : p.val / 512 = t.val)
    (hj : q.val = j.val)
    (ha : ∀ k, a (ix2 r k) = m ((c.tc : Thread nD τ).loc main_arg0) (ix2 p k))
    (ha' : ∀ k, a' (ix2 r k) = m ((c.tc : Thread nD τ).loc main_arg1) (ix2 p k))
    (hh : ∀ k, h (ix2 r k) = m ((c.tc : Thread nD τ).loc main_arg3) (ix2 ⟨p.val, by omega⟩ k)) :
    rowU a a' (View.ld (iblk m c 2 t) r0_1) (View.ld (iblk m c 3 t) r0_1) h (iblk m c 5 t)
        (iblk m c 6 t) (iblk m c 7 t) (iblk m c 8 t) r q
      = MixOut1.Proof.next (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) p j := by
  obtain rfl : q = j := Fin.ext hj
  refine Residual.modulated_congr (fun d => tileH m c t ht a a' h r d p d hp rfl ha ha' hh) ?_ ?_ ?_ q
  · intro j; refine Eq.trans ?_ (operand_nw m c j)
    try rw [View.ld_apply]
    blk_ext [iblk, idx t, Rect.idx_unit_val]
  · intro j; refine Eq.trans ?_ (mods_row m c t ht 3 p hp j)
    try rw [View.ld_apply]
    blk_ext [iblk, idx t, Rect.idx_unit_val]
  · intro j; refine Eq.trans ?_ (mods_row m c t ht 4 p hp j)
    try rw [View.ld_apply]
    blk_ext [iblk, idx t, Rect.idx_unit_val]

set_option maxHeartbeats 2000000 in
/-- What the call leaves in the first result array. -/
theorem finalH (c : Dev nD) : (dats m 0 c).arrAt 9 (cfgs 0).N
    = MixOut1.Proof.outH (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) := by
  refine (dats m 0 c).arrAt_eq_of_covers 9 _ (by decide +kernel) fun t _ y => ?_
  have ht : t.val < 32 := t.isLt
  blk_simp
  rw [after0_9]
  frame_out
  generalize hi : ((cfg0.win 9).blk t).view.emb y = i
  have hi0 : (i 0 : ℕ) = t.val * 512 + (y 0).val := by rw [← hi]; blk_simp [idx t]
  have hi1 : (i 1 : ℕ) = (y 1).val := by rw [← hi]; blk_simp [idx t]
  clear hi
  unfold MixOut1.Proof.outH
  canon_tiles x h
  all_goals
    idx_vars x
    first | unfold k0_pay20 | unfold k0_pay21 | unfold k0_pay22 | unfold k0_pay23
    first | rw [payH0] | rw [payH1] | rw [payH2] | rw [payH3]
    apply tileH m c t ht _ _ _ _ _ _ _ (by omega) (by omega)
    · intro k; try rw [View.ld_apply]
      blk_ext [iblk, V, idx t, Rect.idx_unit_val]
    · intro k; try rw [View.ld_apply]
      blk_ext [iblk, V, idx t, Rect.idx_unit_val]
    · intro k; try rw [View.ld_apply]
      blk_ext [iblk, V, idx t, Rect.idx_unit_val]

set_option maxHeartbeats 2000000 in
/-- What the call leaves in the second result array. -/
theorem finalU (c : Dev nD) : (dats m 0 c).arrAt 10 (cfgs 0).N
    = MixOut1.Proof.outU (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := by
  refine (dats m 0 c).arrAt_eq_of_covers 10 _ (by decide +kernel) fun t _ y => ?_
  have ht : t.val < 32 := t.isLt
  blk_simp
  rw [after0_10]
  frame_out
  generalize hi : ((cfg0.win 10).blk t).view.emb y = i
  have hi0 : (i 0 : ℕ) = t.val * 512 + (y 0).val := by rw [← hi]; blk_simp [idx t]
  have hi1 : (i 1 : ℕ) = (y 1).val := by rw [← hi]; blk_simp [idx t]
  clear hi
  unfold MixOut1.Proof.outU
  canon_tiles x h
  all_goals
    idx_vars x
    first | unfold k0_pay20 | unfold k0_pay21 | unfold k0_pay22 | unfold k0_pay23
    first | rw [payU0] | rw [payU1] | rw [payU2] | rw [payU3]
    apply tileU m c t ht _ _ _ _ _ _ _ (by omega) (by omega)
    · intro k; try rw [View.ld_apply]
      blk_ext [iblk, V, idx t, Rect.idx_unit_val]
    · intro k; try rw [View.ld_apply]
      blk_ext [iblk, V, idx t, Rect.idx_unit_val]
    · intro k; try rw [View.ld_apply]
      blk_ext [iblk, V, idx t, Rect.idx_unit_val]

end Cert.MixOut1Ideal.Value

end
-- ==== Proof.MixOut1Ref.lean ====
/- What the reference of the recurrent layer's output call computes. -/
module

public import proofs.«01_k».proof.Proof.Gen.MixOut1RefIdeal.Read
public import proofs.«01_k».proof.Proof.MixOut1Spec
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixOut1RefIdeal.Value

open Cert.MixOut1RefIdeal Cert.MixOut1RefIdeal.Read

/-- The mixers' outputs, one beside the other. -/
theorem beside (x0 x1 : FVec Ideal S16384x1024 .bf16) (p : Fin 16384) (k : Fin 2048) :
    val_main_v0 (F := Ideal) x0 x1 (ix2 p k) = if h : k.val < 1024 then x0 (ix2 p ⟨k.val, h⟩)
      else x1 (ix2 p ⟨k.val - 1024, by omega⟩) := by
  unfold val_main_v0
  pointwise []

/-- The same rows under their batch. -/
theorem batched (x0 x1 : FVec Ideal S16384x1024 .bf16) (b : Fin 4) (s : Fin 4096) (k : Fin 2048) :
    val_main_v6 (F := Ideal) x0 x1 (ix3 b s k) = val_main_v0 (F := Ideal) x0 x1 (ix2 ⟨b.val * 4096 + s.val, by omega⟩ k) := by
  unfold val_main_v6
  generalize val_main_v0 (F := Ideal) x0 x1 = y
  pointwise []

/-- The format's change leaves the rows. -/
theorem wide (x0 x1 : FVec Ideal S16384x1024 .bf16) (i : S4x4096x2048.Idx) :
    (val_main_v7 (F := Ideal) x0 x1 i : EReal) = (val_main_v6 (F := Ideal) x0 x1 i : EReal) := by
  unfold val_main_v7
  rw [extf_apply]
  generalize val_main_v6 (F := Ideal) x0 x1 i = y
  rfl

/-- The first half of a row of the mixers' outputs. -/
theorem left (x0 x1 : FVec Ideal S16384x1024 .bf16) (b : Fin 4) (s : Fin 4096) (k : Fin 1024) :
    val_main_v6 (F := Ideal) x0 x1 (ix3 b s ⟨k.val, by omega⟩) = x0 (ix2 ⟨b.val * 4096 + s.val, by omega⟩ k) :=
  (batched x0 x1 b s _).trans ((beside x0 x1 _ _).trans (dif_pos k.isLt))

/-- The second half of a row of the mixers' outputs. -/
theorem right (x0 x1 : FVec Ideal S16384x1024 .bf16) (b : Fin 4) (s : Fin 4096) (k : Fin 1024) :
    val_main_v6 (F := Ideal) x0 x1 (ix3 b s ⟨1024 + k.val, by omega⟩) = x1 (ix2 ⟨b.val * 4096 + s.val, by omega⟩ k) := by
  refine (batched x0 x1 b s _).trans ((beside x0 x1 _ _).trans ((dif_neg (by simp only; omega)).trans ?_))
  refine congrArg (fun k' : Fin 1024 => x1 (ix2 ⟨b.val * 4096 + s.val, by omega⟩ k')) (Fin.ext ?_)
  show 1024 + k.val - 1024 = k.val
  omega

/-- The mixer's weight. -/
theorem weight (x2 : FVec Ideal S2x2048x2048 .f32) (k j : Fin 2048) : val_main_v9 (F := Ideal) x2 (ix2 k j) = x2 (ix3 1 k j) := by
  pointwise [val_main_v9, val_main_v8]

/-- The gate of a row's batch. -/
theorem gate (x4 : FVec Ideal S2x8x12288 .f32) (b : Fin 4) (s : Fin 4096) (j : Fin 2048) :
    val_main_v11 (F := Ideal) x4 (ix3 b s j) = x4 (ix3 1 ⟨b.val, by omega⟩ ⟨4096 + j.val, by omega⟩) := by
  pointwise [val_main_v11, val_main_v5, val_main_v4, val_main_v3]

/-- The residual's rows under their batch. -/
theorem residual (x3 : FVec Ideal S17408x2048 .f32) (b : Fin 4) (s : Fin 4096) (j : Fin 2048) :
    val_main_v2 (F := Ideal) x3 (ix3 b s j) = x3 (ix2 ⟨b.val * 4096 + s.val, by omega⟩ j) := by
  pointwise [val_main_v2, val_main_v1]

/-- The product, in two halves. -/
theorem product (x0 x1 : FVec Ideal S16384x1024 .bf16) (x2 : FVec Ideal S2x2048x2048 .f32) (b : Fin 4) (s : Fin 4096) (j : Fin 2048) :
    val_main_v10 (F := Ideal) x0 x1 x2 (ix3 b s j)
      = ∑ k : Fin 1024, x0 (ix2 ⟨b.val * 4096 + s.val, by omega⟩ k) * x2 (ix3 1 ⟨k.val, by omega⟩ j)
        + ∑ k : Fin 1024, x1 (ix2 ⟨b.val * 4096 + s.val, by omega⟩ k) * x2 (ix3 1 ⟨1024 + k.val, by omega⟩ j) := by
  refine Eq.trans (b := ∑ k : Fin 2048, val_main_v7 (F := Ideal) x0 x1 (ix3 b s k) * val_main_v9 (F := Ideal) x2 (ix2 k j)) ?_ ?_
  · unfold val_main_v10
    generalize val_main_v9 (F := Ideal) x2 = w
    generalize val_main_v7 (F := Ideal) x0 x1 = y
    pointwise []
  · rw [Residual.sum_halves]
    refine congrArg₂ (· + ·) (Finset.sum_congr rfl fun k _ => ?_) (Finset.sum_congr rfl fun k _ => ?_)
    · rw [wide, left, weight]
    · rw [wide, right, weight]

/-- The reference's residual stream. -/
theorem stream (x0 x1 : FVec Ideal S16384x1024 .bf16) (x2 : FVec Ideal S2x2048x2048 .f32)
    (x3 : FVec Ideal S17408x2048 .f32) (x4 : FVec Ideal S2x8x12288 .f32) (b : Fin 4) (s : Fin 4096) (j : Fin 2048) :
    val_main_v13 (F := Ideal) x0 x1 x2 x3 x4 (ix3 b s j)
      = MixOut1.Proof.stream x0 x1 x2 x3 x4 ⟨b.val * 4096 + s.val, by omega⟩ j := by
  have hb : (⟨(b.val * 4096 + s.val) / 4096, by omega⟩ : Fin 8) = ⟨b.val, by omega⟩ := Fin.ext (by show (b.val * 4096 + s.val) / 4096 = b.val; omega)
  unfold MixOut1.Proof.stream
  simp only [hb]
  exact congrArg₂ (· + ·) (residual x3 b s j) (congrArg₂ (· * ·) (gate x4 b s j) (product x0 x1 x2 b s j))

/-- The feed-forward block's input. -/
theorem next (x0 x1 : FVec Ideal S16384x1024 .bf16) (x2 : FVec Ideal S2x2048x2048 .f32)
    (x3 : FVec Ideal S17408x2048 .f32) (x4 : FVec Ideal S2x8x12288 .f32) (x5 : FVec Ideal S2x2048 .f32) (b : Fin 4) (s : Fin 4096) (j : Fin 2048) :
    val_main_v40 (F := Ideal) x0 x1 x2 x3 x4 x5 (ix3 b s j)
      = MixOut1.Proof.next x0 x1 x2 x3 x4 x5 ⟨b.val * 4096 + s.val, by omega⟩ j := by
  have hb : (⟨(b.val * 4096 + s.val) / 4096, by omega⟩ : Fin 8) = ⟨b.val, by omega⟩ := Fin.ext (by show (b.val * 4096 + s.val) / 4096 = b.val; omega)
  have h := stream x0 x1 x2 x3 x4
  unfold MixOut1.Proof.next
  simp only [hb]
  unfold val_main_v40 val_main_v38 val_main_v28 val_main_v25 val_main_v24 val_main_v23 val_main_v22 val_main_v20
    val_main_v18 val_main_v17 val_main_v16
  generalize val_main_v13 (F := Ideal) x0 x1 x2 x3 x4 = y at *
  pointwise [val_main_v39, val_main_v37, val_main_v36, val_main_v35, val_main_v34, val_main_v33, val_main_v32, val_main_v31,
    val_main_v30, val_main_v29, val_main_v27, val_main_v26, val_main_v21, val_main_v19, val_main_v15, val_main_v14,
    val_main_cst, val_main_cst_0, val_main_cst_1, val_main_cst_2, Residual.modulated, Residual.normed]
  simp only [h]

/-- The reference's first result is the same. -/
theorem resH (x0 x1 : FVec Ideal S16384x1024 .bf16) (x2 : FVec Ideal S2x2048x2048 .f32)
    (x3 : FVec Ideal S17408x2048 .f32) (x4 : FVec Ideal S2x8x12288 .f32) :
    val_main_v41 (F := Ideal) x0 x1 x2 x3 x4 = MixOut1.Proof.outH x0 x1 x2 x3 x4 := by
  funext i
  idx_vars i
  have h := stream x0 x1 x2 x3 x4
  unfold val_main_v41
  generalize val_main_v13 (F := Ideal) x0 x1 x2 x3 x4 = y at *
  pointwise [MixOut1.Proof.outH]
  have hi : (⟨i0.val / 4096 * 4096 + i0.val % 4096, by omega⟩ : Fin 16384) = i0 :=
    Fin.ext (by show i0.val / 4096 * 4096 + i0.val % 4096 = i0.val; omega)
  simp only [h, hi]

/-- The reference's second result is the same. -/
theorem resU (x0 x1 : FVec Ideal S16384x1024 .bf16) (x2 : FVec Ideal S2x2048x2048 .f32)
    (x3 : FVec Ideal S17408x2048 .f32) (x4 : FVec Ideal S2x8x12288 .f32) (x5 : FVec Ideal S2x2048 .f32) :
    val_main_v43 (F := Ideal) x0 x1 x2 x3 x4 x5 = MixOut1.Proof.outU x0 x1 x2 x3 x4 x5 := by
  funext i
  idx_vars i
  have h := next x0 x1 x2 x3 x4 x5
  unfold val_main_v43 val_main_v42
  generalize val_main_v40 (F := Ideal) x0 x1 x2 x3 x4 x5 = y at *
  pointwise [MixOut1.Proof.outU]
  have hi : (⟨i0.val / 4096 * 4096 + i0.val % 4096, by omega⟩ : Fin 16384) = i0 :=
    Fin.ext (by show i0.val / 4096 * 4096 + i0.val % 4096 = i0.val; omega)
  simp only [h, hi]

end Cert.MixOut1RefIdeal.Value

end
-- ==== Proof.MixOut1.lean ====
/- The recurrent layer's output call: the kernel's run and the reference's leave the same two arrays. -/
module

public import proofs.«01_k».proof.Defs
public import proofs.«01_k».proof.Proof.Gen.MixOut1RefIdeal.Run
public import proofs.«01_k».proof.Proof.MixOut1Kernel
public import proofs.«01_k».proof.Proof.MixOut1Ref
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixOut1.Proof

/-- The value claim of the call. -/
theorem algebraic : Cert.algebraic_MixOut1Ideal_MixOut1RefIdeal := by
  pair_intro
  · run_from Cert.MixOut1Ideal.Value.run_blocks m g
  · run_from Cert.MixOut1RefIdeal.Value.run m' g'
    · rw [MixOut1RefIdeal.Read.val_main_v41_eq]
      exact (MixOut1RefIdeal.Value.resH _ _ _ _ _).trans (MixOut1Ideal.Value.finalH m c).symm
    · rw [MixOut1RefIdeal.Read.val_main_v43_eq]
      obtain ⟨h0, h1, h2, h3, h4, h5⟩ := hagree c
      rw [h0, h1, h2, h3, h4, h5]
      exact (MixOut1RefIdeal.Value.resU _ _ _ _ _ _).trans (MixOut1Ideal.Value.finalU m c).symm

end Cert.MixOut1.Proof

end
-- ==== Proof.FfnDown1.lean ====
/- The feed-forward block's second product in the last layer with the final norm: the kernel's run and the reference's
   leave the same array. -/
module

public import proofs.«01_k».proof.Defs
public import proofs.«01_k».proof.Proof.Gen.FfnDown1Ideal.Value
public import proofs.«01_k».proof.Proof.Gen.FfnDown1RefIdeal.Run
public import proofs.«01_k».proof.Proof.Gen.FfnDown1RefIdeal.Read
public import proofs.«01_k».proof.Proof.Residual
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnDown1.Proof

open Cert.FfnDown1RefIdeal

/-- Row `p` of the residual stream after the block; the gate is chunk 5 of layer 1's modulation of the row's batch. -/
def stream (x0 : FVec Ideal S16384x5632 .bf16) (x1 : FVec Ideal S2x5632x2048 .f32) (x2 : FVec Ideal S16384x2048 .f32)
    (x3 : FVec Ideal S2x8x12288 .f32) (p : Fin 16384) : Fin 2048 → EReal :=
  Residual.stream (fun k : Fin 5632 => x0 (ix2 p k)) (fun k j => x1 (ix3 1 k j)) (fun j => x2 (ix2 p j))
    (fun j => x3 (ix3 1 ⟨p.val / 4096, by omega⟩ ⟨10240 + j.val, by omega⟩))

/-- The result: every row of the stream, normed. -/
def out (x0 : FVec Ideal S16384x5632 .bf16) (x1 : FVec Ideal S2x5632x2048 .f32) (x2 : FVec Ideal S16384x2048 .f32)
    (x3 : FVec Ideal S2x8x12288 .f32) (x4 : FVec Ideal S2048 .f32) : FVec Ideal S16384x2048 .f32 :=
  fun i => Residual.normed (stream x0 x1 x2 x3 (i 0)) (fun j => x4 (ix1 j)) (i 1)

end Cert.FfnDown1.Proof

namespace Cert.FfnDown1Ideal.Value

open Cert.FfnDown1Ideal Cert.FfnDown1Ideal.Gen

variable (m : (ℓ : Loc nD τ sig) → Buf (Elt Ideal) ℓ)

/-- The windows' block indices at every point, from the point's number. -/
theorem idx : ∀ t : Fin cfg0.N, win0_0.index t = ![t.val, 0] ∧ win0_1.index t = ![1, 0, 0]
    ∧ win0_2.index t = ![t.val, 0] ∧ win0_3.index t = ![53 + t.val / 16 * 6, 0, 0] ∧ win0_4.index t = ![0, 0]
    ∧ win0_5.index t = ![t.val, 0] := (by decide +kernel : ∀ t : Fin grid0.N, _)

/-- The weight operand is the weight argument. -/
theorem operand_w (c : Dev nD) (l : Fin 2) (k : Fin 5632) (j : Fin 2048) :
    V m c main_v0 (ix3 l k j) = m ((c.tc : Thread nD τ).loc main_arg1) (ix3 l k j) := by
  entry_read
  pointwise []

/-- The modulation operand is the modulation argument, a row for every chunk. -/
theorem operand_mods (c : Dev nD) (r : Fin 96) (j : Fin 2048) :
    V m c main_v1 (ix3 r 0 j) = m ((c.tc : Thread nD τ).loc main_arg3)
      (ix3 ⟨r.val / 48, by omega⟩ ⟨r.val / 6 % 8, by omega⟩ ⟨r.val % 6 * 2048 + j.val, by omega⟩) := by
  entry_read
  pointwise []

/-- The norm's weight operand is the norm's weight. -/
theorem operand_nw (c : Dev nD) (j : Fin 2048) :
    V m c main_v2 (ix2 0 j) = m ((c.tc : Thread nD τ).loc main_arg4) (ix1 j) := by
  entry_read
  pointwise []

/-- The tile a point stores, from its operand blocks. -/
theorem pay (a : Vec Ideal S256x5632 .bf16) (w : Vec Ideal S1x5632x2048 .bf16) (h : Vec Ideal S256x2048 .f32)
    (g : Vec Ideal S1x1x2048 .f32) (nw : Vec Ideal S1x2048 .f32) (p : Fin 256) (q : Fin 2048) :
    k0_pay1 a w h g nw (ix2 p q) = Residual.normed (Residual.stream (fun k : Fin 5632 => a (ix2 p k))
      (fun k j => w (ix3 0 k j)) (fun j => h (ix2 p j)) (fun j => g (ix3 0 0 j))) (fun j => nw (ix2 0 j)) q := by
  pointwise [k0_pay1]
  rfl

/-- What a point stores is its block of the result. -/
theorem point (c : Dev nD) (t : Fin cfg0.N) (y) :
    k0_pay1 (iblk m c 0 t) (iblk m c 1 t) (iblk m c 2 t) (iblk m c 3 t) (iblk m c 4 t) y
    = FfnDown1.Proof.out (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (((cfg0.win 5).blk t).view.emb y) := by
  have ht : t.val < 64 := t.isLt
  idx_vars y
  rw [pay]
  have hi : ((cfg0.win 5).blk t).view.emb (ix2 y0 y1) = ix2 ⟨t.val * 256 + y0.val, by omega⟩ y1 := by
    blk_ext [idx t]
  rw [hi]
  refine Residual.normed_congr (Residual.stream_congr ?_ ?_ ?_ ?_) ?_ y1
  · intro k; blk_ext [iblk, V, idx t]
  · intro k j; refine Eq.trans ?_ (operand_w m c 1 k j); blk_ext [iblk, idx t]
  · intro j; blk_ext [iblk, V, idx t]
  · intro j
    refine Eq.trans (b := V m c main_v1 (ix3 ⟨53 + t.val / 16 * 6, by omega⟩ 0 j)) ?_ ((operand_mods m c _ j).trans ?_)
    · blk_ext [iblk, idx t]
    · blk_ext []
  · intro j; refine Eq.trans ?_ (operand_nw m c j); blk_ext [iblk, idx t]

/-- What the call leaves in the result array. -/
theorem final (c : Dev nD) : (dats m 0 c).arrAt 5 (cfgs 0).N
    = FfnDown1.Proof.out (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) := by
  refine (dats m 0 c).arrAt_eq_of_covers 5 _ (by decide +kernel) fun t _ y => ?_
  blk_simp
  rw [after0_5]
  frame_out
  exact point m c t y

end Cert.FfnDown1Ideal.Value

namespace Cert.FfnDown1RefIdeal.Value

open Cert.FfnDown1RefIdeal Cert.FfnDown1RefIdeal.Read

/-- The reference's residual stream. -/
theorem stream (x0 : FVec Ideal S16384x5632 .bf16) (x1 : FVec Ideal S2x5632x2048 .f32) (x2 : FVec Ideal S16384x2048 .f32)
    (x3 : FVec Ideal S2x8x12288 .f32) (b : Fin 4) (s : Fin 4096) (j : Fin 2048) :
    val_main_v11 (F := Ideal) x0 x1 x2 x3 (ix3 b s j)
      = FfnDown1.Proof.stream x0 x1 x2 x3 ⟨b.val * 4096 + s.val, by omega⟩ j := by
  have hb : (⟨(b.val * 4096 + s.val) / 4096, by omega⟩ : Fin 8) = ⟨b.val, by omega⟩ := Fin.ext (by show (b.val * 4096 + s.val) / 4096 = b.val; omega)
  unfold FfnDown1.Proof.stream
  pointwise [val_main_v11, val_main_v10, val_main_v9, val_main_v8, val_main_v7, val_main_v6, val_main_v5, val_main_v4,
    val_main_v3, val_main_v2, val_main_v1, val_main_v0, Residual.stream]
  exact congrArg (fun b' : Fin 8 => x2 (ix2 ⟨b.val * 4096 + s.val, by omega⟩ j) + x3 (ix3 1 b' ⟨10240 + j.val, by omega⟩)
    * ∑ k : Fin 5632, x0 (ix2 ⟨b.val * 4096 + s.val, by omega⟩ k) * x1 (ix3 1 k j)) hb.symm

/-- The reference's result is the same. -/
theorem res (x0 : FVec Ideal S16384x5632 .bf16) (x1 : FVec Ideal S2x5632x2048 .f32) (x2 : FVec Ideal S16384x2048 .f32)
    (x3 : FVec Ideal S2x8x12288 .f32) (x4 : FVec Ideal S2048 .f32) :
    val_main_v25 (F := Ideal) x0 x1 x2 x3 x4 = FfnDown1.Proof.out x0 x1 x2 x3 x4 := by
  funext i
  idx_vars i
  have h := stream x0 x1 x2 x3
  unfold val_main_v25 val_main_v24 val_main_v21 val_main_v20 val_main_v19 val_main_v18 val_main_v16 val_main_v14
    val_main_v13 val_main_v12
  generalize val_main_v11 (F := Ideal) x0 x1 x2 x3 = y at *
  pointwise [val_main_v23, val_main_v22, val_main_v17, val_main_v15, val_main_cst, val_main_cst_0, val_main_cst_1,
    FfnDown1.Proof.out, Residual.normed]
  have hi : (⟨i0.val / 4096 * 4096 + i0.val % 4096, by omega⟩ : Fin 16384) = i0 :=
    Fin.ext (by show i0.val / 4096 * 4096 + i0.val % 4096 = i0.val; omega)
  simp only [h, hi]

end Cert.FfnDown1RefIdeal.Value

namespace Cert.FfnDown1.Proof

/-- The value claim of the call. -/
theorem algebraic : Cert.algebraic_FfnDown1Ideal_FfnDown1RefIdeal := by
  pair_intro
  · run_from Cert.FfnDown1Ideal.Value.run_blocks m g
  · run_from Cert.FfnDown1RefIdeal.Value.run m' g'
    rw [FfnDown1RefIdeal.Read.val_main_v25_eq]
    exact (FfnDown1RefIdeal.Value.res _ _ _ _ _).trans (FfnDown1Ideal.Value.final m c).symm

end Cert.FfnDown1.Proof

end
-- ==== Proof.lean ====
module

public import proofs.«01_k».proof.Defs
public import proofs.«01_k».proof.Proof.Gen.Gqa
public import proofs.«01_k».proof.Proof.Gen.Gqa.Skeleton
public import proofs.«01_k».proof.Proof.Gen.Gqa.Launch
public import proofs.«01_k».proof.Proof.Gen.Gqa.Points
public import proofs.«01_k».proof.Proof.Gen.Gqa.Frame
public import proofs.«01_k».proof.Proof.Gen.GqaIdeal
public import proofs.«01_k».proof.Proof.Gen.GqaIdeal.Skeleton
public import proofs.«01_k».proof.Proof.Gen.GqaIdeal.Launch
public import proofs.«01_k».proof.Proof.Gen.GqaIdeal.Points
public import proofs.«01_k».proof.Proof.Gen.GqaIdeal.Frame
public import proofs.«01_k».proof.Proof.Gen.GqaIdeal.Value
public import proofs.«01_k».proof.Proof.Gen.GqaRefIdeal
public import proofs.«01_k».proof.Proof.Gen.GqaRefIdeal.Run
public import proofs.«01_k».proof.Proof.Gen.GqaRefIdeal.Read
public import proofs.«01_k».proof.Proof.Gen.Mla
public import proofs.«01_k».proof.Proof.Gen.Mla.Skeleton
public import proofs.«01_k».proof.Proof.Gen.Mla.Launch
public import proofs.«01_k».proof.Proof.Gen.Mla.Points
public import proofs.«01_k».proof.Proof.Gen.Mla.Frame
public import proofs.«01_k».proof.Proof.Gen.MlaIdeal
public import proofs.«01_k».proof.Proof.Gen.MlaIdeal.Skeleton
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaIdeal.Value
public import proofs.«01_k».proof.Proof.Gen.MlaRefIdeal
public import proofs.«01_k».proof.Proof.Gen.MlaRefIdeal.Run
public import proofs.«01_k».proof.Proof.Gen.MlaRefIdeal.Read
public import proofs.«01_k».proof.Proof.Gen.FfnUp0
public import proofs.«01_k».proof.Proof.Gen.FfnUp0.Skeleton
public import proofs.«01_k».proof.Proof.Gen.FfnUp0.Launch
public import proofs.«01_k».proof.Proof.Gen.FfnUp0.Points
public import proofs.«01_k».proof.Proof.Gen.FfnUp0.Frame
public import proofs.«01_k».proof.Proof.Gen.FfnUp0Ideal
public import proofs.«01_k».proof.Proof.Gen.FfnUp0Ideal.Skeleton
public import proofs.«01_k».proof.Proof.Gen.FfnUp0Ideal.Launch
public import proofs.«01_k».proof.Proof.Gen.FfnUp0Ideal.Points
public import proofs.«01_k».proof.Proof.Gen.FfnUp0Ideal.Frame
public import proofs.«01_k».proof.Proof.Gen.FfnUp0Ideal.Value
public import proofs.«01_k».proof.Proof.Gen.FfnUp0RefIdeal
public import proofs.«01_k».proof.Proof.Gen.FfnUp0RefIdeal.Run
public import proofs.«01_k».proof.Proof.Gen.FfnUp0RefIdeal.Read
public import proofs.«01_k».proof.Proof.Gen.FfnUp1
public import proofs.«01_k».proof.Proof.Gen.FfnUp1.Skeleton
public import proofs.«01_k».proof.Proof.Gen.FfnUp1.Launch
public import proofs.«01_k».proof.Proof.Gen.FfnUp1.Points
public import proofs.«01_k».proof.Proof.Gen.FfnUp1.Frame
public import proofs.«01_k».proof.Proof.Gen.FfnUp1Ideal
public import proofs.«01_k».proof.Proof.Gen.FfnUp1Ideal.Skeleton
public import proofs.«01_k».proof.Proof.Gen.FfnUp1Ideal.Launch
public import proofs.«01_k».proof.Proof.Gen.FfnUp1Ideal.Points
public import proofs.«01_k».proof.Proof.Gen.FfnUp1Ideal.Frame
public import proofs.«01_k».proof.Proof.Gen.FfnUp1Ideal.Value
public import proofs.«01_k».proof.Proof.Gen.FfnUp1RefIdeal
public import proofs.«01_k».proof.Proof.Gen.FfnUp1RefIdeal.Run
public import proofs.«01_k».proof.Proof.Gen.FfnUp1RefIdeal.Read
public import proofs.«01_k».proof.Proof.Gen.RecIn
public import proofs.«01_k».proof.Proof.Gen.RecIn.Skeleton
public import proofs.«01_k».proof.Proof.Gen.RecIn.Launch
public import proofs.«01_k».proof.Proof.Gen.RecIn.Points
public import proofs.«01_k».proof.Proof.Gen.RecIn.Frame
public import proofs.«01_k».proof.Proof.Gen.RecInIdeal
public import proofs.«01_k».proof.Proof.Gen.RecInIdeal.Skeleton
public import proofs.«01_k».proof.Proof.Gen.RecInIdeal.Launch
public import proofs.«01_k».proof.Proof.Gen.RecInIdeal.Points
public import proofs.«01_k».proof.Proof.Gen.RecInIdeal.Frame
public import proofs.«01_k».proof.Proof.Gen.RecInIdeal.Value
public import proofs.«01_k».proof.Proof.Gen.RecInRefIdeal
public import proofs.«01_k».proof.Proof.Gen.RecInRefIdeal.Run
public import proofs.«01_k».proof.Proof.Gen.RecInRefIdeal.Read
public import proofs.«01_k».proof.Proof.Gen.MixOut0
public import proofs.«01_k».proof.Proof.Gen.MixOut0.Skeleton
public import proofs.«01_k».proof.Proof.Gen.MixOut0.Launch
public import proofs.«01_k».proof.Proof.Gen.MixOut0.Points
public import proofs.«01_k».proof.Proof.Gen.MixOut0.Frame
public import proofs.«01_k».proof.Proof.Gen.MixOut0Ideal
public import proofs.«01_k».proof.Proof.Gen.MixOut0Ideal.Skeleton
public import proofs.«01_k».proof.Proof.Gen.MixOut0Ideal.Launch
public import proofs.«01_k».proof.Proof.Gen.MixOut0Ideal.Points
public import proofs.«01_k».proof.Proof.Gen.MixOut0Ideal.Frame
public import proofs.«01_k».proof.Proof.Gen.MixOut0Ideal.Value
public import proofs.«01_k».proof.Proof.Gen.MixOut0RefIdeal
public import proofs.«01_k».proof.Proof.Gen.MixOut0RefIdeal.Run
public import proofs.«01_k».proof.Proof.Gen.MixOut0RefIdeal.Read
public import proofs.«01_k».proof.Proof.Gen.FfnDown0
public import proofs.«01_k».proof.Proof.Gen.FfnDown0.Skeleton
public import proofs.«01_k».proof.Proof.Gen.FfnDown0.Launch
public import proofs.«01_k».proof.Proof.Gen.FfnDown0.Points
public import proofs.«01_k».proof.Proof.Gen.FfnDown0.Frame
public import proofs.«01_k».proof.Proof.Gen.FfnDown0Ideal
public import proofs.«01_k».proof.Proof.Gen.FfnDown0Ideal.Skeleton
public import proofs.«01_k».proof.Proof.Gen.FfnDown0Ideal.Launch
public import proofs.«01_k».proof.Proof.Gen.FfnDown0Ideal.Points
public import proofs.«01_k».proof.Proof.Gen.FfnDown0Ideal.Frame
public import proofs.«01_k».proof.Proof.Gen.FfnDown0Ideal.Value
public import proofs.«01_k».proof.Proof.Gen.FfnDown0RefIdeal
public import proofs.«01_k».proof.Proof.Gen.FfnDown0RefIdeal.Run
public import proofs.«01_k».proof.Proof.Gen.FfnDown0RefIdeal.Read
public import proofs.«01_k».proof.Proof.Gen.MixOut1
public import proofs.«01_k».proof.Proof.Gen.MixOut1.Skeleton
public import proofs.«01_k».proof.Proof.Gen.MixOut1.Launch
public import proofs.«01_k».proof.Proof.Gen.MixOut1.Points
public import proofs.«01_k».proof.Proof.Gen.MixOut1.Frame
public import proofs.«01_k».proof.Proof.Gen.MixOut1Ideal
public import proofs.«01_k».proof.Proof.Gen.MixOut1Ideal.Skeleton
public import proofs.«01_k».proof.Proof.Gen.MixOut1Ideal.Launch
public import proofs.«01_k».proof.Proof.Gen.MixOut1Ideal.Points
public import proofs.«01_k».proof.Proof.Gen.MixOut1Ideal.Frame
public import proofs.«01_k».proof.Proof.Gen.MixOut1Ideal.Value
public import proofs.«01_k».proof.Proof.Gen.MixOut1RefIdeal
public import proofs.«01_k».proof.Proof.Gen.MixOut1RefIdeal.Run
public import proofs.«01_k».proof.Proof.Gen.MixOut1RefIdeal.Read
public import proofs.«01_k».proof.Proof.Gen.FfnDown1
public import proofs.«01_k».proof.Proof.Gen.FfnDown1.Skeleton
public import proofs.«01_k».proof.Proof.Gen.FfnDown1.Launch
public import proofs.«01_k».proof.Proof.Gen.FfnDown1.Points
public import proofs.«01_k».proof.Proof.Gen.FfnDown1.Frame
public import proofs.«01_k».proof.Proof.Gen.FfnDown1Ideal
public import proofs.«01_k».proof.Proof.Gen.FfnDown1Ideal.Skeleton
public import proofs.«01_k».proof.Proof.Gen.FfnDown1Ideal.Launch
public import proofs.«01_k».proof.Proof.Gen.FfnDown1Ideal.Points
public import proofs.«01_k».proof.Proof.Gen.FfnDown1Ideal.Frame
public import proofs.«01_k».proof.Proof.Gen.FfnDown1Ideal.Value
public import proofs.«01_k».proof.Proof.Gen.FfnDown1RefIdeal
public import proofs.«01_k».proof.Proof.Gen.FfnDown1RefIdeal.Run
public import proofs.«01_k».proof.Proof.Gen.FfnDown1RefIdeal.Read
public import proofs.«01_k».proof.Proof.Gen.Pre_finite_gqa
public import proofs.«01_k».proof.Proof.Gen.Pre_finite_mla
public import Idealize.ShloMosaic.Adequacy
public import Idealize.ShloMosaic.Init
public import proofs.«01_k».proof.Proof.Gqa
public import proofs.«01_k».proof.Proof.Mla
public import proofs.«01_k».proof.Proof.FfnUp0
public import proofs.«01_k».proof.Proof.FfnUp1
public import proofs.«01_k».proof.Proof.RecIn
public import proofs.«01_k».proof.Proof.MixOut0
public import proofs.«01_k».proof.Proof.FfnDown0
public import proofs.«01_k».proof.Proof.MixOut1
public import proofs.«01_k».proof.Proof.FfnDown1
public import Idealize.ShloMosaic.Lib.Quiescent

@[expose] public section

noncomputable section

namespace Cert.Proof

open Idealize.ShloMosaic Idealize.SL.Sem

/-- The reference of `Gqa` runs to its end and leaves no semaphore raised. -/
theorem referenceGqa [Cert.GqaRefIdeal.Facts] : Cert.quiescent_GqaRefIdeal := fun m ρ _ =>
  (θ_run Cert.GqaRefIdeal.defs _ _).mono
    (fun r h => ⟨fun c => (h c).2, Idealize.ShloMosaic.sem_eq_zero_of_no_sems (by decide) r.2⟩)
    (Cert.GqaRefIdeal.Value.run (F := Ideal) m ρ)

/-- The reference of `Mla` runs to its end and leaves no semaphore raised. -/
theorem referenceMla [Cert.MlaRefIdeal.Facts] : Cert.quiescent_MlaRefIdeal := fun m ρ _ =>
  (θ_run Cert.MlaRefIdeal.defs _ _).mono
    (fun r h => ⟨fun c => (h c).2, Idealize.ShloMosaic.sem_eq_zero_of_no_sems (by decide) r.2⟩)
    (Cert.MlaRefIdeal.Value.run (F := Ideal) m ρ)

/-- The reference of `FfnUp0` runs to its end and leaves no semaphore raised. -/
theorem referenceFfnUp0 [Cert.FfnUp0RefIdeal.Facts] : Cert.quiescent_FfnUp0RefIdeal := fun m ρ _ =>
  (θ_run Cert.FfnUp0RefIdeal.defs _ _).mono
    (fun r h => ⟨fun c => (h c).2, Idealize.ShloMosaic.sem_eq_zero_of_no_sems (by decide) r.2⟩)
    (Cert.FfnUp0RefIdeal.Value.run (F := Ideal) m ρ)

/-- The reference of `FfnUp1` runs to its end and leaves no semaphore raised. -/
theorem referenceFfnUp1 [Cert.FfnUp1RefIdeal.Facts] : Cert.quiescent_FfnUp1RefIdeal := fun m ρ _ =>
  (θ_run Cert.FfnUp1RefIdeal.defs _ _).mono
    (fun r h => ⟨fun c => (h c).2, Idealize.ShloMosaic.sem_eq_zero_of_no_sems (by decide) r.2⟩)
    (Cert.FfnUp1RefIdeal.Value.run (F := Ideal) m ρ)

/-- The reference of `RecIn` runs to its end and leaves no semaphore raised. -/
theorem referenceRecIn [Cert.RecInRefIdeal.Facts] : Cert.quiescent_RecInRefIdeal := fun m ρ _ =>
  (θ_run Cert.RecInRefIdeal.defs _ _).mono
    (fun r h => ⟨fun c => (h c).2, Idealize.ShloMosaic.sem_eq_zero_of_no_sems (by decide) r.2⟩)
    (Cert.RecInRefIdeal.Value.run (F := Ideal) m ρ)

/-- The reference of `MixOut0` runs to its end and leaves no semaphore raised. -/
theorem referenceMixOut0 [Cert.MixOut0RefIdeal.Facts] : Cert.quiescent_MixOut0RefIdeal := fun m ρ _ =>
  (θ_run Cert.MixOut0RefIdeal.defs _ _).mono
    (fun r h => ⟨fun c => (h c).2.2, Idealize.ShloMosaic.sem_eq_zero_of_no_sems (by decide) r.2⟩)
    (Cert.MixOut0RefIdeal.Value.run (F := Ideal) m ρ)

/-- The reference of `FfnDown0` runs to its end and leaves no semaphore raised. -/
theorem referenceFfnDown0 [Cert.FfnDown0RefIdeal.Facts] : Cert.quiescent_FfnDown0RefIdeal := fun m ρ _ =>
  (θ_run Cert.FfnDown0RefIdeal.defs _ _).mono
    (fun r h => ⟨fun c => (h c).2.2, Idealize.ShloMosaic.sem_eq_zero_of_no_sems (by decide) r.2⟩)
    (Cert.FfnDown0RefIdeal.Value.run (F := Ideal) m ρ)

/-- The reference of `MixOut1` runs to its end and leaves no semaphore raised. -/
theorem referenceMixOut1 [Cert.MixOut1RefIdeal.Facts] : Cert.quiescent_MixOut1RefIdeal := fun m ρ _ =>
  (θ_run Cert.MixOut1RefIdeal.defs _ _).mono
    (fun r h => ⟨fun c => (h c).2.2, Idealize.ShloMosaic.sem_eq_zero_of_no_sems (by decide) r.2⟩)
    (Cert.MixOut1RefIdeal.Value.run (F := Ideal) m ρ)

/-- The reference of `FfnDown1` runs to its end and leaves no semaphore raised. -/
theorem referenceFfnDown1 [Cert.FfnDown1RefIdeal.Facts] : Cert.quiescent_FfnDown1RefIdeal := fun m ρ _ =>
  (θ_run Cert.FfnDown1RefIdeal.defs _ _).mono
    (fun r h => ⟨fun c => (h c).2, Idealize.ShloMosaic.sem_eq_zero_of_no_sems (by decide) r.2⟩)
    (Cert.FfnDown1RefIdeal.Value.run (F := Ideal) m ρ)

/-- Every claim: the frames of the nine calls and of their references, and the nine values. -/
theorem claim : Cert.Claim := ⟨Cert.Gqa.Gen.facts,
  Cert.GqaIdeal.Gen.facts,
  Cert.GqaRefIdeal.Gen.facts,
  Cert.Mla.Gen.facts,
  Cert.MlaIdeal.Gen.facts,
  Cert.MlaRefIdeal.Gen.facts,
  Cert.FfnUp0.Gen.facts,
  Cert.FfnUp0Ideal.Gen.facts,
  Cert.FfnUp0RefIdeal.Gen.facts,
  Cert.FfnUp1.Gen.facts,
  Cert.FfnUp1Ideal.Gen.facts,
  Cert.FfnUp1RefIdeal.Gen.facts,
  Cert.RecIn.Gen.facts,
  Cert.RecInIdeal.Gen.facts,
  Cert.RecInRefIdeal.Gen.facts,
  Cert.MixOut0.Gen.facts,
  Cert.MixOut0Ideal.Gen.facts,
  Cert.MixOut0RefIdeal.Gen.facts,
  Cert.FfnDown0.Gen.facts,
  Cert.FfnDown0Ideal.Gen.facts,
  Cert.FfnDown0RefIdeal.Gen.facts,
  Cert.MixOut1.Gen.facts,
  Cert.MixOut1Ideal.Gen.facts,
  Cert.MixOut1RefIdeal.Gen.facts,
  Cert.FfnDown1.Gen.facts,
  Cert.FfnDown1Ideal.Gen.facts,
  Cert.FfnDown1RefIdeal.Gen.facts,
  Cert.Pre_finite_gqa.Gen.facts,
  Cert.Pre_finite_mla.Gen.facts,
  fun m ρ _ => Cert.Gqa.Gen.frame m ρ,
  fun m ρ _ => Cert.GqaIdeal.Gen.frame m ρ,
  fun m ρ _ => Cert.GqaIdeal.Gen.frame m ρ,
  referenceGqa,
  fun m ρ _ => referenceGqa m ρ trivial,
  fun m ρ _ => Cert.Mla.Gen.frame m ρ,
  fun m ρ _ => Cert.MlaIdeal.Gen.frame m ρ,
  fun m ρ _ => Cert.MlaIdeal.Gen.frame m ρ,
  referenceMla,
  fun m ρ _ => referenceMla m ρ trivial,
  fun m ρ _ => Cert.FfnUp0.Gen.frame m ρ,
  fun m ρ _ => Cert.FfnUp0Ideal.Gen.frame m ρ,
  referenceFfnUp0,
  fun m ρ _ => Cert.FfnUp1.Gen.frame m ρ,
  fun m ρ _ => Cert.FfnUp1Ideal.Gen.frame m ρ,
  referenceFfnUp1,
  fun m ρ _ => Cert.RecIn.Gen.frame m ρ,
  fun m ρ _ => Cert.RecInIdeal.Gen.frame m ρ,
  referenceRecIn,
  fun m ρ _ => Cert.MixOut0.Gen.frame m ρ,
  fun m ρ _ => Cert.MixOut0Ideal.Gen.frame m ρ,
  referenceMixOut0,
  fun m ρ _ => Cert.FfnDown0.Gen.frame m ρ,
  fun m ρ _ => Cert.FfnDown0Ideal.Gen.frame m ρ,
  referenceFfnDown0,
  fun m ρ _ => Cert.MixOut1.Gen.frame m ρ,
  fun m ρ _ => Cert.MixOut1Ideal.Gen.frame m ρ,
  referenceMixOut1,
  fun m ρ _ => Cert.FfnDown1.Gen.frame m ρ,
  fun m ρ _ => Cert.FfnDown1Ideal.Gen.frame m ρ,
  referenceFfnDown1,
  trivial,
  Cert.Gqa.Proof.algebraic,
  trivial,
  Cert.Mla.Proof.algebraic,
  trivial,
  Cert.FfnUp0.Proof.algebraic,
  trivial,
  Cert.FfnUp1.Proof.algebraic,
  trivial,
  Cert.RecIn.Proof.algebraic,
  trivial,
  Cert.MixOut0.Proof.algebraic,
  trivial,
  Cert.FfnDown0.Proof.algebraic,
  trivial,
  Cert.MixOut1.Proof.algebraic,
  trivial,
  Cert.FfnDown1.Proof.algebraic⟩

end Cert.Proof

end
